-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tables_in_range : Cert.Pre_tables_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_tables_in_range.lean ====
abbrev S160 : Shape := ⟨1, ![160]⟩
abbrev S1 : Shape := ⟨1, ![1]⟩
abbrev S81920x2048 : Shape := ⟨2, ![81920, 2048]⟩
abbrev S32x2048x256 : Shape := ⟨3, ![32, 2048, 256]⟩
abbrev S32x256x2048 : Shape := ⟨3, ![32, 256, 2048]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S160 32) (main_arg1 : IVec S1 32) (main_arg2 : FVec F S81920x2048 .f32) (main_arg3 : FVec F S32x2048x256 .f32) (main_arg4 : FVec F S32x2048x256 .f32) (main_arg5 : FVec F S32x256x2048 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 1 := constantI S_ 1 1#1
  let main_v2 : IVec S_ 1 := (fun x v => Host.reduce IntOp.andi x v reducesTo_S160_S_d0 h_S_) main_v1 main_c_0
  let main_c_1 : IVec S_ 32 := constantI S_ 32 32#32
  let main_v3 : IVec S160 32 := broadcastInDim S160 ![] bcast_S_S160 main_c_1
  let main_v4 : IVec S160 1 := cmpi .slt main_arg0 main_v3
  let main_c_2 : IVec S_ 1 := constantI S_ 1 1#1
  let main_v5 : IVec S_ 1 := (fun x v => Host.reduce IntOp.andi x v reducesTo_S160_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 160#32
  let main_v11 : IVec S1 32 := broadcastInDim S1 ![] bcast_S_S1 main_c_5
  let main_v12 : IVec S1 1 := cmpi .sle main_arg1 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Kernel.lean ====
abbrev S2x16384x5120 : Shape := ⟨3, ![2, 16384, 5120]⟩
abbrev S1x4x1024 : Shape := ⟨3, ![1, 4, 1024]⟩
abbrev S1x1024 : Shape := ⟨2, ![1, 1024]⟩
abbrev S1x8x128x128 : Shape := ⟨4, ![1, 8, 128, 128]⟩
abbrev S4x1024 : Shape := ⟨2, ![4, 1024]⟩
abbrev S1024 : Shape := ⟨1, ![1024]⟩
abbrev S8x128x128 : Shape := ⟨3, ![8, 128, 128]⟩
abbrev S2x16384x1024 : Shape := ⟨3, ![2, 16384, 1024]⟩
abbrev S2x256x1024 : Shape := ⟨3, ![2, 256, 1024]⟩
abbrev S2x264x1024 : Shape := ⟨3, ![2, 264, 1024]⟩
abbrev S2x1x1024 : Shape := ⟨3, ![2, 1, 1024]⟩
abbrev S2x8x1024 : Shape := ⟨3, ![2, 8, 1024]⟩
abbrev S1x256x1024 : Shape := ⟨3, ![1, 256, 1024]⟩
abbrev S256x1024 : Shape := ⟨2, ![256, 1024]⟩
abbrev S1x8x1024 : Shape := ⟨3, ![1, 8, 1024]⟩
abbrev S8x1024 : Shape := ⟨2, ![8, 1024]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩
abbrev S1x256x128 : Shape := ⟨3, ![1, 256, 128]⟩
abbrev S1x1x1024 : Shape := ⟨3, ![1, 1, 1024]⟩

abbrev nBuf : Space → Nat
  | .hbm => 22
  | .vmem => 17
  | .smem => 0
  | _ => 0

abbrev bufTy : (tb : Table) → Fin (tcTables nBuf tb) → BufTy
  | .hbm, ⟨0, _⟩ => ⟨S2x16384x5120, .bf16⟩
  | .hbm, ⟨1, _⟩ => ⟨S1x4x1024, .f32⟩
  | .hbm, ⟨2, _⟩ => ⟨S1x1024, .f32⟩
  | .hbm, ⟨3, _⟩ => ⟨S1x8x128x128, .f32⟩
  | .hbm, ⟨4, _⟩ => ⟨S1x1024, .f32⟩
  | .hbm, ⟨5, _⟩ => ⟨S1x8x128x128, .f32⟩
  | .hbm, ⟨6, _⟩ => ⟨S1x1024, .f32⟩
  | .hbm, ⟨7, _⟩ => ⟨S1x1024, .f32⟩
  | .hbm, ⟨8, _⟩ => ⟨S4x1024, .f32⟩
  | .hbm, ⟨9, _⟩ => ⟨S1024, .f32⟩
  | .hbm, ⟨10, _⟩ => ⟨S1x1024, .f32⟩
  | .hbm, ⟨11, _⟩ => ⟨S8x128x128, .f32⟩
  | .hbm, ⟨12, _⟩ => ⟨S8x128x128, .bf16⟩
  | .hbm, ⟨13, _⟩ => ⟨S1024, .f32⟩
  | .hbm, ⟨14, _⟩ => ⟨S1x1024, .f32⟩
  | .hbm, ⟨15, _⟩ => ⟨S8x128x128, .f32⟩
  | .hbm, ⟨16, _⟩ => ⟨S8x128x128, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S2x16384x1024, .bf16⟩
  | .local _ .vmem, ⟨0, _⟩ => ⟨S2x256x1024, .bf16⟩
  | .local _ .vmem, ⟨1, _⟩ => ⟨S2x256x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S4x1024, .f32⟩
  | .local _ .vmem, ⟨5, _⟩ => ⟨S1x1024, .f32⟩
  | .local _ .vmem, ⟨6, _⟩ => ⟨S8x128x128, .bf16⟩
  | .local _ .vmem, ⟨7, _⟩ => ⟨S1x1024, .f32⟩
  | .local _ .vmem, ⟨8, _⟩ => ⟨S8x128x128, .bf16⟩
  | .local _ .vmem, ⟨9, _⟩ => ⟨S1x1024, .f32⟩
  | .local _ .vmem, ⟨10, _⟩ => ⟨S1x1024, .f32⟩
  | .local _ .vmem, ⟨11, _⟩ => ⟨S2x256x1024, .bf16⟩
  | .local _ .vmem, ⟨12, _⟩ => ⟨S2x256x1024, .bf16⟩
  | .local _ .vmem, ⟨13, _⟩ => ⟨S2x264x1024, .f32⟩
  | .local _ .vmem, ⟨14, _⟩ => ⟨S2x256x1024, .f32⟩
  | .local _ .vmem, ⟨15, _⟩ => ⟨S2x256x1024, .f32⟩
  | .local _ .vmem, ⟨16, _⟩ => ⟨S2x1x1024, .f32⟩
  | _, _ => ⟨S2x16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_368 : BitVec 32 := 0#32
  let c256_i32 : BitVec 32 := 256#32
  let v673 : BitVec 32 := Scalar.addi c0_i32_368 c256_i32
  let c1_i32 : BitVec 32 := 1#32
  ⟨c0_i32_368, v673, c1_i32⟩
def k0_off1 (k0_t1 : Fin k0_t1_loop.trips) : Fin 3 → Nat :=
  let c0_402 : Index := 0#32
  let c0_i32_368 : BitVec 32 := 0#32
  let c1_i32 : BitVec 32 := 1#32
  let arg15 : BitVec 32 := Scf.iv c0_i32_368 c1_i32 k0_t1
  let v727 : Index := Scalar.indexCast arg15
  let c0_403 : Index := 0#32
  ![0, v727.toNat, 0]
def k0_off2 (k0_t1 : Fin k0_t1_loop.trips) : Fin 3 → Nat :=
  let c1_408 : Index := 1#32
  let c0_i32_368 : BitVec 32 := 0#32
  let c1_i32 : BitVec 32 := 1#32
  let arg15 : BitVec 32 := Scf.iv c0_i32_368 c1_i32 k0_t1
  let v739 : Index := Scalar.indexCast arg15
  let c0_409 : Index := 0#32
  ![1, v739.toNat, 0]
def cc0_transform_0 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![c0_i32.toNat, arg0.toNat, c3_i32.toNat]

def cc0_transform_1 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![c0_i32.toNat, arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x16384x5120 : Shape := ⟨3, ![2, 16384, 5120]⟩
abbrev S1x4x1024 : Shape := ⟨3, ![1, 4, 1024]⟩
abbrev S1x1024 : Shape := ⟨2, ![1, 1024]⟩
abbrev S1x8x128x128 : Shape := ⟨4, ![1, 8, 128, 128]⟩
abbrev S2x16384x1024 : Shape := ⟨3, ![2, 16384, 1024]⟩
abbrev S4x1024 : Shape := ⟨2, ![4, 1024]⟩
abbrev S1024 : Shape := ⟨1, ![1024]⟩
abbrev S_ : Shape := ⟨0, ![]⟩
abbrev S2x16387x1024 : Shape := ⟨3, ![2, 16387, 1024]⟩
abbrev S1x1x1024 : Shape := ⟨3, ![1, 1, 1024]⟩
abbrev S8x128x128 : Shape := ⟨3, ![8, 128, 128]⟩
abbrev S2x16384x8x128 : Shape := ⟨4, ![2, 16384, 8, 128]⟩
abbrev S8x128x2x16384 : Shape := ⟨4, ![8, 128, 2, 16384]⟩
abbrev S2x1024 : Shape := ⟨2, ![2, 1024]⟩
abbrev S16384x2x1024 : Shape := ⟨3, ![16384, 2, 1024]⟩
abbrev S1x2x1024 : Shape := ⟨3, ![1, 2, 1024]⟩

abbrev nBuf : Space → Nat
  | .hbm => 163
  | .vmem => 0
  | .smem => 0
  | _ => 0

abbrev hbmTy0_0 (i : Nat) : BufTy := match i % 128 with
  | 0 => ⟨S2x16384x5120, .bf16⟩
  | 1 => ⟨S1x4x1024, .f32⟩
  | 2 => ⟨S1x1024, .f32⟩
  | 3 => ⟨S1x8x128x128, .f32⟩
  | 4 => ⟨S1x1024, .f32⟩
  | 5 => ⟨S1x8x128x128, .f32⟩
  | 6 => ⟨S1x1024, .f32⟩
  | 7 => ⟨S1x1024, .f32⟩
  | 8 => ⟨S2x16384x5120, .f32⟩
  | 9 => ⟨S2x16384x1024, .f32⟩
  | 10 => ⟨S4x1024, .f32⟩
  | 11 => ⟨S1024, .f32⟩
  | 12 => ⟨S_, .i32⟩
  | 13 => ⟨S_, .f32⟩
  | 14 => ⟨S2x16387x1024, .f32⟩
  | 15 => ⟨S1x1024, .f32⟩
  | 16 => ⟨S1024, .f32⟩
  | 17 => ⟨S2x16384x1024, .f32⟩
  | 18 => ⟨S1x1x1024, .f32⟩
  | 19 => ⟨S2x16384x1024, .f32⟩
  | 20 => ⟨S2x16384x1024, .f32⟩
  | 21 => ⟨S_, .f32⟩
  | 22 => ⟨S2x16384x1024, .f32⟩
  | 23 => ⟨S2x16384x1024, .f32⟩
  | 24 => ⟨S1x1024, .f32⟩
  | 25 => ⟨S1024, .f32⟩
  | 26 => ⟨S2x16384x1024, .f32⟩
  | 27 => ⟨S1x1x1024, .f32⟩
  | 28 => ⟨S2x16384x1024, .f32⟩
  | 29 => ⟨S2x16384x1024, .f32⟩
  | 30 => ⟨S2x16384x1024, .f32⟩
  | 31 => ⟨S1x1024, .f32⟩
  | 32 => ⟨S1024, .f32⟩
  | 33 => ⟨S2x16384x1024, .f32⟩
  | 34 => ⟨S1x1x1024, .f32⟩
  | 35 => ⟨S2x16384x1024, .f32⟩
  | 36 => ⟨S2x16384x1024, .f32⟩
  | 37 => ⟨S2x16384x1024, .f32⟩
  | 38 => ⟨S1x1024, .f32⟩
  | 39 => ⟨S1024, .f32⟩
  | 40 => ⟨S2x16384x1024, .f32⟩
  | 41 => ⟨S1x1x1024, .f32⟩
  | 42 => ⟨S2x16384x1024, .f32⟩
  | 43 => ⟨S2x16384x1024, .f32⟩
  | 44 => ⟨S2x16384x1024, .f32⟩
  | 45 => ⟨S1x1x1024, .f32⟩
  | 46 => ⟨S2x16384x1024, .f32⟩
  | 47 => ⟨S2x16384x1024, .f32⟩
  | 48 => ⟨S8x128x128, .f32⟩
  | 49 => ⟨S1024, .f32⟩
  | 50 => ⟨S8x128x128, .f32⟩
  | 51 => ⟨S1024, .f32⟩
  | 52 => ⟨S1024, .f32⟩
  | 53 => ⟨S2x16384x8x128, .f32⟩
  | 54 => ⟨S8x128x2x16384, .f32⟩
  | 55 => ⟨S2x16384x8x128, .f32⟩
  | 56 => ⟨S2x16384x1024, .f32⟩
  | 57 => ⟨S1x1x1024, .f32⟩
  | 58 => ⟨S2x16384x1024, .f32⟩
  | 59 => ⟨S2x16384x1024, .f32⟩
  | 60 => ⟨S2x16384x1024, .f32⟩
  | 61 => ⟨S2x16384x1024, .f32⟩
  | 62 => ⟨S_, .f32⟩
  | 63 => ⟨S2x16384x1024, .f32⟩
  | 64 => ⟨S2x16384x1024, .f32⟩
  | 65 => ⟨S_, .f32⟩
  | 66 => ⟨S2x16384x1024, .f32⟩
  | 67 => ⟨S2x16384x1024, .f32⟩
  | 68 => ⟨S8x128x2x16384, .f32⟩
  | 69 => ⟨S2x16384x8x128, .f32⟩
  | 70 => ⟨S2x16384x1024, .f32⟩
  | 71 => ⟨S1x1x1024, .f32⟩
  | 72 => ⟨S2x16384x1024, .f32⟩
  | 73 => ⟨S2x16384x1024, .f32⟩
  | 74 => ⟨S2x16384x1024, .f32⟩
  | 75 => ⟨S2x16384x1024, .f32⟩
  | 76 => ⟨S_, .f32⟩
  | 77 => ⟨S2x16384x1024, .f32⟩
  | 78 => ⟨S2x16384x1024, .f32⟩
  | 79 => ⟨S_, .f32⟩
  | 80 => ⟨S2x16384x1024, .f32⟩
  | 81 => ⟨S2x16384x1024, .f32⟩
  | 82 => ⟨S_, .f32⟩
  | 83 => ⟨S2x16384x1024, .f32⟩
  | 84 => ⟨S2x16384x1024, .f32⟩
  | 85 => ⟨S1024, .f32⟩
  | 86 => ⟨S_, .f32⟩
  | 87 => ⟨S1024, .f32⟩
  | 88 => ⟨S1024, .f32⟩
  | 89 => ⟨S1024, .f32⟩
  | 90 => ⟨S1024, .f32⟩
  | 91 => ⟨S1024, .i1⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1x1x1024, .f32⟩
  | 101 => ⟨S2x16384x1024, .f32⟩
  | 102 => ⟨S2x16384x1024, .f32⟩
  | 103 => ⟨S2x16384x1024, .f32⟩
  | 104 => ⟨S_, .f32⟩
  | 105 => ⟨S2x16384x1024, .f32⟩
  | 106 => ⟨S2x16384x1024, .f32⟩
  | 107 => ⟨S2x16384x1024, .f32⟩
  | 108 => ⟨S2x16384x1024, .f32⟩
  | 109 => ⟨S2x16384x1024, .f32⟩
  | 110 => ⟨S2x16384x1024, .f32⟩
  | 111 => ⟨S2x16384x1024, .f32⟩
  | 112 => ⟨S_, .f32⟩
  | 113 => ⟨S2x1024, .f32⟩
  | 114 => ⟨S16384x2x1024, .f32⟩
  | 115 => ⟨S16384x2x1024, .f32⟩
  | 116 => ⟨S_, .f32⟩
  | 117 => ⟨S16384x2x1024, .f32⟩
  | 118 => ⟨S_, .i32⟩
  | 119 => ⟨S16384x2x1024, .f32⟩
  | 120 => ⟨S16384x2x1024, .f32⟩
  | 121 => ⟨S_, .i32⟩
  | 122 => ⟨S2x1024, .f32⟩
  | 123 => ⟨S16384x2x1024, .f32⟩
  | 124 => ⟨S_, .i32⟩
  | 125 => ⟨S_, .i1⟩
  | 126 => ⟨S_, .i32⟩
  | 127 => ⟨S_, .i32⟩
  | _ => ⟨S2x16384x5120, .bf16⟩

abbrev hbmTy0_1 (i : Nat) : BufTy := match i % 128 with
  | 0 => ⟨S1x2x1024, .f32⟩
  | 1 => ⟨S2x1024, .f32⟩
  | 2 => ⟨S_, .i32⟩
  | 3 => ⟨S_, .i32⟩
  | 4 => ⟨S1x2x1024, .f32⟩
  | 5 => ⟨S2x1024, .f32⟩
  | 6 => ⟨S2x1024, .f32⟩
  | 7 => ⟨S2x1024, .f32⟩
  | 8 => ⟨S1x2x1024, .f32⟩
  | 9 => ⟨S_, .i32⟩
  | 10 => ⟨S_, .i32⟩
  | 11 => ⟨S16384x2x1024, .f32⟩
  | 12 => ⟨S_, .i32⟩
  | 13 => ⟨S_, .i32⟩
  | 14 => ⟨S2x16384x1024, .f32⟩
  | 15 => ⟨S2x16384x1024, .f32⟩
  | 16 => ⟨S2x16384x1024, .f32⟩
  | 17 => ⟨S2x16384x1024, .f32⟩
  | 18 => ⟨S_, .f32⟩
  | 19 => ⟨S2x16384x1024, .f32⟩
  | 20 => ⟨S2x16384x1024, .f32⟩
  | 21 => ⟨S2x16384x1024, .f32⟩
  | 22 => ⟨S_, .f32⟩
  | 23 => ⟨S2x16384x1024, .f32⟩
  | 24 => ⟨S2x16384x1024, .f32⟩
  | 25 => ⟨S2x16384x1024, .f32⟩
  | 26 => ⟨S_, .f32⟩
  | 27 => ⟨S2x16384x1024, .f32⟩
  | 28 => ⟨S2x16384x1024, .f32⟩
  | 29 => ⟨S_, .f32⟩
  | 30 => ⟨S2x16384x1024, .f32⟩
  | 31 => ⟨S2x16384x1024, .f32⟩
  | 32 => ⟨S2x16384x1024, .f32⟩
  | 33 => ⟨S2x16384x1024, .f32⟩
  | 34 => ⟨S2x16384x1024, .bf16⟩
  | _ => ⟨S2x16384x5120, .bf16⟩

abbrev hbmTy (i : Nat) : BufTy := match i / 128 with
  | 0 => hbmTy0_0 i
  | 1 => hbmTy0_1 i
  | _ => ⟨S2x16384x5120, .bf16⟩

abbrev bufTy : (tb : Table) → Fin (tcTables nBuf tb) → BufTy
  | .hbm, ⟨i, _⟩ => hbmTy i
  | _, _ => ⟨S2x16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_0 : Ref sig .tc := ⟨.hbm, 62, rfl⟩
abbrev main_v51 : Ref sig .tc := ⟨.hbm, 63, rfl⟩
abbrev main_v52 : Ref sig .tc := ⟨.hbm, 64, rfl⟩
abbrev main_cst_1 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_2 : Ref sig .tc := ⟨.hbm, 76, rfl⟩
abbrev main_v63 : Ref sig .tc := ⟨.hbm, 77, rfl⟩
abbrev main_v64 : Ref sig .tc := ⟨.hbm, 78, rfl⟩
abbrev main_cst_3 : Ref sig .tc := ⟨.hbm, 79, rfl⟩
abbrev main_v65 : Ref sig .tc := ⟨.hbm, 80, rfl⟩
abbrev main_v66 : Ref sig .tc := ⟨.hbm, 81, rfl⟩
abbrev main_cst_4 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_5 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_6 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_7 : Ref sig .tc := ⟨.hbm, 116, rfl⟩
abbrev main_v85 : Ref sig .tc := ⟨.hbm, 117, rfl⟩
abbrev main_c_8 : Ref sig .tc := ⟨.hbm, 118, rfl⟩
abbrev main_v86_0 : Ref sig .tc := ⟨.hbm, 119, rfl⟩
abbrev main_v86_1 : Ref sig .tc := ⟨.hbm, 120, rfl⟩
abbrev main_v86_2 : Ref sig .tc := ⟨.hbm, 121, rfl⟩
abbrev main_v86_3 : Ref sig .tc := ⟨.hbm, 122, rfl⟩
abbrev main_v86_4 : Ref sig .tc := ⟨.hbm, 123, rfl⟩
abbrev main_while0c_c_17 : Ref sig .tc := ⟨.hbm, 124, rfl⟩
abbrev main_while0c_v104 : Ref sig .tc := ⟨.hbm, 125, rfl⟩
abbrev main_while0b_call2_c : Ref sig .tc := ⟨.hbm, 126, rfl⟩
abbrev main_while0b_call2_c_0 : Ref sig .tc := ⟨.hbm, 127, rfl⟩
abbrev main_while0b_call2_v0 : Ref sig .tc := ⟨.hbm, 128, rfl⟩
abbrev main_while0b_v104 : Ref sig .tc := ⟨.hbm, 129, rfl⟩
abbrev main_while0b_call3_c : Ref sig .tc := ⟨.hbm, 130, rfl⟩
abbrev main_while0b_call3_c_0 : Ref sig .tc := ⟨.hbm, 131, rfl⟩
abbrev main_while0b_call3_v0 : Ref sig .tc := ⟨.hbm, 132, rfl⟩
abbrev main_while0b_v105 : Ref sig .tc := ⟨.hbm, 133, rfl⟩
abbrev main_while0b_v106 : Ref sig .tc := ⟨.hbm, 134, rfl⟩
abbrev main_while0b_v107 : Ref sig .tc := ⟨.hbm, 135, rfl⟩
abbrev main_while0b_call4_v0 : Ref sig .tc := ⟨.hbm, 136, rfl⟩
abbrev main_while0b_call4_c : Ref sig .tc := ⟨.hbm, 137, rfl⟩
abbrev main_while0b_call4_c_0 : Ref sig .tc := ⟨.hbm, 138, rfl⟩
abbrev main_while0b_v108 : Ref sig .tc := ⟨.hbm, 139, rfl⟩
abbrev main_while0b_c_17 : Ref sig .tc := ⟨.hbm, 140, rfl⟩
abbrev main_while0b_v109 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_9 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_10 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_cst_11 : Ref sig .tc := ⟨.hbm, 154, rfl⟩
abbrev main_v97 : Ref sig .tc := ⟨.hbm, 155, rfl⟩
abbrev main_v98 : Ref sig .tc := ⟨.hbm, 156, rfl⟩
abbrev main_cst_12 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩

abbrev nD : Nat := 1
abbrev τ : Topo := Topo.v7x

variable {F : FTy → Type} [FloatOps F]

abbrev main_while0_count : Scf.Loop 32 := ⟨0#32, 16384#32, 1#32⟩
-- ==== Kernel2.lean ====
abbrev S160 : Shape := ⟨1, ![160]⟩
abbrev S1 : Shape := ⟨1, ![1]⟩
abbrev S81920x2048 : Shape := ⟨2, ![81920, 2048]⟩
abbrev S32x2048x256 : Shape := ⟨3, ![32, 2048, 256]⟩
abbrev S32x256x2048 : Shape := ⟨3, ![32, 256, 2048]⟩
abbrev S512x2048 : Shape := ⟨2, ![512, 2048]⟩
abbrev S1x2048x256 : Shape := ⟨3, ![1, 2048, 256]⟩
abbrev S1x256x2048 : Shape := ⟨3, ![1, 256, 2048]⟩
abbrev S2048x512 : Shape := ⟨2, ![2048, 512]⟩
abbrev S256x2048 : Shape := ⟨2, ![256, 2048]⟩
abbrev S2048x256 : Shape := ⟨2, ![2048, 256]⟩
abbrev S512x512 : Shape := ⟨2, ![512, 512]⟩
abbrev S512x256 : Shape := ⟨2, ![512, 256]⟩

abbrev nBuf : Space → Nat
  | .hbm => 5
  | .vmem => 12
  | .smem => 2
  | _ => 0

abbrev bufTy : (tb : Table) → Fin (tcTables nBuf tb) → BufTy
  | .hbm, ⟨0, _⟩ => ⟨S81920x2048, .f32⟩
  | .hbm, ⟨1, _⟩ => ⟨S32x2048x256, .f32⟩
  | .hbm, ⟨2, _⟩ => ⟨S32x2048x256, .f32⟩
  | .hbm, ⟨3, _⟩ => ⟨S32x256x2048, .f32⟩
  | .hbm, ⟨4, _⟩ => ⟨S81920x2048, .f32⟩
  | .local _ .vmem, ⟨0, _⟩ => ⟨S512x2048, .f32⟩
  | .local _ .vmem, ⟨1, _⟩ => ⟨S512x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S512x2048, .f32⟩
  | .local _ .vmem, ⟨9, _⟩ => ⟨S512x2048, .f32⟩
  | .local _ .vmem, ⟨10, _⟩ => ⟨S2048x512, .bf16⟩
  | .local _ .vmem, ⟨11, _⟩ => ⟨S256x2048, .bf16⟩
  | .local _ .smem, ⟨0, _⟩ => ⟨S160, .i32⟩
  | .local _ .smem, ⟨1, _⟩ => ⟨S1, .i32⟩
  | _, _ => ⟨S81920x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S160 : Shape := ⟨1, ![160]⟩
abbrev S1 : Shape := ⟨1, ![1]⟩
abbrev S81920x2048 : Shape := ⟨2, ![81920, 2048]⟩
abbrev S32x2048x256 : Shape := ⟨3, ![32, 2048, 256]⟩
abbrev S32x256x2048 : Shape := ⟨3, ![32, 256, 2048]⟩
abbrev S160x512 : Shape := ⟨2, ![160, 512]⟩
abbrev S81920 : Shape := ⟨1, ![81920]⟩
abbrev S_ : Shape := ⟨0, ![]⟩
abbrev S81920x1 : Shape := ⟨2, ![81920, 1]⟩
abbrev S1x32 : Shape := ⟨2, ![1, 32]⟩
abbrev S81920x32 : Shape := ⟨2, ![81920, 32]⟩
abbrev S81920x32x256 : Shape := ⟨3, ![81920, 32, 256]⟩
abbrev S32x2048x81920 : Shape := ⟨3, ![32, 2048, 81920]⟩
abbrev S81920x32x2048 : Shape := ⟨3, ![81920, 32, 2048]⟩
abbrev S81920x32x1 : Shape := ⟨3, ![81920, 32, 1]⟩

abbrev nBuf : Space → Nat
  | .hbm => 43
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x2048, .f32⟩
  | .hbm, ⟨3, _⟩ => ⟨S32x2048x256, .f32⟩
  | .hbm, ⟨4, _⟩ => ⟨S32x2048x256, .f32⟩
  | .hbm, ⟨5, _⟩ => ⟨S32x256x2048, .f32⟩
  | .hbm, ⟨6, _⟩ => ⟨S160x512, .i32⟩
  | .hbm, ⟨7, _⟩ => ⟨S81920, .i32⟩
  | .hbm, ⟨8, _⟩ => ⟨S81920, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S81920, .i32⟩
  | .hbm, ⟨13, _⟩ => ⟨S81920, .i1⟩
  | .hbm, ⟨14, _⟩ => ⟨S81920x1, .i32⟩
  | .hbm, ⟨15, _⟩ => ⟨S1x32, .i32⟩
  | .hbm, ⟨16, _⟩ => ⟨S81920x32, .i32⟩
  | .hbm, ⟨17, _⟩ => ⟨S81920x32, .i32⟩
  | .hbm, ⟨18, _⟩ => ⟨S81920x32, .i1⟩
  | .hbm, ⟨19, _⟩ => ⟨S81920x32, .f32⟩
  | .hbm, ⟨20, _⟩ => ⟨S81920x1, .i1⟩
  | .hbm, ⟨21, _⟩ => ⟨S81920x1, .f32⟩
  | .hbm, ⟨22, _⟩ => ⟨S81920x32, .f32⟩
  | .hbm, ⟨23, _⟩ => ⟨S81920x32, .f32⟩
  | .hbm, ⟨24, _⟩ => ⟨S81920x32x256, .f32⟩
  | .hbm, ⟨25, _⟩ => ⟨S81920x32x256, .f32⟩
  | .hbm, ⟨26, _⟩ => ⟨S81920x32x256, .f32⟩
  | .hbm, ⟨27, _⟩ => ⟨S_, .f32⟩
  | .hbm, ⟨28, _⟩ => ⟨S81920x32x256, .f32⟩
  | .hbm, ⟨29, _⟩ => ⟨S81920x32x256, .f32⟩
  | .hbm, ⟨30, _⟩ => ⟨S_, .f32⟩
  | .hbm, ⟨31, _⟩ => ⟨S81920x32x256, .f32⟩
  | .hbm, ⟨32, _⟩ => ⟨S81920x32x256, .f32⟩
  | .hbm, ⟨33, _⟩ => ⟨S81920x32x256, .f32⟩
  | .hbm, ⟨34, _⟩ => ⟨S81920x32x256, .f32⟩
  | .hbm, ⟨35, _⟩ => ⟨S81920x32x256, .f32⟩
  | .hbm, ⟨36, _⟩ => ⟨S32x2048x81920, .f32⟩
  | .hbm, ⟨37, _⟩ => ⟨S81920x32x2048, .f32⟩
  | .hbm, ⟨38, _⟩ => ⟨S81920x32x1, .f32⟩
  | .hbm, ⟨39, _⟩ => ⟨S81920x32x2048, .f32⟩
  | .hbm, ⟨40, _⟩ => ⟨S81920x32x2048, .f32⟩
  | .hbm, ⟨41, _⟩ => ⟨S_, .f32⟩
  | .hbm, ⟨42, _⟩ => ⟨S81920x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩

abbrev nD : Nat := 1
abbrev τ : Topo := Topo.v7x

variable {F : FTy → Type} [FloatOps F]
-- ==== Kernel3.lean ====
abbrev S2x16384x2048 : Shape := ⟨3, ![2, 16384, 2048]⟩
abbrev S1x2048 : Shape := ⟨2, ![1, 2048]⟩
abbrev S1x2048x5128 : Shape := ⟨3, ![1, 2048, 5128]⟩
abbrev S1x128 : Shape := ⟨2, ![1, 128]⟩
abbrev S32768x2048 : Shape := ⟨2, ![32768, 2048]⟩
abbrev S2048x5128 : Shape := ⟨2, ![2048, 5128]⟩
abbrev S2048x3072 : Shape := ⟨2, ![2048, 3072]⟩
abbrev S2048x2048 : Shape := ⟨2, ![2048, 2048]⟩
abbrev S2048x5120 : Shape := ⟨2, ![2048, 5120]⟩
abbrev S2048x8 : Shape := ⟨2, ![2048, 8]⟩
abbrev S_ : Shape := ⟨0, ![]⟩
abbrev S2048x128 : Shape := ⟨2, ![2048, 128]⟩
abbrev S128 : Shape := ⟨1, ![128]⟩
abbrev S2048 : Shape := ⟨1, ![2048]⟩
abbrev S32768x5120 : Shape := ⟨2, ![32768, 5120]⟩
abbrev S32768x128 : Shape := ⟨2, ![32768, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 27
  | .vmem => 13
  | .smem => 0
  | _ => 0

abbrev bufTy : (tb : Table) → Fin (tcTables nBuf tb) → BufTy
  | .hbm, ⟨0, _⟩ => ⟨S2x16384x2048, .f32⟩
  | .hbm, ⟨1, _⟩ => ⟨S1x2048, .f32⟩
  | .hbm, ⟨2, _⟩ => ⟨S1x2048x5128, .f32⟩
  | .hbm, ⟨3, _⟩ => ⟨S1x128, .f32⟩
  | .hbm, ⟨4, _⟩ => ⟨S1x128, .f32⟩
  | .hbm, ⟨5, _⟩ => ⟨S32768x2048, .f32⟩
  | .hbm, ⟨6, _⟩ => ⟨S2048x5128, .f32⟩
  | .hbm, ⟨7, _⟩ => ⟨S2048x3072, .f32⟩
  | .hbm, ⟨8, _⟩ => ⟨S2048x2048, .f32⟩
  | .hbm, ⟨9, _⟩ => ⟨S2048x5120, .f32⟩
  | .hbm, ⟨10, _⟩ => ⟨S2048x5120, .bf16⟩
  | .hbm, ⟨11, _⟩ => ⟨S2048x8, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x128, .bf16⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S128, .f32⟩
  | .hbm, ⟨22, _⟩ => ⟨S1x128, .f32⟩
  | .hbm, ⟨23, _⟩ => ⟨S2048, .f32⟩
  | .hbm, ⟨24, _⟩ => ⟨S1x2048, .f32⟩
  | .hbm, ⟨25, _⟩ => ⟨S32768x5120, .bf16⟩
  | .hbm, ⟨26, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1x128, .f32⟩
  | .local _ .vmem, ⟨7, _⟩ => ⟨S1x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 5], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .sge arg1 c2_i32
  let v14 : BitVec 32 := Scalar.extui v13
  let c0_i32_7 : BitVec 32 := 0#32
  let v15 : BitVec 1 := Scalar.cmpi .ne v14 c0_i32_7
  v15

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S2x16384x2048 : Shape := ⟨3, ![2, 16384, 2048]⟩
abbrev S1x2048 : Shape := ⟨2, ![1, 2048]⟩
abbrev S1x2048x5128 : Shape := ⟨3, ![1, 2048, 5128]⟩
abbrev S1x128 : Shape := ⟨2, ![1, 128]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2048x5128 : Shape := ⟨2, ![2048, 5128]⟩
abbrev S2x16384x5128 : Shape := ⟨3, ![2, 16384, 5128]⟩
abbrev S32768x5128 : Shape := ⟨2, ![32768, 5128]⟩
abbrev S32768x1024 : Shape := ⟨2, ![32768, 1024]⟩
abbrev S32768x8x128 : Shape := ⟨3, ![32768, 8, 128]⟩
abbrev S128 : Shape := ⟨1, ![128]⟩
abbrev S32768x8 : Shape := ⟨2, ![32768, 8]⟩
abbrev S32768x8x1 : Shape := ⟨3, ![32768, 8, 1]⟩
abbrev S1x1x128 : Shape := ⟨3, ![1, 1, 128]⟩
abbrev S32768x2048 : Shape := ⟨2, ![32768, 2048]⟩
abbrev S32768x5120 : Shape := ⟨2, ![32768, 5120]⟩
abbrev S32768x128 : Shape := ⟨2, ![32768, 128]⟩

abbrev nBuf : Space → Nat
  | .hbm => 76
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S1x2048, .f32⟩
  | .hbm, ⟨2, _⟩ => ⟨S1x2048x5128, .f32⟩
  | .hbm, ⟨3, _⟩ => ⟨S1x128, .f32⟩
  | .hbm, ⟨4, _⟩ => ⟨S1x128, .f32⟩
  | .hbm, ⟨5, _⟩ => ⟨S2048, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S2048x5128, .f32⟩
  | .hbm, ⟨23, _⟩ => ⟨S2x16384x5128, .f32⟩
  | .hbm, ⟨24, _⟩ => ⟨S32768x5128, .f32⟩
  | .hbm, ⟨25, _⟩ => ⟨S32768x1024, .f32⟩
  | .hbm, ⟨26, _⟩ => ⟨S32768x8x128, .f32⟩
  | .hbm, ⟨27, _⟩ => ⟨S128, .f32⟩
  | .hbm, ⟨28, _⟩ => ⟨S32768x8x128, .f32⟩
  | .hbm, ⟨29, _⟩ => ⟨S_, .f32⟩
  | .hbm, ⟨30, _⟩ => ⟨S32768x8, .f32⟩
  | .hbm, ⟨31, _⟩ => ⟨S32768x8x1, .f32⟩
  | .hbm, ⟨32, _⟩ => ⟨S_, .f32⟩
  | .hbm, ⟨33, _⟩ => ⟨S32768x8x1, .f32⟩
  | .hbm, ⟨34, _⟩ => ⟨S32768x8x1, .f32⟩
  | .hbm, ⟨35, _⟩ => ⟨S_, .f32⟩
  | .hbm, ⟨36, _⟩ => ⟨S32768x8x1, .f32⟩
  | .hbm, ⟨37, _⟩ => ⟨S32768x8x1, .f32⟩
  | .hbm, ⟨38, _⟩ => ⟨S32768x8x1, .f32⟩
  | .hbm, ⟨39, _⟩ => ⟨S32768x8x128, .f32⟩
  | .hbm, ⟨40, _⟩ => ⟨S32768x8x128, .f32⟩
  | .hbm, ⟨41, _⟩ => ⟨S1x1x128, .f32⟩
  | .hbm, ⟨42, _⟩ => ⟨S32768x8x128, .f32⟩
  | .hbm, ⟨43, _⟩ => ⟨S32768x8x128, .f32⟩
  | .hbm, ⟨44, _⟩ => ⟨S_, .f32⟩
  | .hbm, ⟨45, _⟩ => ⟨S32768x8x128, .f32⟩
  | .hbm, ⟨46, _⟩ => ⟨S32768x8x128, .f32⟩
  | .hbm, ⟨47, _⟩ => ⟨S32768x1024, .f32⟩
  | .hbm, ⟨48, _⟩ => ⟨S32768x8x128, .f32⟩
  | .hbm, ⟨49, _⟩ => ⟨S128, .f32⟩
  | .hbm, ⟨50, _⟩ => ⟨S32768x8x128, .f32⟩
  | .hbm, ⟨51, _⟩ => ⟨S_, .f32⟩
  | .hbm, ⟨52, _⟩ => ⟨S32768x8, .f32⟩
  | .hbm, ⟨53, _⟩ => ⟨S32768x8x1, .f32⟩
  | .hbm, ⟨54, _⟩ => ⟨S_, .f32⟩
  | .hbm, ⟨55, _⟩ => ⟨S32768x8x1, .f32⟩
  | .hbm, ⟨56, _⟩ => ⟨S32768x8x1, .f32⟩
  | .hbm, ⟨57, _⟩ => ⟨S_, .f32⟩
  | .hbm, ⟨58, _⟩ => ⟨S32768x8x1, .f32⟩
  | .hbm, ⟨59, _⟩ => ⟨S32768x8x1, .f32⟩
  | .hbm, ⟨60, _⟩ => ⟨S32768x8x1, .f32⟩
  | .hbm, ⟨61, _⟩ => ⟨S32768x8x128, .f32⟩
  | .hbm, ⟨62, _⟩ => ⟨S32768x8x128, .f32⟩
  | .hbm, ⟨63, _⟩ => ⟨S1x1x128, .f32⟩
  | .hbm, ⟨64, _⟩ => ⟨S32768x8x128, .f32⟩
  | .hbm, ⟨65, _⟩ => ⟨S32768x8x128, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S32768x2048, .f32⟩
  | .hbm, ⟨70, _⟩ => ⟨S32768x5120, .f32⟩
  | .hbm, ⟨71, _⟩ => ⟨S32768x5120, .bf16⟩
  | .hbm, ⟨72, _⟩ => ⟨S32768x8, .f32⟩
  | .hbm, ⟨73, _⟩ => ⟨S_, .i32⟩
  | .hbm, ⟨74, _⟩ => ⟨S_, .f32⟩
  | .hbm, ⟨75, _⟩ => ⟨S32768x128, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c : Ref sig .tc := ⟨.hbm, 73, rfl⟩
abbrev main_call0_v0 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel4.lean ====
abbrev S2x16384x2048 : Shape := ⟨3, ![2, 16384, 2048]⟩
abbrev S2x16384x1024 : Shape := ⟨3, ![2, 16384, 1024]⟩
abbrev S1x2048x2048 : Shape := ⟨3, ![1, 2048, 2048]⟩
abbrev S1x2048 : Shape := ⟨2, ![1, 2048]⟩
abbrev S1x2048x4 : Shape := ⟨3, ![1, 2048, 4]⟩
abbrev S1x2048x32 : Shape := ⟨3, ![1, 2048, 32]⟩
abbrev S32768x2048 : Shape := ⟨2, ![32768, 2048]⟩
abbrev S2048x32 : Shape := ⟨2, ![2048, 32]⟩
abbrev S2048x4 : Shape := ⟨2, ![2048, 4]⟩
abbrev S2048x36 : Shape := ⟨2, ![2048, 36]⟩
abbrev S_ : Shape := ⟨0, ![]⟩
abbrev S2048x128 : Shape := ⟨2, ![2048, 128]⟩
abbrev S32768x1024 : Shape := ⟨2, ![32768, 1024]⟩
abbrev S2048x2048 : Shape := ⟨2, ![2048, 2048]⟩
abbrev S2048 : Shape := ⟨1, ![2048]⟩
abbrev S32768x128 : Shape := ⟨2, ![32768, 128]⟩
abbrev S8x128 : Shape := ⟨2, ![8, 128]⟩
abbrev S512x2048 : Shape := ⟨2, ![512, 2048]⟩
abbrev S512x1024 : Shape := ⟨2, ![512, 1024]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S512x512 : Shape := ⟨2, ![512, 512]⟩
abbrev S128 : Shape := ⟨1, ![128]⟩
abbrev S1024x2048 : Shape := ⟨2, ![1024, 2048]⟩

abbrev nBuf : Space → Nat
  | .hbm => 25
  | .vmem => 18
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .bf16⟩
  | .hbm, ⟨2, _⟩ => ⟨S2x16384x1024, .bf16⟩
  | .hbm, ⟨3, _⟩ => ⟨S1x2048x2048, .f32⟩
  | .hbm, ⟨4, _⟩ => ⟨S1x2048, .f32⟩
  | .hbm, ⟨5, _⟩ => ⟨S1x2048x4, .f32⟩
  | .hbm, ⟨6, _⟩ => ⟨S1x2048x32, .f32⟩
  | .hbm, ⟨7, _⟩ => ⟨S32768x2048, .f32⟩
  | .hbm, ⟨8, _⟩ => ⟨S2048x32, .f32⟩
  | .hbm, ⟨9, _⟩ => ⟨S2048x4, .f32⟩
  | .hbm, ⟨10, _⟩ => ⟨S2048x36, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S32768x1024, .bf16⟩
  | .hbm, ⟨15, _⟩ => ⟨S32768x1024, .bf16⟩
  | .hbm, ⟨16, _⟩ => ⟨S2048x2048, .f32⟩
  | .hbm, ⟨17, _⟩ => ⟨S2048x2048, .bf16⟩
  | .hbm, ⟨18, _⟩ => ⟨S2048, .f32⟩
  | .hbm, ⟨19, _⟩ => ⟨S1x2048, .f32⟩
  | .hbm, ⟨20, _⟩ => ⟨S2048x128, .bf16⟩
  | .hbm, ⟨21, _⟩ => ⟨S32768x2048, .f32⟩
  | .hbm, ⟨22, _⟩ => ⟨S32768x2048, .f32⟩
  | .hbm, ⟨23, _⟩ => ⟨S32768x128, .f32⟩
  | .hbm, ⟨24, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S2048x128, .bf16⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x128, .f32⟩
  | .local _ .vmem, ⟨14, _⟩ => ⟨S512x128, .f32⟩
  | .local _ .vmem, ⟨15, _⟩ => ⟨S8x128, .f32⟩
  | .local _ .vmem, ⟨16, _⟩ => ⟨S1x128, .f32⟩
  | .local _ .vmem, ⟨17, _⟩ => ⟨S512x128, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S2x16384x2048 : Shape := ⟨3, ![2, 16384, 2048]⟩
abbrev S2x16384x1024 : Shape := ⟨3, ![2, 16384, 1024]⟩
abbrev S1x2048x2048 : Shape := ⟨3, ![1, 2048, 2048]⟩
abbrev S1x2048 : Shape := ⟨2, ![1, 2048]⟩
abbrev S1x2048x4 : Shape := ⟨3, ![1, 2048, 4]⟩
abbrev S1x2048x32 : Shape := ⟨3, ![1, 2048, 32]⟩
abbrev S2048x2048 : Shape := ⟨2, ![2048, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .bf16⟩
  | .hbm, ⟨2, _⟩ => ⟨S2x16384x1024, .bf16⟩
  | .hbm, ⟨3, _⟩ => ⟨S1x2048x2048, .f32⟩
  | .hbm, ⟨4, _⟩ => ⟨S1x2048, .f32⟩
  | .hbm, ⟨5, _⟩ => ⟨S1x2048x4, .f32⟩
  | .hbm, ⟨6, _⟩ => ⟨S1x2048x32, .f32⟩
  | .hbm, ⟨7, _⟩ => ⟨S2x16384x1024, .f32⟩
  | .hbm, ⟨8, _⟩ => ⟨S2x16384x1024, .f32⟩
  | .hbm, ⟨9, _⟩ => ⟨S2x16384x2048, .f32⟩
  | .hbm, ⟨10, _⟩ => ⟨S2048x2048, .f32⟩
  | .hbm, ⟨11, _⟩ => ⟨S2x16384x2048, .f32⟩
  | .hbm, ⟨12, _⟩ => ⟨S2x16384x2048, .f32⟩
  | .hbm, ⟨13, _⟩ => ⟨S2048, .f32⟩
  | .hbm, ⟨14, _⟩ => ⟨S2x16384x2048, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x2048, .f32⟩
  | .hbm, ⟨26, _⟩ => ⟨S2x16384x2048, .f32⟩
  | .hbm, ⟨27, _⟩ => ⟨S1x1x2048, .f32⟩
  | .hbm, ⟨28, _⟩ => ⟨S2x16384x2048, .f32⟩
  | .hbm, ⟨29, _⟩ => ⟨S2x16384x2048, .f32⟩
  | .hbm, ⟨30, _⟩ => ⟨S32768x2048, .f32⟩
  | .hbm, ⟨31, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel5.lean ====
abbrev S32768x128 : Shape := ⟨2, ![32768, 128]⟩
abbrev S1x8 : Shape := ⟨2, ![1, 8]⟩
abbrev S8 : Shape := ⟨1, ![8]⟩
abbrev S_ : Shape := ⟨0, ![]⟩
abbrev S128 : Shape := ⟨1, ![128]⟩
abbrev S1x128 : Shape := ⟨2, ![1, 128]⟩
abbrev S2x16384x128 : Shape := ⟨3, ![2, 16384, 128]⟩
abbrev S2x32x8x512 : Shape := ⟨4, ![2, 32, 8, 512]⟩
abbrev S1x512x128 : Shape := ⟨3, ![1, 512, 128]⟩
abbrev S1x1x8x512 : Shape := ⟨4, ![1, 1, 8, 512]⟩
abbrev S512x128 : Shape := ⟨2, ![512, 128]⟩
abbrev S512x512 : Shape := ⟨2, ![512, 512]⟩
abbrev S128x512 : Shape := ⟨2, ![128, 512]⟩
abbrev S8x512 : Shape := ⟨2, ![8, 512]⟩

abbrev nBuf : Space → Nat
  | .hbm => 9
  | .vmem => 6
  | .smem => 0
  | _ => 0

abbrev bufTy : (tb : Table) → Fin (tcTables nBuf tb) → BufTy
  | .hbm, ⟨0, _⟩ => ⟨S32768x128, .f32⟩
  | .hbm, ⟨1, _⟩ => ⟨S1x8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S2x16384x128, .f32⟩
  | .hbm, ⟨8, _⟩ => ⟨S2x32x8x512, .f32⟩
  | .local _ .vmem, ⟨0, _⟩ => ⟨S1x512x128, .f32⟩
  | .local _ .vmem, ⟨1, _⟩ => ⟨S1x512x128, .f32⟩
  | .local _ .vmem, ⟨2, _⟩ => ⟨S1x128, .f32⟩
  | .local _ .vmem, ⟨3, _⟩ => ⟨S1x1x8x512, .f32⟩
  | .local _ .vmem, ⟨4, _⟩ => ⟨S1x1x8x512, .f32⟩
  | .local _ .vmem, ⟨5, _⟩ => ⟨S1x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x128 : Shape := ⟨2, ![32768, 128]⟩
abbrev S1x8 : Shape := ⟨2, ![1, 8]⟩
abbrev S2x16384x128 : Shape := ⟨3, ![2, 16384, 128]⟩
abbrev S2x16384x8 : Shape := ⟨3, ![2, 16384, 8]⟩
abbrev S8 : Shape := ⟨1, ![8]⟩
abbrev S1x1x8 : Shape := ⟨3, ![1, 1, 8]⟩
abbrev S_ : Shape := ⟨0, ![]⟩
abbrev S2x8x16384 : Shape := ⟨3, ![2, 8, 16384]⟩
abbrev S2x8x32x512 : Shape := ⟨4, ![2, 8, 32, 512]⟩
abbrev S2x32x8x512 : Shape := ⟨4, ![2, 32, 8, 512]⟩

abbrev nBuf : Space → Nat
  | .hbm => 30
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S1x8, .f32⟩
  | .hbm, ⟨2, _⟩ => ⟨S2x16384x128, .f32⟩
  | .hbm, ⟨3, _⟩ => ⟨S2x16384x8, .f32⟩
  | .hbm, ⟨4, _⟩ => ⟨S8, .f32⟩
  | .hbm, ⟨5, _⟩ => ⟨S1x1x8, .f32⟩
  | .hbm, ⟨6, _⟩ => ⟨S2x16384x8, .f32⟩
  | .hbm, ⟨7, _⟩ => ⟨S2x16384x8, .f32⟩
  | .hbm, ⟨8, _⟩ => ⟨S2x16384x8, .f32⟩
  | .hbm, ⟨9, _⟩ => ⟨S_, .f32⟩
  | .hbm, ⟨10, _⟩ => ⟨S2x16384x8, .f32⟩
  | .hbm, ⟨11, _⟩ => ⟨S2x16384x8, .f32⟩
  | .hbm, ⟨12, _⟩ => ⟨S2x16384x8, .f32⟩
  | .hbm, ⟨13, _⟩ => ⟨S2x16384x8, .f32⟩
  | .hbm, ⟨14, _⟩ => ⟨S2x16384x8, .i1⟩
  | .hbm, ⟨15, _⟩ => ⟨S2x16384x8, .f32⟩
  | .hbm, ⟨16, _⟩ => ⟨S2x16384x8, .f32⟩
  | .hbm, ⟨17, _⟩ => ⟨S2x16384x8, .f32⟩
  | .hbm, ⟨18, _⟩ => ⟨S2x16384x8, .f32⟩
  | .hbm, ⟨19, _⟩ => ⟨S2x16384x8, .f32⟩
  | .hbm, ⟨20, _⟩ => ⟨S2x16384x8, .f32⟩
  | .hbm, ⟨21, _⟩ => ⟨S2x16384x8, .f32⟩
  | .hbm, ⟨22, _⟩ => ⟨S2x16384x8, .f32⟩
  | .hbm, ⟨23, _⟩ => ⟨S2x16384x8, .f32⟩
  | .hbm, ⟨24, _⟩ => ⟨S_, .f32⟩
  | .hbm, ⟨25, _⟩ => ⟨S_, .f32⟩
  | .hbm, ⟨26, _⟩ => ⟨S2x16384x8, .f32⟩
  | .hbm, ⟨27, _⟩ => ⟨S2x8x16384, .f32⟩
  | .hbm, ⟨28, _⟩ => ⟨S2x8x32x512, .f32⟩
  | .hbm, ⟨29, _⟩ => ⟨S2x32x8x512, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v6 : Ref sig .tc := ⟨.hbm, 23, rfl⟩
abbrev main_call1_call0_cst : Ref sig .tc := ⟨.hbm, 24, rfl⟩
abbrev main_call1_call0_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Proof.Rglru.Rules.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.VecWindow

@[expose] public section

set_option maxRecDepth 16384

noncomputable section

namespace Cert.KernelIdeal.Rglru

open Cert.KernelIdeal Cert.KernelIdeal.Gen
open Idealize.ShloMosaic Idealize.ShloMosaic.TcCoe Idealize.ShloMosaic.Tactic
open Idealize.SL Idealize.SL.RA Idealize.SL.BI
open Idealize.ShloMosaic.VecWindow (window put)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load of a box reads the window of what the memref holds. -/
theorem load_owns (c : Dev nD) (E : Set ℕ) {s : Shape} {e : EltTy} (m : Memref sig .tc .vmem s e) (x : Vec F s e) (off size : Fin s.rank → ℕ)
    (inb : ∀ a, off a + size a ≤ s.size a) (h : m.view.LoadsAt (Rect.unit off size inb).toLoadRect) {α : Type}
    (k : _ → Prog (TpuEff nD τ sig (Elt F) Λ₀ .tc) α) (Q : α → sProp 𝕄) :
    iprop(owns (c : Thread nD τ) m fullShare x ∗ (owns (c : Thread nD τ) m fullShare x -∗ wp frame (wpE (defs₀ (F := F)) Variants.none c none) E (k (window x off size inb)) Q))
      ⊢ wp frame (wpE (defs₀ (F := F)) Variants.none c none) E (Prog.lift (.load m (Rect.unit off size inb).toLoadRect h) >>= k) Q := by
  unfold owns
  iintro ⟨⟨%f, %hf, H⟩, Hk⟩
  subst hf
  sl_exec
  iapply Hk
  iexists _
  isplitr; · ipureintro; rfl
  iexact H

/-- A store of a box puts the payload over the window. -/
theorem store_owns (c : Dev nD) (E : Set ℕ) {s : Shape} {e : EltTy} (m : Memref sig .tc .vmem s e) (x : Vec F s e) (off size : Fin s.rank → ℕ)
    (inb : ∀ a, off a + size a ≤ s.size a) (w : ((a : Fin s.rank) → Fin (size a)) → Elt F e) (h : (m.access (Rect.unit off size inb)).Stores Finset.univ) (hm) {α : Type}
    (k : PUnit → Prog (TpuEff nD τ sig (Elt F) Λ₀ .tc) α) (Q : α → sProp 𝕄) :
    iprop(owns (c : Thread nD τ) m fullShare x ∗ (owns (c : Thread nD τ) m fullShare (put x off size w) -∗ wp frame (wpE (defs₀ (F := F)) Variants.none c none) E (k ⟨⟩) Q))
      ⊢ wp frame (wpE (defs₀ (F := F)) Variants.none c none) E (Prog.lift (.store m (Rect.unit off size inb) w Finset.univ h hm) >>= k) Q := by
  unfold owns
  iintro ⟨⟨%f, %hf, H⟩, Hk⟩
  subst hf
  sl_exec
  iapply Hk
  iexists _
  isplitr
  rotate_left
  · iexact H
  · ipureintro
    exact View.read_writes_cons_put m.view f inb w [] rfl

/-- The fourteen whole memrefs the body is called with. -/
structure Mems where
  m1 : Memref sig .tc .vmem S2x256x1024 .bf16
  h1 : m1.IsWhole
  m2 : Memref sig .tc .vmem S2x256x1024 .bf16
  h2 : m2.IsWhole
  m3 : Memref sig .tc .vmem S4x1024 .f32
  h3 : m3.IsWhole
  m4 : Memref sig .tc .vmem S1x1024 .f32
  h4 : m4.IsWhole
  m5 : Memref sig .tc .vmem S8x128x128 .bf16
  h5 : m5.IsWhole
  m6 : Memref sig .tc .vmem S1x1024 .f32
  h6 : m6.IsWhole
  m7 : Memref sig .tc .vmem S8x128x128 .bf16
  h7 : m7.IsWhole
  m8 : Memref sig .tc .vmem S1x1024 .f32
  h8 : m8.IsWhole
  m9 : Memref sig .tc .vmem S1x1024 .f32
  h9 : m9.IsWhole
  m10 : Memref sig .tc .vmem S2x256x1024 .bf16
  h10 : m10.IsWhole
  m11 : Memref sig .tc .vmem S2x264x1024 .f32
  h11 : m11.IsWhole
  m12 : Memref sig .tc .vmem S2x256x1024 .f32
  h12 : m12.IsWhole
  m13 : Memref sig .tc .vmem S2x256x1024 .f32
  h13 : m13.IsWhole
  m14 : Memref sig .tc .vmem S2x1x1024 .f32
  h14 : m14.IsWhole

/-- The nine input blocks at a point. -/
structure Ins (F : FTy → Type) where
  x : Vec F S2x256x1024 .bf16
  g : Vec F S2x256x1024 .bf16
  cw : Vec F S4x1024 .f32
  cb : Vec F S1x1024 .f32
  wa : Vec F S8x128x128 .bf16
  ba : Vec F S1x1024 .f32
  wi : Vec F S8x128x128 .bf16
  bi : Vec F S1x1024 .f32
  lam : Vec F S1x1024 .f32

/-- What the body changes: the output block, the convolution's rows `X`, the decays `A`, the inputs that become the states `U`,
    and the carried state `H`. -/
structure St (F : FTy → Type) where
  O : Vec F S2x256x1024 .bf16
  X : Vec F S2x264x1024 .f32
  A : Vec F S2x256x1024 .f32
  U : Vec F S2x256x1024 .f32
  H : Vec F S2x1x1024 .f32

/-- The inputs' nine memrefs at their contents. -/
def Inp (c : Dev nD) (M : Mems) (w : Ins F) : sProp 𝕄 :=
  iprop(owns (c : Thread nD τ) M.m1 fullShare w.x ∗ owns (c : Thread nD τ) M.m2 fullShare w.g ∗ owns (c : Thread nD τ) M.m3 fullShare w.cw
    ∗ owns (c : Thread nD τ) M.m4 fullShare w.cb ∗ owns (c : Thread nD τ) M.m5 fullShare w.wa ∗ owns (c : Thread nD τ) M.m6 fullShare w.ba
    ∗ owns (c : Thread nD τ) M.m7 fullShare w.wi ∗ owns (c : Thread nD τ) M.m8 fullShare w.bi ∗ owns (c : Thread nD τ) M.m9 fullShare w.lam)

/-- All fourteen memrefs, at the inputs and the state. -/
def Bufs (c : Dev nD) (M : Mems) (w : Ins F) (s : St F) : sProp 𝕄 :=
  iprop(Inp c M w ∗ owns (c : Thread nD τ) M.m10 fullShare s.O ∗ owns (c : Thread nD τ) M.m11 fullShare s.X
    ∗ owns (c : Thread nD τ) M.m12 fullShare s.A ∗ owns (c : Thread nD τ) M.m13 fullShare s.U ∗ owns (c : Thread nD τ) M.m14 fullShare s.H)

/-- From state `s`, `p` ends with a value and a state for which `post` holds. -/
def Tri (c : Dev nD) (E : Set ℕ) (M : Mems) (w : Ins F) {α : Type} (s : St F) (p : Prog (TpuEff nD τ sig (Elt F) Λ₀ .tc) α) (post : α → St F → Prop) : Prop :=
  Bufs c M w s ⊢ wp frame (wpE (defs₀ (F := F)) Variants.none c none) E p (fun r => iprop(∃ s', ⌜post r s'⌝ ∗ Bufs c M w s'))

variable {c : Dev nD} {E : Set ℕ} {M : Mems} {w : Ins F} {s : St F}

theorem Tri.pure {α : Type} {a : α} {post : α → St F → Prop} (h : post a s) : Tri c E M w s (Pure.pure a) post := by
  unfold Tri
  iintro H
  sl_step
  iexists s
  isplitr; · ipureintro; exact h
  iexact H

theorem Tri.mono {α : Type} {p : Prog (TpuEff nD τ sig (Elt F) Λ₀ .tc) α} {Q R : α → St F → Prop} (hp : Tri c E M w s p Q)
    (h : ∀ r s', Q r s' → R r s') : Tri c E M w s p R := by
  unfold Tri at *
  refine hp.trans (wp_mono _ _ _ fun r => ?_)
  iintro ⟨%s', %hq, H⟩
  iexists s'
  isplitr; · ipureintro; exact h r s' hq
  iexact H

theorem Tri.bind {α β : Type} {p : Prog (TpuEff nD τ sig (Elt F) Λ₀ .tc) α} {k : α → Prog (TpuEff nD τ sig (Elt F) Λ₀ .tc) β} {post : β → St F → Prop}
    (h : Tri c E M w s p (fun r s' => Tri c E M w s' (k r) post)) : Tri c E M w s (p >>= k) post := by
  unfold Tri at *
  rw [wp_bind]
  refine h.trans (wp_mono _ _ _ fun r => ?_)
  iintro ⟨%s', %hq, H⟩
  iapply hq
  iexact H

theorem Tri.lift {α β : Type} {e : TpuEff nD τ sig (Elt F) Λ₀ .tc α} {post : α → St F → Prop}
    (h : Tri c E M w s (Prog.lift e >>= fun r => Pure.pure r) post) : Tri c E M w s (Prog.lift e) post := by
  rwa [bind_pure] at h

theorem tri_load {d : Shape} {e : EltTy} {m : Memref sig .tc .vmem d e} {x : Vec F d e} {off size : Fin d.rank → ℕ}
    {inb : ∀ a, off a + size a ≤ d.size a} {h : m.view.LoadsAt (Rect.unit off size inb).toLoadRect} {α : Type}
    {k : _ → Prog (TpuEff nD τ sig (Elt F) Λ₀ .tc) α} {post : α → St F → Prop}
    (hb : Bufs c M w s ⊢ iprop(owns (c : Thread nD τ) m fullShare x ∗ (owns (c : Thread nD τ) m fullShare x -∗ Bufs c M w s)))
    (hk : Tri c E M w s (k (window x off size inb)) post) :
    Tri c E M w s (Prog.lift (.load m (Rect.unit off size inb).toLoadRect h) >>= k) post := by
  unfold Tri at *
  refine hb.trans (.trans ?_ (load_owns c E m x off size inb h k _))
  iintro ⟨H, Hw⟩
  isplitl [H]; · iexact H
  iintro H
  iapply hk
  iapply Hw
  iexact H

theorem tri_store {d : Shape} {e : EltTy} {m : Memref sig .tc .vmem d e} {x : Vec F d e} {off size : Fin d.rank → ℕ}
    {inb : ∀ a, off a + size a ≤ d.size a} {v : ((a : Fin d.rank) → Fin (size a)) → Elt F e} {h : (m.access (Rect.unit off size inb)).Stores Finset.univ} {hm} {α : Type}
    {k : PUnit → Prog (TpuEff nD τ sig (Elt F) Λ₀ .tc) α} {post : α → St F → Prop} {s' : St F}
    (hb : Bufs c M w s ⊢ iprop(owns (c : Thread nD τ) m fullShare x ∗ (owns (c : Thread nD τ) m fullShare (put x off size v) -∗ Bufs c M w s')))
    (hk : Tri c E M w s' (k ⟨⟩) post) :
    Tri c E M w s (Prog.lift (.store m (Rect.unit off size inb) v Finset.univ h hm) >>= k) post := by
  unfold Tri at *
  refine hb.trans (.trans ?_ (store_owns c E m x off size inb v h hm k _))
  iintro ⟨H, Hw⟩
  isplitl [H]; · iexact H
  iintro H
  iapply hk
  iapply Hw
  iexact H

section Focus
variable (c M w s)

theorem at1 : Bufs c M w s ⊢ iprop(owns (c : Thread nD τ) M.m1 fullShare w.x ∗ (owns (c : Thread nD τ) M.m1 fullShare w.x -∗ Bufs c M w s)) := by
  unfold Bufs Inp; iintro ⟨⟨H1, H2, H3, H4, H5, H6, H7, H8, H9⟩, H⟩; isplitl [H1]; · iexact H1
  iintro H1; iframe
theorem at2 : Bufs c M w s ⊢ iprop(owns (c : Thread nD τ) M.m2 fullShare w.g ∗ (owns (c : Thread nD τ) M.m2 fullShare w.g -∗ Bufs c M w s)) := by
  unfold Bufs Inp; iintro ⟨⟨H1, H2, H3, H4, H5, H6, H7, H8, H9⟩, H⟩; isplitl [H2]; · iexact H2
  iintro H2; iframe
theorem at3 : Bufs c M w s ⊢ iprop(owns (c : Thread nD τ) M.m3 fullShare w.cw ∗ (owns (c : Thread nD τ) M.m3 fullShare w.cw -∗ Bufs c M w s)) := by
  unfold Bufs Inp; iintro ⟨⟨H1, H2, H3, H4, H5, H6, H7, H8, H9⟩, H⟩; isplitl [H3]; · iexact H3
  iintro H3; iframe
theorem at4 : Bufs c M w s ⊢ iprop(owns (c : Thread nD τ) M.m4 fullShare w.cb ∗ (owns (c : Thread nD τ) M.m4 fullShare w.cb -∗ Bufs c M w s)) := by
  unfold Bufs Inp; iintro ⟨⟨H1, H2, H3, H4, H5, H6, H7, H8, H9⟩, H⟩; isplitl [H4]; · iexact H4
  iintro H4; iframe
theorem at5 : Bufs c M w s ⊢ iprop(owns (c : Thread nD τ) M.m5 fullShare w.wa ∗ (owns (c : Thread nD τ) M.m5 fullShare w.wa -∗ Bufs c M w s)) := by
  unfold Bufs Inp; iintro ⟨⟨H1, H2, H3, H4, H5, H6, H7, H8, H9⟩, H⟩; isplitl [H5]; · iexact H5
  iintro H5; iframe
theorem at6 : Bufs c M w s ⊢ iprop(owns (c : Thread nD τ) M.m6 fullShare w.ba ∗ (owns (c : Thread nD τ) M.m6 fullShare w.ba -∗ Bufs c M w s)) := by
  unfold Bufs Inp; iintro ⟨⟨H1, H2, H3, H4, H5, H6, H7, H8, H9⟩, H⟩; isplitl [H6]; · iexact H6
  iintro H6; iframe
theorem at7 : Bufs c M w s ⊢ iprop(owns (c : Thread nD τ) M.m7 fullShare w.wi ∗ (owns (c : Thread nD τ) M.m7 fullShare w.wi -∗ Bufs c M w s)) := by
  unfold Bufs Inp; iintro ⟨⟨H1, H2, H3, H4, H5, H6, H7, H8, H9⟩, H⟩; isplitl [H7]; · iexact H7
  iintro H7; iframe
theorem at8 : Bufs c M w s ⊢ iprop(owns (c : Thread nD τ) M.m8 fullShare w.bi ∗ (owns (c : Thread nD τ) M.m8 fullShare w.bi -∗ Bufs c M w s)) := by
  unfold Bufs Inp; iintro ⟨⟨H1, H2, H3, H4, H5, H6, H7, H8, H9⟩, H⟩; isplitl [H8]; · iexact H8
  iintro H8; iframe
theorem at9 : Bufs c M w s ⊢ iprop(owns (c : Thread nD τ) M.m9 fullShare w.lam ∗ (owns (c : Thread nD τ) M.m9 fullShare w.lam -∗ Bufs c M w s)) := by
  unfold Bufs Inp; iintro ⟨⟨H1, H2, H3, H4, H5, H6, H7, H8, H9⟩, H⟩; isplitl [H9]; · iexact H9
  iintro H9; iframe
theorem at10 (O : Vec F S2x256x1024 .bf16) (X : Vec F S2x264x1024 .f32) (A U : Vec F S2x256x1024 .f32) (H : Vec F S2x1x1024 .f32) (y : Vec F S2x256x1024 .bf16) :
    Bufs c M w ⟨O, X, A, U, H⟩ ⊢ iprop(owns (c : Thread nD τ) M.m10 fullShare O ∗ (owns (c : Thread nD τ) M.m10 fullShare y -∗ Bufs c M w ⟨y, X, A, U, H⟩)) := by
  unfold Bufs; iintro ⟨K, H10, H11, H12, H13, H14⟩; isplitl [H10]; · iexact H10
  iintro H10; iframe
theorem at11 (O : Vec F S2x256x1024 .bf16) (X : Vec F S2x264x1024 .f32) (A U : Vec F S2x256x1024 .f32) (H : Vec F S2x1x1024 .f32) (y : Vec F S2x264x1024 .f32) :
    Bufs c M w ⟨O, X, A, U, H⟩ ⊢ iprop(owns (c : Thread nD τ) M.m11 fullShare X ∗ (owns (c : Thread nD τ) M.m11 fullShare y -∗ Bufs c M w ⟨O, y, A, U, H⟩)) := by
  unfold Bufs; iintro ⟨K, H10, H11, H12, H13, H14⟩; isplitl [H11]; · iexact H11
  iintro H11; iframe
theorem at12 (O : Vec F S2x256x1024 .bf16) (X : Vec F S2x264x1024 .f32) (A U : Vec F S2x256x1024 .f32) (H : Vec F S2x1x1024 .f32) (y : Vec F S2x256x1024 .f32) :
    Bufs c M w ⟨O, X, A, U, H⟩ ⊢ iprop(owns (c : Thread nD τ) M.m12 fullShare A ∗ (owns (c : Thread nD τ) M.m12 fullShare y -∗ Bufs c M w ⟨O, X, y, U, H⟩)) := by
  unfold Bufs; iintro ⟨K, H10, H11, H12, H13, H14⟩; isplitl [H12]; · iexact H12
  iintro H12; iframe
theorem at13 (O : Vec F S2x256x1024 .bf16) (X : Vec F S2x264x1024 .f32) (A U : Vec F S2x256x1024 .f32) (H : Vec F S2x1x1024 .f32) (y : Vec F S2x256x1024 .f32) :
    Bufs c M w ⟨O, X, A, U, H⟩ ⊢ iprop(owns (c : Thread nD τ) M.m13 fullShare U ∗ (owns (c : Thread nD τ) M.m13 fullShare y -∗ Bufs c M w ⟨O, X, A, y, H⟩)) := by
  unfold Bufs; iintro ⟨K, H10, H11, H12, H13, H14⟩; isplitl [H13]; · iexact H13
  iintro H13; iframe
theorem at14 (O : Vec F S2x256x1024 .bf16) (X : Vec F S2x264x1024 .f32) (A U : Vec F S2x256x1024 .f32) (H : Vec F S2x1x1024 .f32) (y : Vec F S2x1x1024 .f32) :
    Bufs c M w ⟨O, X, A, U, H⟩ ⊢ iprop(owns (c : Thread nD τ) M.m14 fullShare H ∗ (owns (c : Thread nD τ) M.m14 fullShare y -∗ Bufs c M w ⟨O, X, A, U, y⟩)) := by
  unfold Bufs; iintro ⟨K, H10, H11, H12, H13, H14⟩; isplitl [H14]; · iexact H14
  iintro H14; iframe

end Focus

end Cert.KernelIdeal.Rglru

end
-- ==== Proof.Rglru.Step.lean ====
module

public import proofs.«01_k».proof.Proof.Rglru.Rules

@[expose] public section

set_option maxRecDepth 16384

noncomputable section

namespace Cert.KernelIdeal.Rglru

open Cert.KernelIdeal Cert.KernelIdeal.Gen
open Idealize.ShloMosaic Idealize.ShloMosaic.TcCoe Idealize.ShloMosaic.Tactic
open Idealize.SL Idealize.SL.RA Idealize.SL.BI
open Idealize.ShloMosaic.VecWindow (window put)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One step of the recurrence over the rows of both sequences: the states after row `k`, and the rows with that row's states in place. -/
def trip (A : Vec F S2x256x1024 .f32) (k : Fin k0_t1_loop.trips) (p : (FVec F S1x1024 .f32 × FVec F S1x1024 .f32) × Vec F S2x256x1024 .f32) :
    (FVec F S1x1024 .f32 × FVec F S1x1024 .f32) × Vec F S2x256x1024 .f32 :=
  let va := window A (k0_off1 k) S1x1x1024.size (k0_off1_inb k)
  let vu := window p.2 (k0_off1 k) S1x1x1024.size (k0_off1_inb k)
  let U1 := put p.2 (k0_off1 k) S1x1x1024.size (k0_pay100 p.1.1 va vu)
  let wa := window A (k0_off2 k) S1x1x1024.size (k0_off2_inb k)
  let wu := window U1 (k0_off2 k) S1x1x1024.size (k0_off2_inb k)
  ((k0_pay99 p.1.1 va vu, k0_pay101 p.1.2 wa wu), put U1 (k0_off2 k) S1x1x1024.size (k0_pay102 p.1.2 wa wu))

/-- The first `n` steps of the recurrence. -/
def steps (A : Vec F S2x256x1024 .f32) (p : (FVec F S1x1024 .f32 × FVec F S1x1024 .f32) × Vec F S2x256x1024 .f32) :
    ℕ → (FVec F S1x1024 .f32 × FVec F S1x1024 .f32) × Vec F S2x256x1024 .f32
  | 0 => p
  | n + 1 => if h : n < k0_t1_loop.trips then trip A ⟨n, h⟩ (steps A p n) else steps A p n

theorem steps_succ (A : Vec F S2x256x1024 .f32) (p : (FVec F S1x1024 .f32 × FVec F S1x1024 .f32) × Vec F S2x256x1024 .f32) (k : Fin k0_t1_loop.trips) :
    steps A p (k.val + 1) = trip A k (steps A p k.val) := by
  show (if h : k.val < k0_t1_loop.trips then trip A ⟨k.val, h⟩ (steps A p k.val) else steps A p k.val) = _
  rw [dif_pos k.isLt]

/-- The states before the block, read out of the carried state. -/
def start (H : Vec F S2x1x1024 .f32) : FVec F S1x1024 .f32 × FVec F S1x1024 .f32 :=
  (k0_pay97 (window H ![0, 0, 0] S1x1x1024.size inb_S2x1x1024_S1x1x1024_0_0_0), k0_pay98 (window H ![1, 0, 0] S1x1x1024.size inb_S2x1x1024_S1x1x1024_1_0_0))

variable (b : Fin 2) (w : Ins F) (j : Fin 8)

theorem inb_rows (b : Fin 2) (r n : ℕ) (h : r + n ≤ 264) : ∀ a, (![b.val, r, 0] : Fin 3 → ℕ) a + (![1, n, 1024] : Fin 3 → ℕ) a ≤ S2x264x1024.size a := by
  intro a; have := b.isLt
  match a with
  | 0 => show b.val + 1 ≤ 2; omega
  | 1 => exact h
  | 2 => show 0 + 1024 ≤ 1024; omega
theorem inb_block (b : Fin 2) : ∀ a, (![b.val, 0, 0] : Fin 3 → ℕ) a + S1x256x1024.size a ≤ S2x256x1024.size a := by
  intro a; have := b.isLt
  match a with
  | 0 => show b.val + 1 ≤ 2; omega
  | 1 => show 0 + 256 ≤ 256; omega
  | 2 => show 0 + 1024 ≤ 1024; omega
theorem inb_w (j : Fin 8) : ∀ a, (![j.val, 0, 0] : Fin 3 → ℕ) a + S1x128x128.size a ≤ S8x128x128.size a := by
  intro a; have := j.isLt
  match a with
  | 0 => show j.val + 1 ≤ 8; omega
  | 1 => show 0 + 128 ≤ 128; omega
  | 2 => show 0 + 128 ≤ 128; omega
theorem inb_b (j : Fin 8) : ∀ a, (![0, 128 * j.val] : Fin 2 → ℕ) a + S1x128.size a ≤ S1x1024.size a := by
  intro a; have := j.isLt
  match a with
  | 0 => show 0 + 1 ≤ 1; omega
  | 1 => show 128 * j.val + 128 ≤ 1024; omega
theorem sl_c (j : Fin 8) : S256x1024.Slices ![0, 128 * j.val] S256x128 := by
  revert j; decide
theorem sl_r (j : Fin 8) : S1x1024.Slices ![0, 128 * j.val] S1x128 := by
  revert j; decide

/-- The convolution's rows with the block of sequence `b` in place. -/
def rows (X : Vec F S2x264x1024 .f32) : Vec F S2x264x1024 .f32 :=
  put X ![b.val, 8, 0] S1x256x1024.size (k0_pay5 (window w.x ![b.val, 0, 0] S1x256x1024.size (inb_block b)))

/-- The convolution of sequence `b`. -/
def conv (X : Vec F S2x264x1024 .f32) : FVec F S256x1024 .f32 :=
  k0_pay9 (k0_pay6 (window w.cb ![0, 0] S1x1024.size inb_S1x1024_S1x1024_0_0)) (k0_pay7 (window X ![b.val, 5, 0] S1x256x1024.size (inb_rows b 5 256 (by omega))))
    (k0_pay8 (window w.cw ![0, 0] S1x1024.size inb_S4x1024_S1x1024_0_0)) (window w.cw ![1, 0] S1x1024.size inb_S4x1024_S1x1024_1_0)
    (window X ![b.val, 6, 0] S1x256x1024.size (inb_rows b 6 256 (by omega))) (window w.cw ![2, 0] S1x1024.size inb_S4x1024_S1x1024_2_0)
    (window X ![b.val, 7, 0] S1x256x1024.size (inb_rows b 7 256 (by omega))) (window w.cw ![3, 0] S1x1024.size inb_S4x1024_S1x1024_3_0)
    (window X ![b.val, 8, 0] S1x256x1024.size (inb_rows b 8 256 (by omega)))

/-- The convolution's rows with the last eight of sequence `b` kept for the next block. -/
def keep (X : Vec F S2x264x1024 .f32) : Vec F S2x264x1024 .f32 :=
  put X ![b.val, 0, 0] S1x8x1024.size (k0_pay10 (window X ![b.val, 256, 0] S1x8x1024.size (inb_rows b 256 8 (by omega))))

/-- The scaled decay rates. -/
def rate : FVec F S1x1024 .f32 := k0_pay4 (window w.lam ![0, 0] S1x1024.size inb_S1x1024_S1x1024_0_0)

/-- A gate of head `j`. -/
def gate (xb : FVec F S256x1024 .bf16) (W : Vec F S8x128x128 .bf16) (B : Vec F S1x1024 .f32) : FVec F S256x128 .f32 :=
  logistic (addf (matmul dot_S256x128_S128x128_S256x128_1_0_0_1_n_n none (extractStridedSlice S256x128 ![0, 128 * j.val] xb (sl_c j))
      (shapeCast S128x128 (window W ![j.val, 0, 0] S1x128x128.size (inb_w j)) shapeCasts_S1x128x128_S128x128) (constant S256x128 .f32 0x00000000#32))
    (broadcastTo S256x128 (shapeCast S1x128 (window B ![0, 128 * j.val] S1x128.size (inb_b j)) shapeCasts_S1x128_S1x128) broadcasts_S1x128_S256x128))

/-- The decays of head `j`. -/
def decay (xc : FVec F S256x1024 .f32) : FVec F S256x128 .f32 :=
  exp (mulf (gate j (truncf .bf16 xc bitsLt_bf16_f32) w.wa w.ba)
    (broadcastTo S256x128 (extractStridedSlice S1x128 ![0, 128 * j.val] (rate w) (sl_r j)) broadcasts_S1x128_S256x128))

/-- The gated and normalised inputs of head `j`. -/
def drive (xc : FVec F S256x1024 .f32) : FVec F S256x128 .f32 :=
  mulf (sqrt (subf (broadcast S256x128 (Scalar.ofBits .f32 0x3F800000#32)) (mulf (decay w j xc) (decay w j xc))))
    (mulf (gate j (truncf .bf16 xc bitsLt_bf16_f32) w.wi w.bi) (extractStridedSlice S256x128 ![0, 128 * j.val] xc (sl_c j)))

/-- The first `n` heads of sequence `b`, put into the rows one by one. -/
def fill (h : Fin 8 → FVec F S256x128 .f32) (A : Vec F S2x256x1024 .f32) : ℕ → Vec F S2x256x1024 .f32
  | 0 => A
  | n + 1 => put (fill h A n) ![b.val, 0, 128 * n] S1x256x128.size (shapeCast S1x256x128 (h (Fin.ofNat 8 n)) shapeCasts_S256x128_S1x256x128)

/-- The state after the body, from the state after its conditional. -/
def after (s : St F) : St F :=
  let X1 := rows 0 w s.X
  let c0 := conv 0 w X1
  let X3 := rows 1 w (keep 0 X1)
  let c1 := conv 1 w X3
  let A := fill 1 (fun j => decay w j c1) (fill 0 (fun j => decay w j c0) s.A 8) 8
  let U := fill 1 (fun j => drive w j c1) (fill 0 (fun j => drive w j c0) s.U 8) 8
  let L := steps A (start s.H, U) k0_t1_loop.trips
  { O := put (put s.O ![0, 0, 0] S1x256x1024.size (k0_pay105 (k0_pay104 (window w.g ![0, 0, 0] S1x256x1024.size inb_S2x256x1024_S1x256x1024_0_0_0) (window L.2 ![0, 0, 0] S1x256x1024.size inb_S2x256x1024_S1x256x1024_0_0_0))))
      ![1, 0, 0] S1x256x1024.size (k0_pay1 (k0_pay107 (window w.g ![1, 0, 0] S1x256x1024.size inb_S2x256x1024_S1x256x1024_1_0_0)) (window L.2 ![1, 0, 0] S1x256x1024.size inb_S2x256x1024_S1x256x1024_1_0_0))
    X := keep 1 X3
    A := A
    U := L.2
    H := put (put s.H ![0, 0, 0] S1x1x1024.size (k0_pay103 L.1.1)) ![1, 0, 0] S1x1x1024.size (k0_pay106 L.1.2) }

/-- The body's conditional holds: the grid coordinate is zero. -/
abbrev first (i : grid0.Coords) : Prop := (Scalar.cmpi .ne (Scalar.extui (Scalar.cmpi .eq (BitVec.ofNat 32 (i 0).val) 0#32)) 0#32) = 1#1

/-- The state after the body's conditional: at the first point the kept rows and the carried state are cleared. -/
def cleared (i : grid0.Coords) (s : St F) : St F :=
  if first i then { s with X := put s.X ![0, 0, 0] S2x8x1024.size k0_pay2, H := put s.H ![0, 0, 0] S2x1x1024.size k0_pay3 } else s

variable {c : Dev nD} {E : Set ℕ} {M : Mems}

end Cert.KernelIdeal.Rglru

end
-- ==== Proof.Rglru.Body.lean ====
module

public import proofs.«01_k».proof.Proof.Rglru.Step

@[expose] public section

set_option maxRecDepth 16384

noncomputable section

namespace Cert.KernelIdeal.Rglru

open Cert.KernelIdeal Cert.KernelIdeal.Gen
open Idealize.ShloMosaic Idealize.ShloMosaic.TcCoe Idealize.ShloMosaic.Tactic
open Idealize.SL Idealize.SL.RA Idealize.SL.BI
open Idealize.ShloMosaic.VecWindow (window put)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable {c : Dev nD} {E : Set ℕ} {M : Mems} {w : Ins F} {O : Vec F S2x256x1024 .bf16} {X : Vec F S2x264x1024 .f32} {A U : Vec F S2x256x1024 .f32} {H : Vec F S2x1x1024 .f32}

/-- One trip of the loop. -/
theorem tri_trip (i : grid0.Coords) (v : FVec F S256x128 .f32) (k : Fin k0_t1_loop.trips) (acc : FVec F S1x1024 .f32 × FVec F S1x1024 .f32) :
    Tri c E M w ⟨O, X, A, U, H⟩ (k0_t1_body i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 v k acc)
      (fun r s' => (r, s') = ((trip A k (acc, U)).1, ⟨O, X, A, (trip A k (acc, U)).2, H⟩)) := by
  unfold k0_t1_body
  dsimp only
  refine tri_load (at12 c M w _ _ _ _ _ _) ?_
  refine tri_load (at13 c M w _ _ _ _ _ _) ?_
  refine tri_load (at13 c M w _ _ _ _ _ _) ?_
  refine tri_store (at13 c M w _ _ _ _ _ _) ?_
  refine tri_load (at12 c M w _ _ _ _ _ _) ?_
  refine tri_load (at13 c M w _ _ _ _ _ _) ?_
  refine tri_load (at13 c M w _ _ _ _ _ _) ?_
  refine tri_store (at13 c M w _ _ _ _ _ _) ?_
  exact Tri.pure rfl

/-- The loop. -/
theorem tri_loop (i : grid0.Coords) (v : FVec F S256x128 .f32) (init : FVec F S1x1024 .f32 × FVec F S1x1024 .f32) :
    Tri c E M w ⟨O, X, A, U, H⟩ (Scf.Loop.for k0_t1_loop k0_t1_ok init (k0_t1_body i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 v))
      (fun r s' => (r, s') = ((steps A (init, U) k0_t1_loop.trips).1, ⟨O, X, A, (steps A (init, U) k0_t1_loop.trips).2, H⟩)) := by
  unfold Tri
  refine .trans ?_ (Scf.wp_for Idealize.ShloMosaic.frame (wpE (defs₀ (F := F)) Variants.none c none) E k0_t1_loop.lb k0_t1_loop.ub k0_t1_loop.st k0_t1_ok init _
    (fun n acc => iprop(⌜acc = (steps A (init, U) n).1⌝ ∗ Bufs c M w ⟨O, X, A, (steps A (init, U) n).2, H⟩)) ?_)
  · iintro K
    isplitl [K]
    · isplitr; · ipureintro; rfl
      iexact K
    · iintro %acc ⟨%h, K⟩
      iexists _
      isplitr
      rotate_left
      · iexact K
      · ipureintro; rw [h]
  · intro k acc
    have ht := (show _ ⊢ _ from tri_trip (c := c) (E := E) (M := M) (w := w) (O := O) (X := X) (A := A) (U := (steps A (init, U) k.val).2) (H := H) i v k (steps A (init, U) k.val).1).trans
      (wp_mono _ _ _ (Q' := fun acc => iprop(⌜acc = (steps A (init, U) (k.val + 1)).1⌝ ∗ Bufs c M w ⟨O, X, A, (steps A (init, U) (k.val + 1)).2, H⟩)) fun r => by
        iintro ⟨%s', %h, K⟩
        have e := steps_succ A (init, U) k
        rw [e]
        obtain ⟨h1, h2⟩ := Prod.mk.inj h
        subst h1; subst h2
        isplitr; · ipureintro; rfl
        iexact K)
    iintro ⟨%h, K⟩
    subst h
    iapply ht
    iexact K

theorem Tri.of_eq {α : Type} {s s' : St F} {p : Prog (TpuEff nD τ sig (Elt F) Λ₀ .tc) α} {post : α → St F → Prop} (e : s = s') (h : Tri c E M w s' p post) :
    Tri c E M w s p post := e ▸ h

theorem st_eq {X' : Vec F S2x264x1024 .f32} {A' U' : Vec F S2x256x1024 .f32} (hX : X = X') (hA : A = A') (hU : U = U') :
    (⟨O, X, A, U, H⟩ : St F) = ⟨O, X', A', U', H⟩ := by subst hX; subst hA; subst hU; rfl

/-- The body's first part: the conditional, the block's rows and the first operands. -/
theorem tri_part1 (i : grid0.Coords) (s : St F) :
    Tri c E M w s (k0_part1_skel (F := F) i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14)
      (fun r s' => r = ⟨rate w, k0_pay6 (window w.cb ![0, 0] S1x1024.size inb_S1x1024_S1x1024_0_0), k0_pay7 (window (rows 0 w (cleared i s).X) ![0, 5, 0] S1x256x1024.size inb_S2x264x1024_S1x256x1024_0_5_0),
          k0_pay8 (window w.cw ![0, 0] S1x1024.size inb_S4x1024_S1x1024_0_0)⟩
        ∧ s' = ⟨s.O, rows 0 w (cleared i s).X, s.A, s.U, (cleared i s).H⟩) := by
  obtain ⟨O, X, A, U, H⟩ := s
  unfold k0_part1_skel
  dsimp only
  by_cases h : first i
  · rw [dif_pos h, cleared, if_pos h]
    refine tri_load (at11 c M w _ _ _ _ _ _) ?_
    refine tri_store (at11 c M w _ _ _ _ _ _) ?_
    refine tri_load (at14 c M w _ _ _ _ _ _) ?_
    refine tri_store (at14 c M w _ _ _ _ _ _) ?_
    refine tri_load (at9 c M w _) ?_
    refine tri_load (at1 c M w _) ?_
    refine tri_load (at11 c M w _ _ _ _ _ _) ?_
    refine tri_store (at11 c M w _ _ _ _ _ _) ?_
    refine tri_load (at4 c M w _) ?_
    refine tri_load (at3 c M w _) ?_
    refine tri_load (at11 c M w _ _ _ _ _ _) ?_
    exact Tri.pure ⟨rfl, rfl⟩
  · rw [dif_neg h, cleared, if_neg h]
    refine tri_load (at9 c M w _) ?_
    refine tri_load (at1 c M w _) ?_
    refine tri_load (at11 c M w _ _ _ _ _ _) ?_
    refine tri_store (at11 c M w _ _ _ _ _ _) ?_
    refine tri_load (at4 c M w _) ?_
    refine tri_load (at3 c M w _) ?_
    refine tri_load (at11 c M w _ _ _ _ _ _) ?_
    exact Tri.pure ⟨rfl, rfl⟩

set_option maxHeartbeats 4000000 in
/-- The whole body. -/
theorem tri_body (i : grid0.Coords) (s : St F) :
    Tri c E M w s (cc0_rglru (F := F) i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14) (fun _ s' => s' = after w (cleared i s)) := by
  rw [cc0_rglru_eq_skeleton (F := F)]; unfold cc0_rglru_skel
  rw [k0_part20_eq_skeleton (F := F)]; unfold k0_part20_skel
  simp only [k0_part1_eq_skeleton (F := F), k0_part2_eq_skeleton (F := F), k0_part3_eq_skeleton (F := F), k0_part4_eq_skeleton (F := F), k0_part5_eq_skeleton (F := F), k0_part6_eq_skeleton (F := F), k0_part7_eq_skeleton (F := F), k0_part8_eq_skeleton (F := F), k0_part9_eq_skeleton (F := F), k0_part10_eq_skeleton (F := F), k0_part11_eq_skeleton (F := F), k0_part12_eq_skeleton (F := F), k0_part13_eq_skeleton (F := F), k0_part14_eq_skeleton (F := F), k0_part15_eq_skeleton (F := F), k0_part16_eq_skeleton (F := F), k0_part17_eq_skeleton (F := F), k0_part18_eq_skeleton (F := F), k0_part19_eq_skeleton (F := F)]
  refine Tri.bind (F := F) (c := c) (E := E) (M := M) (w := w) ?_
  refine Tri.bind (F := F) (c := c) (E := E) (M := M) (w := w) ?_
  refine (tri_part1 i s).mono fun r s' hs => ?_
  obtain ⟨rfl, rfl⟩ := hs
  dsimp only
  have hO : (cleared i s).O = s.O := by unfold cleared; split <;> rfl
  have hA : (cleared i s).A = s.A := by unfold cleared; split <;> rfl
  have hU : (cleared i s).U = s.U := by unfold cleared; split <;> rfl
  rw [← hO, ← hA, ← hU]
  generalize cleared i s = s
  obtain ⟨O, X, A, U, H⟩ := s
  dsimp only
  generalize hX1 : rows 0 w X = X1
  repeat
    first
    | with_reducible refine tri_load (at1 c M w _) ?_
    | with_reducible refine tri_load (at2 c M w _) ?_
    | with_reducible refine tri_load (at3 c M w _) ?_
    | with_reducible refine tri_load (at4 c M w _) ?_
    | with_reducible refine tri_load (at5 c M w _) ?_
    | with_reducible refine tri_load (at6 c M w _) ?_
    | with_reducible refine tri_load (at7 c M w _) ?_
    | with_reducible refine tri_load (at8 c M w _) ?_
    | with_reducible refine tri_load (at9 c M w _) ?_
    | with_reducible refine tri_store (at10 c M w _ _ _ _ _ _) ?_
    | with_reducible refine tri_load (at10 c M w _ _ _ _ _ _) ?_
    | with_reducible refine tri_store (at11 c M w _ _ _ _ _ _) ?_
    | with_reducible refine tri_load (at11 c M w _ _ _ _ _ _) ?_
    | with_reducible refine tri_store (at12 c M w _ _ _ _ _ _) ?_
    | with_reducible refine tri_load (at12 c M w _ _ _ _ _ _) ?_
    | with_reducible refine tri_store (at13 c M w _ _ _ _ _ _) ?_
    | with_reducible refine tri_load (at13 c M w _ _ _ _ _ _) ?_
    | with_reducible refine tri_store (at14 c M w _ _ _ _ _ _) ?_
    | with_reducible refine tri_load (at14 c M w _ _ _ _ _ _) ?_
    | (with_reducible refine Tri.pure (F := F) (c := c) (E := E) (M := M) (w := w) ?_; dsimp only)
    | with_reducible refine Tri.bind (F := F) (c := c) (E := E) (M := M) (w := w) ?_
    | unfold k0_part2_skel
    | unfold k0_part3_skel
    | unfold k0_part4_skel
    | unfold k0_part5_skel
    | unfold k0_part6_skel
    | unfold k0_part7_skel
    | unfold k0_part8_skel
    | unfold k0_part9_skel
    | unfold k0_part10_skel
    | unfold k0_part11_skel
    | unfold k0_part12_skel
    | unfold k0_part13_skel
    | unfold k0_part14_skel
    | unfold k0_part15_skel
    | unfold k0_part16_skel
    | unfold k0_part17_skel
    | unfold k0_part18_skel
    | unfold k0_part19_skel
  refine Tri.of_eq (s' := ⟨O, keep 1 (rows 1 w (keep 0 X1)),
    fill 1 (fun j => decay w j (conv 1 w (rows 1 w (keep 0 X1)))) (fill 0 (fun j => decay w j (conv 0 w X1)) A 8) 8,
    fill 1 (fun j => drive w j (conv 1 w (rows 1 w (keep 0 X1)))) (fill 0 (fun j => drive w j (conv 0 w X1)) U 8) 8, H⟩) (st_eq ?_ ?_ ?_) ?_
  · rfl
  · rfl
  · rfl
  refine (tri_loop i _ _).mono fun r s' hs => ?_
  obtain ⟨h1, h2⟩ := Prod.mk.inj hs
  subst h2
  subst h1
  repeat
    first
    | with_reducible refine tri_load (at1 c M w _) ?_
    | with_reducible refine tri_load (at2 c M w _) ?_
    | with_reducible refine tri_load (at3 c M w _) ?_
    | with_reducible refine tri_load (at4 c M w _) ?_
    | with_reducible refine tri_load (at5 c M w _) ?_
    | with_reducible refine tri_load (at6 c M w _) ?_
    | with_reducible refine tri_load (at7 c M w _) ?_
    | with_reducible refine tri_load (at8 c M w _) ?_
    | with_reducible refine tri_load (at9 c M w _) ?_
    | with_reducible refine tri_store (at10 c M w _ _ _ _ _ _) ?_
    | with_reducible refine tri_load (at10 c M w _ _ _ _ _ _) ?_
    | with_reducible refine tri_store (at11 c M w _ _ _ _ _ _) ?_
    | with_reducible refine tri_load (at11 c M w _ _ _ _ _ _) ?_
    | with_reducible refine tri_store (at12 c M w _ _ _ _ _ _) ?_
    | with_reducible refine tri_load (at12 c M w _ _ _ _ _ _) ?_
    | with_reducible refine tri_store (at13 c M w _ _ _ _ _ _) ?_
    | with_reducible refine tri_load (at13 c M w _ _ _ _ _ _) ?_
    | with_reducible refine tri_store (at14 c M w _ _ _ _ _ _) ?_
    | with_reducible refine tri_load (at14 c M w _ _ _ _ _ _) ?_
    | (with_reducible refine Tri.pure (F := F) (c := c) (E := E) (M := M) (w := w) ?_; dsimp only)
    | with_reducible refine Tri.bind (F := F) (c := c) (E := E) (M := M) (w := w) ?_
  subst hX1
  exact Tri.pure rfl

end Cert.KernelIdeal.Rglru

end
-- ==== Proof.Rglru.Data.lean ====
module

public import proofs.«01_k».proof.Proof.Rglru.Body

@[expose] public section

set_option maxRecDepth 16384

noncomputable section

namespace Cert.KernelIdeal.Rglru

open Cert.KernelIdeal Cert.KernelIdeal.Gen
open Idealize.ShloMosaic Idealize.ShloMosaic.TcCoe Idealize.ShloMosaic.Tactic
open Idealize.SL Idealize.SL.RA Idealize.SL.BI
open Idealize.ShloMosaic.VecWindow (window put)
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers, whole. -/
abbrev sc0 : Memref sig .tc .vmem S2x264x1024 .f32 := Memref.whole cc0_scratch0
abbrev sc1 : Memref sig .tc .vmem S2x256x1024 .f32 := Memref.whole cc0_scratch1
abbrev sc2 : Memref sig .tc .vmem S2x256x1024 .f32 := Memref.whole cc0_scratch2
abbrev sc3 : Memref sig .tc .vmem S2x1x1024 .f32 := Memref.whole cc0_scratch3

/-- The memrefs of the body at point `t`. -/
def mems (t : Fin cfg0.N) : Mems where
  m1 := win0_0.stage (cfg0.slots t 0)
  h1 := hstage0_0 ((cfg0.slots t 0).cast nbuf0_0)
  m2 := win0_1.stage (cfg0.slots t 1)
  h2 := hstage0_1 ((cfg0.slots t 1).cast nbuf0_1)
  m3 := win0_2.stage (cfg0.slots t 2)
  h3 := hstage0_2 ((cfg0.slots t 2).cast nbuf0_2)
  m4 := win0_3.stage (cfg0.slots t 3)
  h4 := hstage0_3 ((cfg0.slots t 3).cast nbuf0_3)
  m5 := win0_4.stage (cfg0.slots t 4)
  h5 := hstage0_4 ((cfg0.slots t 4).cast nbuf0_4)
  m6 := win0_5.stage (cfg0.slots t 5)
  h6 := hstage0_5 ((cfg0.slots t 5).cast nbuf0_5)
  m7 := win0_6.stage (cfg0.slots t 6)
  h7 := hstage0_6 ((cfg0.slots t 6).cast nbuf0_6)
  m8 := win0_7.stage (cfg0.slots t 7)
  h8 := hstage0_7 ((cfg0.slots t 7).cast nbuf0_7)
  m9 := win0_8.stage (cfg0.slots t 8)
  h9 := hstage0_8 ((cfg0.slots t 8).cast nbuf0_8)
  m10 := win0_9.stage (cfg0.slots t 9)
  h10 := hstage0_9 ((cfg0.slots t 9).cast nbuf0_9)
  m11 := sc0
  h11 := Memref.isWhole_whole _
  m12 := sc1
  h12 := Memref.isWhole_whole _
  m13 := sc2
  h13 := Memref.isWhole_whole _
  m14 := sc3
  h14 := Memref.isWhole_whole _

/-- The input blocks of point `t`. -/
def ins (c : Dev nD) (t : Fin cfg0.N) : Ins F where
  x := iblk m c 0 t
  g := iblk m c 1 t
  cw := iblk m c 2 t
  cb := iblk m c 3 t
  wa := iblk m c 4 t
  ba := iblk m c 5 t
  wi := iblk m c 6 t
  bi := iblk m c 7 t
  lam := iblk m c 8 t

/-- The state after the body at point `t`, from state `s`. -/
def next (c : Dev nD) (t : Fin cfg0.N) (s : St F) : St F := after (ins m c t) (cleared (grid0.coords t) s)

section Data

variable (I : Dev nD → ℕ → St F → Prop) (out : Dev nD → Fin cfg0.N → Vec F S2x256x1024 .bf16)

/-- The pipeline's data: the scratch buffers hold a state for which `I` holds, and the body leaves `out` in the output's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out c t
  Φ n := iprop(∃ s : St F, ⌜I c n.val s⌝ ∗ (owns (c : Thread nD τ) sc0 fullShare s.X ∗ owns (c : Thread nD τ) sc1 fullShare s.A
    ∗ owns (c : Thread nD τ) sc2 fullShare s.U ∗ owns (c : Thread nD τ) sc3 fullShare s.H) ∗ (∃ r, prngReg c r))
  q w := Pipeline.shareOf spec0 w
  owed _ := 0

theorem A_eq (c : Dev nD) (w : Fin cfg0.W) : (dats m I out 0 c).A w = V m c (Pipeline.arrRef spec0 w) := by
  dsimp only [dats]

theorem after0_0 (c : Dev nD) (t : Fin cfg0.N) : (dats m I out 0 c).after 0 t = iblk m c 0 t := by dsimp only [dats]
theorem after0_1 (c : Dev nD) (t : Fin cfg0.N) : (dats m I out 0 c).after 1 t = iblk m c 1 t := by dsimp only [dats]
theorem after0_2 (c : Dev nD) (t : Fin cfg0.N) : (dats m I out 0 c).after 2 t = iblk m c 2 t := by dsimp only [dats]
theorem after0_3 (c : Dev nD) (t : Fin cfg0.N) : (dats m I out 0 c).after 3 t = iblk m c 3 t := by dsimp only [dats]
theorem after0_4 (c : Dev nD) (t : Fin cfg0.N) : (dats m I out 0 c).after 4 t = iblk m c 4 t := by dsimp only [dats]
theorem after0_5 (c : Dev nD) (t : Fin cfg0.N) : (dats m I out 0 c).after 5 t = iblk m c 5 t := by dsimp only [dats]
theorem after0_6 (c : Dev nD) (t : Fin cfg0.N) : (dats m I out 0 c).after 6 t = iblk m c 6 t := by dsimp only [dats]
theorem after0_7 (c : Dev nD) (t : Fin cfg0.N) : (dats m I out 0 c).after 7 t = iblk m c 7 t := by dsimp only [dats]
theorem after0_8 (c : Dev nD) (t : Fin cfg0.N) : (dats m I out 0 c).after 8 t = iblk m c 8 t := by dsimp only [dats]
theorem after0_9 (c : Dev nD) (t : Fin cfg0.N) : (dats m I out 0 c).after 9 t = out c t := by dsimp only [dats]

theorem before0_0 (c : Dev nD) (t : Fin cfg0.N) (d) : (dats m I out 0 c).before 0 t d = iblk m c 0 t :=
  before0_0_of m (dats m I out 0 c) (A_eq m I out c 0) (after0_0 m I out c) t d
theorem before0_1 (c : Dev nD) (t : Fin cfg0.N) (d) : (dats m I out 0 c).before 1 t d = iblk m c 1 t :=
  before0_1_of m (dats m I out 0 c) (A_eq m I out c 1) (after0_1 m I out c) t d
theorem before0_2 (c : Dev nD) (t : Fin cfg0.N) (d) : (dats m I out 0 c).before 2 t d = iblk m c 2 t :=
  before0_2_of m (dats m I out 0 c) (A_eq m I out c 2) (after0_2 m I out c) t d
theorem before0_3 (c : Dev nD) (t : Fin cfg0.N) (d) : (dats m I out 0 c).before 3 t d = iblk m c 3 t :=
  before0_3_of m (dats m I out 0 c) (A_eq m I out c 3) (after0_3 m I out c) t d
theorem before0_4 (c : Dev nD) (t : Fin cfg0.N) (d) : (dats m I out 0 c).before 4 t d = iblk m c 4 t :=
  before0_4_of m (dats m I out 0 c) (A_eq m I out c 4) (after0_4 m I out c) t d
theorem before0_5 (c : Dev nD) (t : Fin cfg0.N) (d) : (dats m I out 0 c).before 5 t d = iblk m c 5 t :=
  before0_5_of m (dats m I out 0 c) (A_eq m I out c 5) (after0_5 m I out c) t d
theorem before0_6 (c : Dev nD) (t : Fin cfg0.N) (d) : (dats m I out 0 c).before 6 t d = iblk m c 6 t :=
  before0_6_of m (dats m I out 0 c) (A_eq m I out c 6) (after0_6 m I out c) t d
theorem before0_7 (c : Dev nD) (t : Fin cfg0.N) (d) : (dats m I out 0 c).before 7 t d = iblk m c 7 t :=
  before0_7_of m (dats m I out 0 c) (A_eq m I out c 7) (after0_7 m I out c) t d
theorem before0_8 (c : Dev nD) (t : Fin cfg0.N) (d) : (dats m I out 0 c).before 8 t d = iblk m c 8 t :=
  before0_8_of m (dats m I out 0 c) (A_eq m I out c 8) (after0_8 m I out c) t d

/-- What the launch hands over: the scratch buffers at any contents and the generator register. -/
theorem PhiA_eq (c : Dev nD) :
    (Pipeline.ΦA spec0 c : sProp 𝕄)
      = iprop(((∃ d, owns (c : Thread nD τ) sc0 fullShare d) ∗ (∃ d, owns (c : Thread nD τ) sc1 fullShare d) ∗ (∃ d, owns (c : Thread nD τ) sc2 fullShare d)
        ∗ (∃ d, owns (c : Thread nD τ) sc3 fullShare d)) ∗ (∃ r, prngReg c r)) := by
  unfold Pipeline.ΦA; rw [scopedRest0_eq]; simp only [owns_whole]; try rfl

/-- The body's triple at point `t`, from any state. -/
theorem body_wp (c : Dev nD) (t : Fin cfg0.N) (s : St F) :
    Bufs c (mems t) (ins m c t) s ⊢ wp frame (wpE (defs₀ (F := F)) Variants.none c none) Set.univ (bodyAt0 t)
      (fun _ => Bufs c (mems t) (ins m c t) (next m c t s)) := by
  refine (show _ ⊢ _ from tri_body (c := c) (E := Set.univ) (M := mems t) (w := ins m c t) (grid0.coords t) s).trans (wp_mono _ _ _ fun r => ?_)
  iintro ⟨%s', %h, H⟩
  subst h
  iexact H

/-- The same, memref by memref. -/
theorem body_wp' (c : Dev nD) (t : Fin cfg0.N) (s : St F) :
    (iprop((owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t))
        ∗ owns (c : Thread nD τ) (st0_9 t) fullShare s.O ∗ owns (c : Thread nD τ) sc0 fullShare s.X ∗ owns (c : Thread nD τ) sc1 fullShare s.A
        ∗ owns (c : Thread nD τ) sc2 fullShare s.U ∗ owns (c : Thread nD τ) sc3 fullShare s.H) : sProp 𝕄)
      ⊢ wp frame (wpE (defs₀ (F := F)) Variants.none (c : Thread nD τ) none) Set.univ (bodyAt0 t)
      (fun _ => iprop((owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t))
        ∗ owns (c : Thread nD τ) (st0_9 t) fullShare (next m c t s).O ∗ owns (c : Thread nD τ) sc0 fullShare (next m c t s).X ∗ owns (c : Thread nD τ) sc1 fullShare (next m c t s).A
        ∗ owns (c : Thread nD τ) sc2 fullShare (next m c t s).U ∗ owns (c : Thread nD τ) sc3 fullShare (next m c t s).H)) :=
  body_wp m c t s

theorem Phi_before (c : Dev nD) (t : Fin cfg0.N) : (dats m I out 0 c).Φ t.castSucc
    = iprop(∃ s : St F, ⌜I c t.val s⌝ ∗ (owns (c : Thread nD τ) sc0 fullShare s.X ∗ owns (c : Thread nD τ) sc1 fullShare s.A
    ∗ owns (c : Thread nD τ) sc2 fullShare s.U ∗ owns (c : Thread nD τ) sc3 fullShare s.H) ∗ (∃ r, prngReg c r)) := by
  dsimp only [dats, Fin.val_castSucc]

theorem Phi_after (c : Dev nD) (t : Fin cfg0.N) : (dats m I out 0 c).Φ t.succ
    = iprop(∃ s : St F, ⌜I c (t.val + 1) s⌝ ∗ (owns (c : Thread nD τ) sc0 fullShare s.X ∗ owns (c : Thread nD τ) sc1 fullShare s.A
    ∗ owns (c : Thread nD τ) sc2 fullShare s.U ∗ owns (c : Thread nD τ) sc3 fullShare s.H) ∗ (∃ r, prngReg c r)) := by
  dsimp only [dats, Fin.val_succ]

variable (hO : ∀ c n (s : St F) O, I c n s → I c n ⟨O, s.X, s.A, s.U, s.H⟩) (hI : ∀ c (t : Fin cfg0.N) s, I c t.val s → I c (t.val + 1) (next m c t s))

include hO hI in
/-- The body at a point: from a state for which `I` holds before, to one for which it holds after, with the block of that state left in
    the output's memref. -/
theorem body_step (c : Dev nD) (t : Fin cfg0.N) :
    iprop((dats m I out 0 c).Φ t.castSucc ∗ (dats m I out 0 c).owesAt () t.castSucc
    ∗ (∃ d, owns (c : Thread nD τ) (st0_0 t) fullShare ((dats m I out 0 c).before 0 t d))
    ∗ (∃ d, owns (c : Thread nD τ) (st0_1 t) fullShare ((dats m I out 0 c).before 1 t d))
    ∗ (∃ d, owns (c : Thread nD τ) (st0_2 t) fullShare ((dats m I out 0 c).before 2 t d))
    ∗ (∃ d, owns (c : Thread nD τ) (st0_3 t) fullShare ((dats m I out 0 c).before 3 t d))
    ∗ (∃ d, owns (c : Thread nD τ) (st0_4 t) fullShare ((dats m I out 0 c).before 4 t d))
    ∗ (∃ d, owns (c : Thread nD τ) (st0_5 t) fullShare ((dats m I out 0 c).before 5 t d))
    ∗ (∃ d, owns (c : Thread nD τ) (st0_6 t) fullShare ((dats m I out 0 c).before 6 t d))
    ∗ (∃ d, owns (c : Thread nD τ) (st0_7 t) fullShare ((dats m I out 0 c).before 7 t d))
    ∗ (∃ d, owns (c : Thread nD τ) (st0_8 t) fullShare ((dats m I out 0 c).before 8 t d))
    ∗ (∃ d, owns (c : Thread nD τ) (st0_9 t) fullShare d))
      ⊢ wp frame (wpE (defs₀ (F := F)) Variants.none c none) Set.univ (bodyAt0 t) (fun _ =>
        iprop((dats m I out 0 c).Φ t.succ ∗ (dats m I out 0 c).owesAt () t.succ
    ∗ owns (c : Thread nD τ) (st0_0 t) fullShare ((dats m I out 0 c).after 0 t)
    ∗ owns (c : Thread nD τ) (st0_1 t) fullShare ((dats m I out 0 c).after 1 t)
    ∗ owns (c : Thread nD τ) (st0_2 t) fullShare ((dats m I out 0 c).after 2 t)
    ∗ owns (c : Thread nD τ) (st0_3 t) fullShare ((dats m I out 0 c).after 3 t)
    ∗ owns (c : Thread nD τ) (st0_4 t) fullShare ((dats m I out 0 c).after 4 t)
    ∗ owns (c : Thread nD τ) (st0_5 t) fullShare ((dats m I out 0 c).after 5 t)
    ∗ owns (c : Thread nD τ) (st0_6 t) fullShare ((dats m I out 0 c).after 6 t)
    ∗ owns (c : Thread nD τ) (st0_7 t) fullShare ((dats m I out 0 c).after 7 t)
    ∗ owns (c : Thread nD τ) (st0_8 t) fullShare ((dats m I out 0 c).after 8 t)
    ∗ (∃ s, ⌜I c t.val s⌝ ∗ owns (c : Thread nD τ) (st0_9 t) fullShare (next m c t s).O))) := by
  simp only [before0_0, before0_1, before0_2, before0_3, before0_4, before0_5, before0_6, before0_7, before0_8, after0_0, after0_1, after0_2, after0_3, after0_4, after0_5, after0_6, after0_7, after0_8]
  rw [show (dats m I out 0 c).owesAt () t.succ = (dats m I out 0 c).owesAt () t.castSucc from rfl]
  rw [Phi_before, Phi_after]
  iintro ⟨⟨%s, %hs, ⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%O, H9⟩⟩
  iapply (wp_wand_r Idealize.ShloMosaic.frame (wpE (defs₀ (F := F)) Variants.none (c : Thread nD τ) none) Set.univ)
  isplitl [S0 S1 S2 S3 H0 H1 H2 H3 H4 H5 H6 H7 H8 H9]
  · iapply (body_wp' m c t ⟨O, s.X, s.A, s.U, s.H⟩)
    iframe
  iintro %r HB
  icases HB with ⟨⟨H0, H1, H2, H3, H4, H5, H6, H7, H8⟩, H9, S0, S1, S2, S3⟩
  isplitl [S0 S1 S2 S3 Hg]
  · iexists (next m c t ⟨O, s.X, s.A, s.U, s.H⟩)
    isplitr; · ipureintro; exact hI c t _ (hO c t.val s O hs)
    iframe
  iframe
  iexists (⟨O, s.X, s.A, s.U, s.H⟩ : St F)
  isplitr; · ipureintro; exact hO c t.val s O hs
  iexact H9

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The window of which nothing is stated: the output's. -/
def hidden : Fin 10 → Bool := fun w => w.val == 9

/-- What is held after the body at point `t`, with `P` of the output's block. -/
def held (c : Dev nD) (t : Fin cfg0.N) (P : sProp 𝕄) : sProp 𝕄 :=
  iprop((dats m I out 0 c).Φ t.succ ∗ (dats m I out 0 c).owesAt () t.succ
    ∗ owns (c : Thread nD τ) (st0_0 t) fullShare ((dats m I out 0 c).after 0 t)
    ∗ owns (c : Thread nD τ) (st0_1 t) fullShare ((dats m I out 0 c).after 1 t)
    ∗ owns (c : Thread nD τ) (st0_2 t) fullShare ((dats m I out 0 c).after 2 t)
    ∗ owns (c : Thread nD τ) (st0_3 t) fullShare ((dats m I out 0 c).after 3 t)
    ∗ owns (c : Thread nD τ) (st0_4 t) fullShare ((dats m I out 0 c).after 4 t)
    ∗ owns (c : Thread nD τ) (st0_5 t) fullShare ((dats m I out 0 c).after 5 t)
    ∗ owns (c : Thread nD τ) (st0_6 t) fullShare ((dats m I out 0 c).after 6 t)
    ∗ owns (c : Thread nD τ) (st0_7 t) fullShare ((dats m I out 0 c).after 7 t)
    ∗ owns (c : Thread nD τ) (st0_8 t) fullShare ((dats m I out 0 c).after 8 t) ∗ P)

theorem held_mono (c : Dev nD) (t : Fin cfg0.N) {P Q : sProp 𝕄} (h : P ⊢ Q) : held m I out c t P ⊢ held m I out c t Q := by
  unfold held
  iintro ⟨HP, Ho, H0, H1, H2, H3, H4, H5, H6, H7, H8, H9⟩
  iframe HP Ho H0 H1 H2 H3 H4 H5 H6 H7 H8
  iapply h
  iexact H9

/-- What is held before the body at point `t`, with `P` of the output's block. -/
def given (c : Dev nD) (t : Fin cfg0.N) (P : sProp 𝕄) : sProp 𝕄 :=
  iprop((dats m I out 0 c).Φ t.castSucc ∗ (dats m I out 0 c).owesAt () t.castSucc
    ∗ (∃ d, owns (c : Thread nD τ) (st0_0 t) fullShare ((dats m I out 0 c).before 0 t d))
    ∗ (∃ d, owns (c : Thread nD τ) (st0_1 t) fullShare ((dats m I out 0 c).before 1 t d))
    ∗ (∃ d, owns (c : Thread nD τ) (st0_2 t) fullShare ((dats m I out 0 c).before 2 t d))
    ∗ (∃ d, owns (c : Thread nD τ) (st0_3 t) fullShare ((dats m I out 0 c).before 3 t d))
    ∗ (∃ d, owns (c : Thread nD τ) (st0_4 t) fullShare ((dats m I out 0 c).before 4 t d))
    ∗ (∃ d, owns (c : Thread nD τ) (st0_5 t) fullShare ((dats m I out 0 c).before 5 t d))
    ∗ (∃ d, owns (c : Thread nD τ) (st0_6 t) fullShare ((dats m I out 0 c).before 6 t d))
    ∗ (∃ d, owns (c : Thread nD τ) (st0_7 t) fullShare ((dats m I out 0 c).before 7 t d))
    ∗ (∃ d, owns (c : Thread nD τ) (st0_8 t) fullShare ((dats m I out 0 c).before 8 t d)) ∗ P)

theorem given_mono (c : Dev nD) (t : Fin cfg0.N) {P Q : sProp 𝕄} (h : P ⊢ Q) : given m I out c t P ⊢ given m I out c t Q := by
  unfold given
  iintro ⟨HP, Ho, H0, H1, H2, H3, H4, H5, H6, H7, H8, H9⟩
  iframe HP Ho H0 H1 H2 H3 H4 H5 H6 H7 H8
  iapply h
  iexact H9

include hO hI in
/-- The obligation with nothing stated of the output's block. -/
theorem body_hidden (c : Dev nD) : BodyObligation (dats m I out 0 c) (defs₀ (F := F)) Variants.none () Set.univ hidden := fun t => by
  rw [bigSep_W0, bigSep_W0, defs₀_row]
  have key : (∃ s, ⌜I c t.val s⌝ ∗ owns (c : Thread nD τ) (st0_9 t) fullShare (next m c t s).O : sProp 𝕄)
      ⊢ iprop(∃ X, owns (c : Thread nD τ) (st0_9 t) fullShare X) := by
    iintro ⟨%s, %hs, H⟩; iexists _; iexact H
  exact triple_restated (body_step m I out hO hI c t) rfl .rfl fun _ => held_mono m I out c t key

include hO hI in
/-- The obligation with the output's block at `out`. -/
theorem body_exact (hout : ∀ c (t : Fin cfg0.N) s, I c t.val s → (next m c t s).O = out c t) (c : Dev nD) :
    BodyObligation (dats m I out 0 c) (defs₀ (F := F)) Variants.none () Set.univ := fun t => by
  rw [bigSep_W0, bigSep_W0, defs₀_row]
  have pre : (∃ d, owns (c : Thread nD τ) (st0_9 t) fullShare ((dats m I out 0 c).before 9 t d) : sProp 𝕄)
      ⊢ iprop(∃ X, owns (c : Thread nD τ) (st0_9 t) fullShare X) := by
    iintro ⟨%d, H⟩; iexists _; iexact H
  have post : (∃ s, ⌜I c t.val s⌝ ∗ owns (c : Thread nD τ) (st0_9 t) fullShare (next m c t s).O : sProp 𝕄)
      ⊢ owns (c : Thread nD τ) (st0_9 t) fullShare ((dats m I out 0 c).after 9 t) := by
    iintro ⟨%s, %hs, H⟩; rw [hout c t s hs, after0_9]; iexact H
  exact triple_restated (body_step m I out hO hI c t) rfl (given_mono m I out c t pre) fun _ => held_mono m I out c t post

/-- Before the first point the scratch buffers hold anything. -/
theorem hin (h0 : ∀ c s, I c 0 s) (c : Dev nD) : Pipeline.ΦA spec0 c ⊢ (dats m I out 0 c).Φ 0 := by
  rw [PhiA_eq]
  dsimp only [dats]
  iintro ⟨⟨⟨%d0, S0⟩, ⟨%d1, S1⟩, ⟨%d2, S2⟩, ⟨%d3, S3⟩⟩, Hg⟩
  iexists (⟨fun _ => Scalar.ofBits .bf16 0, d0, d1, d2, d3⟩ : St F)
  isplitr; · ipureintro; exact h0 c _
  iframe

/-- After the last point what they hold is forgotten. -/
theorem hout' (c : Dev nD) : (dats m I out 0 c).Φ (Fin.last cfg0.N) ⊢ Pipeline.ΦA spec0 c := by
  rw [PhiA_eq]
  dsimp only [dats]
  iintro ⟨%s, %hs, ⟨S0, S1, S2, S3⟩, Hg⟩
  isplitr [Hg]
  · isplitl [S0]; · iexists _; iexact S0
    isplitl [S1]; · iexists _; iexact S1
    isplitl [S2]; · iexists _; iexact S2
    iexists _; iexact S3
  iexact Hg

set_option backward.isDefEq.respectTransparency.types false in
include hO hI in
/-- The run, with nothing stated of the output. -/
theorem run_hidden (h0 : ∀ c s, I c 0 s) : θ_run defs (onTc (τ := τ) (main (F := F))) (s₀ m ρ)
    (fun r => (Pipeline.RDat.FramePost (cfgs 0) (fun c => (dats m I out 0 c).toRForget hidden) (V m)) r ∧ r.2.sem = fun _ => 0) :=
  Pipeline.θ_run_frame_track_forget_shared (Q' := _) cfgs (dats m I out) (0 : Fin 1) launch₀0 defs₀ Variants.none hidden m ρ main
    (hbody := fun c => (body_hidden m I out hO hI c).loose) (hq := fun c w _ => rfl)
    (howed := fun _ _ => rfl) (V := V m) (hmain := hmain m Variants.none) (hA := A_eq m I out) (hin := hin m I out h0) (hout := hout' m I out)

set_option backward.isDefEq.respectTransparency.types false in
include hO hI in
/-- The run, with the output's blocks at `out`. -/
theorem run_exact (h0 : ∀ c s, I c 0 s) (hout : ∀ c (t : Fin cfg0.N) s, I c t.val s → (next m c t s).O = out c t) :
    θ_run defs (onTc (τ := τ) (main (F := F))) (s₀ m ρ) (fun r => Pipeline.FramePost cfgs (dats m I out) 0 (V m) r ∧ r.2.sem = fun _ => 0) :=
  Pipeline.θ_run_frame_track_shared (Q' := _) cfgs (dats m I out) (0 : Fin 1) launch₀0 defs₀ Variants.none m ρ main
    (hbody := fun c => (body_exact m I out hO hI hout c).loose) (hq := fun c w _ => rfl)
    (howed := fun _ _ => rfl) (V := V m) (hmain := hmain m Variants.none) (hA := A_eq m I out) (hin := hin m I out h0) (hout := hout' m I out)

end Data

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨(Pipeline.RDat.FramePost.arr_in h.1 c 1 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)
    (run_hidden m ρ (fun _ _ _ => True) (fun _ _ _ => Scalar.ofBits .bf16 0) (fun _ _ _ _ _ => trivial) (fun _ _ _ _ => trivial) (fun _ _ => trivial))

end Cert.KernelIdeal.Rglru

end
-- ==== Proof.Same.lean ====
/- The kernel as printed for bits is the kernel as printed for extended reals, text for text. -/
module

public import proofs.«01_k».proof.Defs
public import proofs.«01_k».proof.Proof.Gen.Kernel
public import proofs.«01_k».proof.Proof.Gen.KernelIdeal

@[expose] public section

set_option maxRecDepth 100000

noncomputable section

namespace Cert.Same

open Idealize.ShloMosaic Idealize.SL.Sem

variable [Cert.Kernel.Facts] [Cert.KernelIdeal.Facts]
variable {F : FTy → Type} [FloatOps F]

theorem body_eq : @Cert.Kernel.cc0_rglru F _ _ = @Cert.KernelIdeal.cc0_rglru F _ _ := rfl

theorem table_eq : Cert.Kernel.defs₀ (F := F) = Cert.KernelIdeal.defs₀ := by
  unfold Cert.Kernel.defs₀ Cert.KernelIdeal.defs₀
  refine congrArg (Defs.onTc (Λ := Cert.KernelIdeal.Λ₀)) ?_
  funext ℓ a
  match ℓ, a with
  | 0, (t, s) => dsimp only; rw [body_eq]; rfl

theorem defs_eq : Cert.Kernel.defs (F := F) = Cert.KernelIdeal.defs :=
  congrArg (Pipeline.defs Cert.KernelIdeal.pcfgs) table_eq

theorem main_eq : @Cert.Kernel.main F _ _ = @Cert.KernelIdeal.main F _ _ := rfl

end Cert.Same

end
-- ==== Proof.Ref.Lines.lean ====
/- The reference as lists of host operations: the stretch before its loop, the loop's condition and body, and the stretch after it. -/
module

public import proofs.«01_k».proof.ReferenceIdeal
public import proofs.«01_k».proof.Proof.Gen.ReferenceIdeal
public import Idealize.ShloMosaic.Lib.StableHlo.RunHlo
public import Idealize.ShloMosaic.Lib.StableHlo.RunLoop

@[expose] public section

set_option maxRecDepth 16384

noncomputable section

open Idealize.ShloMosaic Idealize.ShloMosaic.StableHlo
open Idealize.SL Idealize.SL.Sem

namespace Cert.ReferenceIdeal.Ref

variable {F : FTy → Type} [FloatOps F]

/-- The reference's host programs. -/
abbrev HostProg (F : FTy → Type) [FloatOps F] := Prog (TpuEff nD τ sig (Elt F) (HostLoop.Sig (Pipeline.Sig Λ₀ (Fin 0) fun p => (pcfgs (F := F) p).Adm) 1) .tc) PUnit

/-- A line, then a line. -/
theorem isSeq_append {p k : HostProg F} {l l' : List (HloOp τ sig (Elt F))} (h : IsSeq p l) (h' : IsSeq k l') :
    IsSeq (p >>= fun _ => k) (l ++ l') := by
  unfold IsSeq at h h' ⊢; rw [h, h', seq_append]

/-- `p` is a line, the loop, then a line. -/
def IsLoop (p : HostProg F) (l l' : List (HloOp τ sig (Elt F))) : Prop :=
  p = seq l >>= fun _ => HostLoop.enter 0 >>= fun _ => seq l'

theorem IsLoop.here {k : HostProg F} {l' : List (HloOp τ sig (Elt F))} (h : IsSeq k l') :
    IsLoop (HostLoop.enter 0 >>= fun _ => k) [] l' := by
  unfold IsLoop; unfold IsSeq at h; rw [h]; rfl

theorem IsLoop.before {p k : HostProg F} {l m l' : List (HloOp τ sig (Elt F))} (h : IsSeq p l) (h' : IsLoop k m l') :
    IsLoop (p >>= fun _ => k) (l ++ m) l' := by
  unfold IsLoop at h' ⊢; unfold IsSeq at h; rw [h, h', seq_append, bind_assoc]

theorem IsLoop.after {p k : HostProg F} {l m l' : List (HloOp τ sig (Elt F))} (h : IsLoop p l m) (h' : IsSeq k l') :
    IsLoop (p >>= fun _ => k) l (m ++ l') := by
  unfold IsLoop at h ⊢; unfold IsSeq at h'; rw [h, h', seq_append, bind_assoc, bind_assoc]

theorem IsLoop.step {op : HloOp τ sig (Elt F)} {k : HostProg F} {m l' : List (HloOp τ sig (Elt F))} (h : IsLoop k m l') :
    IsLoop ((hlo rfl op fun _ => .ret (⟨⟩ : PUnit)) >>= fun _ => k) (op :: m) l' := by
  unfold IsLoop at h ⊢; rw [h]; rfl

theorem isSeq_last {op : HloOp τ sig (Elt F)} :
    IsSeq (hlo rfl op fun _ => .ret (⟨⟩ : PUnit) : HostProg F) [op] := by
  unfold IsSeq seq seq; rfl

/-- The line that a proof of `IsSeq` finds. -/
def lineOf {p : HostProg F} {l : List (HloOp τ sig (Elt F))} (h : IsSeq p l) : {l : List (HloOp τ sig (Elt F)) // IsSeq p l} := ⟨l, h⟩

/-- The two lines that a proof of `IsLoop` finds. -/
def linesOf {p : HostProg F} {l l' : List (HloOp τ sig (Elt F))} (h : IsLoop p l l') :
    {l : List (HloOp τ sig (Elt F)) × List (HloOp τ sig (Elt F)) // IsLoop p l.1 l.2} := ⟨(l, l'), h⟩

/-- The operations of `main_part0`. -/
def part0 (c : Dev nD) : {l : List (HloOp τ sig (Elt F)) // IsSeq (main_part0 (F := F) c) l} := by
  apply lineOf
  unfold main_part0
  repeat (first | exact IsSeq.nil | exact isSeq_last | apply IsSeq.cons | (apply isSeq_append; · unfold fn_pad.body; hlo_seq))

/-- The operations of `main_part1`, before its loop and after. -/
def part1 (c : Dev nD) : {l : List (HloOp τ sig (Elt F)) × List (HloOp τ sig (Elt F)) // IsLoop (main_part1 (F := F) c) l.1 l.2} := by
  apply linesOf
  unfold main_part1
  repeat (first | apply IsLoop.step | apply IsLoop.here | (apply IsLoop.before; · unfold fn_softplus.body; hlo_seq))
  repeat (first | exact IsSeq.nil | exact isSeq_last | apply IsSeq.cons)

/-- The operations of `main_part2`. -/
def part2 (c : Dev nD) : {l : List (HloOp τ sig (Elt F)) // IsSeq (main_part2 (F := F) c) l} := by
  apply lineOf
  unfold main_part2
  hlo_seq

/-- The operations of one trip of the loop. -/
def trip : {l : List (HloOp τ sig (Elt F)) // IsSeq (main_while0_body (F := F)) l} := by
  apply lineOf
  unfold main_while0_body
  repeat (first | exact IsSeq.nil | apply IsSeq.cons | (apply isSeq_append; (first | (unfold fn_dynamic_index_in_dim.body; hlo_seq) | (unfold fn_dynamic_update_index_in_dim.body; hlo_seq))))

theorem main_isLoop (c : Dev nD) :
    IsLoop (main (F := F) c) ((part0 c).1 ++ (part1 c).1.1) ((part1 c).1.2 ++ (part2 c).1) := by
  unfold main
  exact .before (part0 c).2 ((part1 c).2.after (part2 c).2)

/-- The loop's condition's operations. -/
def test : List (HloOp τ sig (Elt F)) :=
  [StableHlo.nullary main_while0c_c_17 (constantI S_ 32 16384#32),
    StableHlo.binary main_v86_2 main_while0c_c_17 main_while0c_v104 (cmpi .slt : (⟨S_, .i32⟩ : BufTy).Contents (Elt F) → (⟨S_, .i32⟩ : BufTy).Contents (Elt F) → (⟨S_, .i1⟩ : BufTy).Contents (Elt F))]

end Cert.ReferenceIdeal.Ref

end
-- ==== Proof.Ref.Run.lean ====
/- The reference's run: its loop makes 16384 trips, and its arguments end unchanged. -/
module

public import proofs.«01_k».proof.Proof.Ref.Lines
public import Idealize.ShloMosaic.Lib.DynamicIndex
public import Idealize.ShloMosaic.Lib.StableHlo.RunClose
public import Idealize.ShloMosaic.Lib.StableHlo.ReadAt
public import Idealize.ShloMosaic.Lib.Quiescent

@[expose] public section

set_option maxRecDepth 16384

noncomputable section

open Idealize.ShloMosaic Idealize.ShloMosaic.StableHlo
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (sub_ucRefs)

namespace Cert.ReferenceIdeal.Ref

variable {F : FTy → Type} [FloatOps F]
variable [Facts]
open Facts₀

/-- What one trip does to the buffers. -/
abbrev turn (V : Valuation τ sig (Elt F)) : Valuation τ sig (Elt F) := after trip.1 (after test V)

/-- The arguments. -/
def args : List (Ref sig .tc) := [main_arg0, main_arg1, main_arg2, main_arg3, main_arg4, main_arg5, main_arg6, main_arg7]

theorem keep_before (c : Dev nD) (V : Valuation τ sig (Elt F)) (b : Ref sig .tc) (hb : b ∈ args) :
    after ((part0 c).1 ++ (part1 c).1.1) V (Proc.devRef .tc b) = V (Proc.devRef .tc b) := by
  unfold part0 part1 lineOf linesOf
  dsimp only [List.cons_append, List.nil_append]
  simp only [args, List.mem_cons, List.not_mem_nil, or_false] at hb
  rcases hb with rfl | rfl | rfl | rfl | rfl | rfl | rfl | rfl <;> after_results

theorem keep_after (c : Dev nD) (V : Valuation τ sig (Elt F)) (b : Ref sig .tc) (hb : b ∈ args) :
    after ((part1 c).1.2 ++ (part2 c).1) V (Proc.devRef .tc b) = V (Proc.devRef .tc b) := by
  unfold part1 part2 lineOf linesOf
  dsimp only [List.cons_append, List.nil_append]
  simp only [args, List.mem_cons, List.not_mem_nil, or_false] at hb
  rcases hb with rfl | rfl | rfl | rfl | rfl | rfl | rfl | rfl <;> after_results

theorem keep_turn (V : Valuation τ sig (Elt F)) (b : Ref sig .tc) (hb : b ∈ args) :
    turn V (Proc.devRef .tc b) = V (Proc.devRef .tc b) := by
  unfold turn test trip lineOf
  dsimp only [List.cons_append, List.nil_append]
  simp only [args, List.mem_cons, List.not_mem_nil, or_false] at hb
  rcases hb with rfl | rfl | rfl | rfl | rfl | rfl | rfl | rfl <;> after_results

theorem turn_0 (V : Valuation τ sig (Elt F)) : turn V (Proc.devRef .tc main_v86_0) = V (Proc.devRef .tc main_v86_0) := by
  unfold turn test trip lineOf
  dsimp only [List.cons_append, List.nil_append]
  after_results

theorem turn_1 (V : Valuation τ sig (Elt F)) : turn V (Proc.devRef .tc main_v86_1) = V (Proc.devRef .tc main_v86_1) := by
  unfold turn test trip lineOf
  dsimp only [List.cons_append, List.nil_append]
  after_results

theorem turn_2 (V : Valuation τ sig (Elt F)) : turn V (Proc.devRef .tc main_v86_2)
    = addi (V (Proc.devRef .tc main_v86_2) : IVec S_ 32) (constantI S_ 32 1#32) := by
  unfold turn test trip lineOf
  dsimp only [List.cons_append, List.nil_append]
  after_results
  rfl

/-- The row of `X` that an index array of one word names. -/
abbrev rowAt (X : FVec F S16384x2x1024 .f32) (i : IVec S_ 32) : FVec F S2x1024 .f32 :=
  shapeCast S2x1024 (Host.dynamicSlice S1x2x1024 X
    (fun k => BitVec.toInt ((![i, constantI S_ 32 0#32, constantI S_ 32 0#32] : Fin 3 → IVec S_ 32) k (Shape.Idx.first h_S_))) sliceFits_S16384x2x1024_S1x2x1024)
    shapeCasts_S1x2x1024_S2x1024

/-- One step of the recurrence: the state times the decay, plus the input. -/
abbrev stepAt (A U : FVec F S16384x2x1024 .f32) (i : IVec S_ 32) (h : FVec F S2x1024 .f32) : FVec F S2x1024 .f32 :=
  addf (mulf (rowAt A i) h) (rowAt U i)

theorem turn_3 (V : Valuation τ sig (Elt F)) : turn V (Proc.devRef .tc main_v86_3)
    = stepAt (V (Proc.devRef .tc main_v86_0)) (V (Proc.devRef .tc main_v86_1)) (V (Proc.devRef .tc main_v86_2)) (V (Proc.devRef .tc main_v86_3)) := by
  unfold turn test trip lineOf
  dsimp only [List.cons_append, List.nil_append]
  after_results_simp_entrywise
  rfl

theorem turn_4 (V : Valuation τ sig (Elt F)) : turn V (Proc.devRef .tc main_v86_4)
    = Host.dynamicUpdateSlice (V (Proc.devRef .tc main_v86_4) : FVec F S16384x2x1024 .f32)
        (broadcastInDim S1x2x1024 ![1, 2] bcast_S2x1024_S1x2x1024_1_2
          (stepAt (V (Proc.devRef .tc main_v86_0)) (V (Proc.devRef .tc main_v86_1)) (V (Proc.devRef .tc main_v86_2)) (V (Proc.devRef .tc main_v86_3))))
        (fun k => BitVec.toInt ((![V (Proc.devRef .tc main_v86_2), constantI S_ 32 0#32, constantI S_ 32 0#32] : Fin 3 → IVec S_ 32) k (Shape.Idx.first h_S_)))
        updateFits_S16384x2x1024_S1x2x1024 := by
  unfold turn test trip lineOf
  dsimp only [List.cons_append, List.nil_append]
  after_results_simp_entrywise
  rfl

theorem enter_2 (V : Valuation τ sig (Elt F)) :
    after ((part0 0).1 ++ (part1 0).1.1) V (Proc.devRef .tc main_v86_2) = constantI S_ 32 0#32 := by
  unfold part0 part1 lineOf linesOf
  dsimp only [List.cons_append, List.nil_append]
  after_results
  rfl

variable (m : (ℓ : Loc nD τ sig) → Buf (Elt F) ℓ) (ρ : Dev nD → PrngReg)

/-- Every buffer's contents before the loop's `k`-th test. -/
abbrev at_ (k : ℕ) (c : Dev nD) : Valuation τ sig (Elt F) :=
  atTrip test [trip.1] (entryContents [(part0 0).1 ++ (part1 0).1.1] m) k c

theorem at_succ (k : ℕ) (c : Dev nD) : at_ m (k + 1) c = turn (at_ m k c) := rfl

/-- The counter counts the trips. -/
theorem at_2 (k : ℕ) (c : Dev nD) : at_ m k c (Proc.devRef .tc main_v86_2) = constantI S_ 32 (BitVec.ofNat 32 k) := by
  induction k with
  | zero => exact enter_2 (launchContents m c)
  | succ k ih =>
    rw [at_succ, turn_2, ih]
    funext j
    show BitVec.ofNat 32 k + 1#32 = BitVec.ofNat 32 (k + 1)
    rw [BitVec.ofNat_add]

/-- The decays and the inputs stay as they were. -/
theorem at_0 (k : ℕ) (c : Dev nD) : at_ m k c (Proc.devRef .tc main_v86_0) = at_ m 0 c (Proc.devRef .tc main_v86_0) := by
  induction k with
  | zero => rfl
  | succ k ih => rw [at_succ, turn_0, ih]

theorem at_1 (k : ℕ) (c : Dev nD) : at_ m k c (Proc.devRef .tc main_v86_1) = at_ m 0 c (Proc.devRef .tc main_v86_1) := by
  induction k with
  | zero => rfl
  | succ k ih => rw [at_succ, turn_1, ih]

theorem at_args (k : ℕ) (c : Dev nD) (b : Ref sig .tc) (hb : b ∈ args) :
    at_ m k c (Proc.devRef .tc b) = m ((c.tc : Thread nD τ).loc b) := by
  induction k with
  | zero => exact keep_before 0 (launchContents m c) b hb
  | succ k ih => rw [at_succ, keep_turn _ _ hb, ih]

/-- The test succeeds before trips 0 to 16383. -/
theorem test_iff (k : ℕ) (hk : k ≤ 16384) : IntOp.cmpi .slt (BitVec.ofNat 32 k) 16384#32 = 1#1 ↔ k < 16384 := by
  have h : (BitVec.ofNat 32 k).slt 16384#32 = decide (k < 16384) := by
    rw [BitVec.slt, toInt_ofNat_of_lt (by omega), show (16384#32).toInt = 16384 from rfl]
    simp
  show BitVec.ofBool ((BitVec.ofNat 32 k).slt 16384#32) = 1#1 ↔ _
  rw [h]
  by_cases hk' : k < 16384 <;> simp [hk']

set_option backward.isDefEq.respectTransparency.types false in
theorem cond_spec : CondSpec (pcfgs (F := F)) defs₀ loops main_while0_cond test [trip.1]
    (entryContents [(part0 0).1 ++ (part1 0).1.1] m) 16384 := fun k hk c bd => by
  have hctr : atTrip test [trip.1] (entryContents [(part0 0).1 ++ (part1 0).1.1] m) k c (Proc.devRef .tc main_v86_2) = constantI S_ 32 (BitVec.ofNat 32 k) := at_2 m k c
  unfold main_while0_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip test [trip.1] (entryContents [(part0 0).1 ++ (part1 0).1.1] m) k c) main_v86_2 HostLoop.idx0)
        (HloOp.result _ (atTrip test [trip.1] (entryContents [(part0 0).1 ++ (part1 0).1.1] m) k c) main_while0c_c_17 HostLoop.idx0) = 1#1) (k < 16384)
    rw [StableHlo.nullary_result_ne _ _ _ _ (by decide), StableHlo.nullary_result, hctr]
    exact test_iff k hk
  isplitl [Hb]; · iexact Hb
  unfold test; rw [StableHlo.after_cons, StableHlo.after_cons, StableHlo.after_nil]; iexact Hh

/-- Every buffer's contents at the end. -/
abbrev final (c : Dev nD) : Valuation τ sig (Elt F) :=
  after ((part1 0).1.2 ++ (part2 0).1) (after test (at_ m 16384 c))

theorem plain_before : Plain [(part0 (F := F) 0).1 ++ (part1 0).1.1] := by
  unfold part0 part1 lineOf linesOf
  dsimp only [List.cons_append, List.nil_append]
  refine .cons ?_ .nil
  simp only [List.forall_cons, List.Forall, nullary_bufs_sub, unary_bufs_sub, binary_bufs_sub, reshape_bufs_sub, ternary_bufs_sub, unaryIndexed_bufs_sub, binaryIndexed_bufs_sub, TRef.nullary, TRef.unary, TRef.binary, TRef.ternary, TRef.reshape, TRef.unaryIndexed, TRef.binaryIndexed, and_true, true_and]

theorem plain_trip : Plain [(trip (F := F)).1] := by
  unfold trip lineOf
  dsimp only [List.cons_append, List.nil_append]
  refine .cons ?_ .nil
  simp only [List.forall_cons, List.Forall, nullary_bufs_sub, unary_bufs_sub, binary_bufs_sub, reshape_bufs_sub, ternary_bufs_sub, unaryIndexed_bufs_sub, binaryIndexed_bufs_sub, TRef.nullary, TRef.unary, TRef.binary, TRef.ternary, TRef.reshape, TRef.unaryIndexed, TRef.binaryIndexed, and_true, true_and]

theorem plain_after : Plain [(part1 (F := F) 0).1.2 ++ (part2 0).1] := by
  unfold part1 part2 lineOf linesOf
  dsimp only [List.cons_append, List.nil_append]
  refine .cons ?_ .nil
  simp only [List.forall_cons, List.Forall, nullary_bufs_sub, unary_bufs_sub, binary_bufs_sub, reshape_bufs_sub, ternary_bufs_sub, unaryIndexed_bufs_sub, binaryIndexed_bufs_sub, TRef.nullary, TRef.unary, TRef.binary, TRef.ternary, TRef.reshape, TRef.unaryIndexed, TRef.binaryIndexed, and_true, true_and]

theorem run_all [∀ e, Nonempty (Elt F e)] : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  run_loop (pcfgs (F := F)) defs₀ loops main 0 main_while0_cond main_while0_body rfl
    [(part0 0).1 ++ (part1 0).1.1] [trip.1] [(part1 0).1.2 ++ (part2 0).1] test
    plain_before plain_trip plain_after
    (fun c => by
      obtain rfl : c = 0 := Subsingleton.elim _ _
      exact main_isLoop 0)
    trip.2
    16384 m ρ (cond_spec m)

theorem final_args (c : Dev nD) (b : Ref sig .tc) (hb : b ∈ args) : final m c (Proc.devRef .tc b) = m ((c.tc : Thread nD τ).loc b) := by
  unfold final
  rw [keep_after 0 _ b hb]
  refine Eq.trans ?_ (at_args m 16384 c b hb)
  unfold test
  simp only [args, List.mem_cons, List.not_mem_nil, or_false] at hb
  rcases hb with rfl | rfl | rfl | rfl | rfl | rfl | rfl | rfl <;> after_results

/-- The run: the result is the last buffer's composed contents, the arguments end unchanged, and every counter ends at zero. -/
theorem run_main [∀ e, Nonempty (Elt F e)] : θ_run (defs (F := F)) (onTc (τ := τ) (main (F := F))) ⟨m, fun _ => 0, ρ⟩ (fun r => (∀ c : Dev nD,
      r.2.mem ((c.tc : Thread nD τ).loc main_v103) = final m c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run (defs (F := F)) _ _).mono (fun _ h => ⟨fun c =>
    ⟨h c main_v103 (by decide), (h c main_arg0 (by decide)).trans (final_args m c _ (by decide)),
      (h c main_arg1 (by decide)).trans (final_args m c _ (by decide)), (h c main_arg2 (by decide)).trans (final_args m c _ (by decide)),
      (h c main_arg3 (by decide)).trans (final_args m c _ (by decide)), (h c main_arg4 (by decide)).trans (final_args m c _ (by decide)),
      (h c main_arg5 (by decide)).trans (final_args m c _ (by decide)), (h c main_arg6 (by decide)).trans (final_args m c _ (by decide)),
      (h c main_arg7 (by decide)).trans (final_args m c _ (by decide))⟩, sem_eq_zero_of_no_sems (by decide) _⟩)
    (run_all m ρ)

end Cert.ReferenceIdeal.Ref

end
-- ==== Proof.Spec.lean ====
/- The recurrent block's mathematics, number by number: the causal convolution, the gates, the decays, the driven
   inputs, the recurrence, and the gelu product. -/
module

public import Idealize.ShloMosaic.Lib.Pointwise

@[expose] public section

set_option maxRecDepth 16384

noncomputable section

namespace Cert.Spec

open Idealize.ShloMosaic

/-- The block's inputs: the two halves of the projection by sequence, row and column, and the weights. -/
structure Nums where
  x : Fin 2 → ℕ → Fin 1024 → EReal
  g : Fin 2 → ℕ → Fin 1024 → EReal
  cw : Fin 4 → Fin 1024 → EReal
  cb : Fin 1024 → EReal
  wa : Fin 8 → Fin 128 → Fin 128 → EReal
  ba : Fin 1024 → EReal
  wi : Fin 8 → Fin 128 → Fin 128 → EReal
  bi : Fin 1024 → EReal
  lam : Fin 1024 → EReal

/-- Column `l` of head `j`. -/
def col (j : Fin 8) (l : Fin 128) : Fin 1024 := ⟨128 * j.val + l.val, by omega⟩

/-- The head of a column, and its place in it. -/
def head (d : Fin 1024) : Fin 8 := ⟨d.val / 128, by omega⟩
def place (d : Fin 1024) : Fin 128 := ⟨d.val % 128, by omega⟩

theorem col_head (d : Fin 1024) : col (head d) (place d) = d := Fin.ext (Nat.div_add_mod d.val 128)
theorem head_col (j : Fin 8) (l : Fin 128) : head (col j l) = j := Fin.ext (by show (128 * j.val + l.val) / 128 = j.val; omega)
theorem place_col (j : Fin 8) (l : Fin 128) : place (col j l) = l := Fin.ext (by show (128 * j.val + l.val) % 128 = l.val; omega)

variable (N : Nums)

/-- The input rows after eight rows of zeros. -/
def padded (b : Fin 2) (k : ℕ) (d : Fin 1024) : EReal := if k < 8 then 0 else N.x b (k - 8) d

/-- The causal convolution. -/
def conv (b : Fin 2) (r : ℕ) (d : Fin 1024) : EReal :=
  N.cb d + N.cw 0 d * padded N b (r + 5) d + N.cw 1 d * padded N b (r + 6) d + N.cw 2 d * padded N b (r + 7) d + N.cw 3 d * padded N b (r + 8) d

/-- A gate: the convolution's row against the head's matrix, and the bias. -/
def gate (W : Fin 8 → Fin 128 → Fin 128 → EReal) (B : Fin 1024 → EReal) (b : Fin 2) (r : ℕ) (j : Fin 8) (l : Fin 128) : EReal :=
  Ideal.logistic (∑ k : Fin 128, conv N b r (col j k) * W j k l + B (col j l))

/-- The softplus of the negated parameter. -/
def soft (d : Fin 1024) : EReal := max (0 - N.lam d) 0 + Ideal.log1p (Ideal.exp (0 - FloatOps.absf (F := Ideal) (φ := .f32) (0 - N.lam d)))

/-- The decay. -/
def decay (b : Fin 2) (r : ℕ) (j : Fin 8) (l : Fin 128) : EReal :=
  Ideal.exp (gate N N.wa N.ba b r j l * (Ideal.ofBits .f32 0xC1000000#32 * soft N (col j l)))

/-- The gated and normalised input. -/
def drive (b : Fin 2) (r : ℕ) (j : Fin 8) (l : Fin 128) : EReal :=
  Ideal.sqrt (1 - decay N b r j l * decay N b r j l) * (gate N N.wi N.bi b r j l * conv N b r (col j l))

/-- The state after the first `n` rows. -/
def state (b : Fin 2) (d : Fin 1024) : ℕ → EReal
  | 0 => 0
  | n + 1 => decay N b n (head d) (place d) * state b d n + drive N b n (head d) (place d)

/-- The gelu of a number, by its tanh formula. -/
def gelu (v : EReal) : EReal :=
  v * (Ideal.ofBits .f32 0x3F000000#32 * (1 + Ideal.tanh (Ideal.ofBits .f32 0x3F4C422A#32 * (v + Ideal.ofBits .f32 0x3D372713#32 * (v * (v * v))))))

/-- The block's output. -/
def out (b : Fin 2) (r : ℕ) (d : Fin 1024) : EReal := gelu (N.g b r d) * state N b d (r + 1)

end Cert.Spec

end
-- ==== Proof.Ref.Value.lean ====
/- The reference's result is the block's mathematics of its arguments. -/
module

public import proofs.«01_k».proof.Proof.Ref.Run
public import proofs.«01_k».proof.Proof.Spec
public import Idealize.ShloMosaic.Lib.Pointwise
public import Idealize.ShloMosaic.Lib.WordCmp

@[expose] public section

set_option maxRecDepth 16384

noncomputable section

open Idealize.ShloMosaic Idealize.ShloMosaic.StableHlo
open Idealize.ShloMosaic.TcCoe Idealize.ShloMosaic.Tactic
open Idealize.SL Idealize.SL.Sem

namespace Cert.ReferenceIdeal.Ref

variable [Facts]
open Facts₀

/-! ## Two laws of the extended reals -/

theorem ofBits_two : Ideal.ofBits .f32 0x40000000#32 = ((2 : ℝ) : EReal) := by
  simp [Ideal.ofBits, Ideal.ieee, -EReal.coe_mul]; norm_num

/-- One minus a squared exponential, as the reference writes it. -/
theorem neg_expm1 (x : EReal) : -(Ideal.exp (Ideal.ofBits .f32 0x40000000#32 * x) - 1) = 1 - Ideal.exp x * Ideal.exp x := by
  rw [ofBits_two]
  induction x with
  | bot =>
    rw [EReal.coe_mul_bot_of_pos (by norm_num)]
    show -((0 : EReal) - 1) = 1 - 0 * 0
    simp
  | top =>
    rw [EReal.coe_mul_top_of_pos (by norm_num)]
    show -((⊤ : EReal) - 1) = 1 - ⊤ * ⊤
    rw [EReal.top_mul_top]
    rfl
  | coe x =>
    show -(((Real.exp (2 * x) : ℝ) : EReal) - ((1 : ℝ) : EReal)) = ((1 : ℝ) : EReal) - ((Real.exp x : ℝ) : EReal) * ((Real.exp x : ℝ) : EReal)
    rw [← EReal.coe_sub, ← EReal.coe_neg, ← EReal.coe_mul, ← EReal.coe_sub, ← Real.exp_add, ← two_mul, neg_sub]

/-- The bias first or last. -/
theorem bias_first (a b c e z : EReal) : a + b + c + e + z = z + a + b + c + e := by
  rw [add_comm _ z]
  simp only [add_assoc]

/-! ## What the arrays hold before the loop -/

/-- The block's inputs, out of the arguments' buffers. -/
def numsOf (V : Valuation τ sig (Elt Ideal)) : Spec.Nums where
  x b r d := if h : r < 16384 then V (Proc.devRef .tc main_arg0) (ix3 b ⟨r, h⟩ ⟨3072 + d.val, by omega⟩) else 0
  g b r d := if h : r < 16384 then V (Proc.devRef .tc main_arg0) (ix3 b ⟨r, h⟩ ⟨4096 + d.val, by omega⟩) else 0
  cw k d := V (Proc.devRef .tc main_arg1) (ix3 0 k d)
  cb d := V (Proc.devRef .tc main_arg2) (ix2 0 d)
  wa j k l := V (Proc.devRef .tc main_arg3) (ix4 0 j k l)
  ba d := V (Proc.devRef .tc main_arg4) (ix2 0 d)
  wi j k l := V (Proc.devRef .tc main_arg5) (ix4 0 j k l)
  bi d := V (Proc.devRef .tc main_arg6) (ix2 0 d)
  lam d := V (Proc.devRef .tc main_arg7) (ix2 0 d)

/-- The operations up to the convolution's result. -/
abbrev convOps : List (HloOp τ sig (Elt Ideal)) := ((part0 0).1 ++ (part1 0).1.1).take 40

/-- The operations from there to the loop. -/
abbrev gateOps : List (HloOp τ sig (Elt Ideal)) := ((part0 0).1 ++ (part1 0).1.1).drop 40

theorem split (V : Valuation τ sig (Elt Ideal)) : after ((part0 0).1 ++ (part1 0).1.1) V = after gateOps (after convOps V) := by
  rw [← after_append, List.take_append_drop]

theorem keep_conv (V : Valuation τ sig (Elt Ideal)) (b : Ref sig .tc) (hb : b ∈ args) :
    after convOps V (Proc.devRef .tc b) = V (Proc.devRef .tc b) := by
  unfold convOps part0 part1 lineOf linesOf
  dsimp only [List.cons_append, List.nil_append, List.take]
  simp only [args, List.mem_cons, List.not_mem_nil, or_false] at hb
  rcases hb with rfl | rfl | rfl | rfl | rfl | rfl | rfl | rfl <;> after_results

/-- An input row after the zeros. -/
theorem padded_at (V : Valuation τ sig (Elt Ideal)) (b : Fin 2) (k : ℕ) (r : Fin 16384) (d : Fin 1024) (hk : k ≤ 3) (z : EReal) (hz : z = 0) :
    (if h : 3 ≤ k + r.val ∧ k + r.val - 3 < 16384 then V (Proc.devRef .tc main_arg0) (ix3 b ⟨k + r.val - 3, h.2⟩ ⟨3072 + d.val, by omega⟩) else z)
      = Spec.padded (numsOf V) b (r.val + (k + 5)) d := by
  have hr := r.isLt
  unfold Spec.padded numsOf
  dsimp only
  by_cases h : 3 ≤ k + r.val
  · rw [dif_pos ⟨h, by omega⟩, if_neg (by omega), dif_pos (by omega)]
    congr 2
    exact Fin.ext (by show k + r.val - 3 = r.val + (k + 5) - 8; omega)
  · rw [dif_neg (fun hh => h hh.1), if_pos (by omega), hz]

theorem conv_at (V : Valuation τ sig (Elt Ideal)) (b : Fin 2) (r : Fin 16384) (d : Fin 1024) :
    after convOps V (Proc.devRef .tc main_v36) (ix3 b r d) = Spec.conv (numsOf V) b r.val d := by
  have hz : (FloatOps.sitofp (F := Ideal) FTy.f32 0#32 : EReal) = 0 := by
    show ((((0#32 : BitVec 32).toInt : ℝ)) : EReal) = 0
    simp
  have p0 := padded_at V b 0 r d (by omega) _ hz
  have p1 := padded_at V b 1 r d (by omega) _ hz
  have p2 := padded_at V b 2 r d (by omega) _ hz
  have p3 := padded_at V b 3 r d (by omega) _ hz
  unfold Spec.conv
  rw [← p0, ← p1, ← p2, ← p3]
  unfold convOps part0 part1 lineOf linesOf
  dsimp only [List.cons_append, List.nil_append, List.take]
  after_reads_at
  simp only [numsOf]
  exact bias_first _ _ _ _ _

/-- What the gates and the recurrence read: the convolution, the matrices and the biases. -/
structure Ready (N : Spec.Nums) (W : Valuation τ sig (Elt Ideal)) : Prop where
  y : ∀ (b : Fin 2) (r : Fin 16384) (d : Fin 1024), W (Proc.devRef .tc main_v36) (ix3 b r d) = Spec.conv N b r.val d
  wa : ∀ (j : Fin 8) (k l : Fin 128), W (Proc.devRef .tc main_arg3) (ix4 0 j k l) = N.wa j k l
  ba : ∀ d : Fin 1024, W (Proc.devRef .tc main_arg4) (ix2 0 d) = N.ba d
  wi : ∀ (j : Fin 8) (k l : Fin 128), W (Proc.devRef .tc main_arg5) (ix4 0 j k l) = N.wi j k l
  bi : ∀ d : Fin 1024, W (Proc.devRef .tc main_arg6) (ix2 0 d) = N.bi d
  lam : ∀ d : Fin 1024, W (Proc.devRef .tc main_arg7) (ix2 0 d) = N.lam d

theorem ready (V : Valuation τ sig (Elt Ideal)) : Ready (numsOf V) (after convOps V) := by
  refine ⟨conv_at V, fun j k l => ?_, fun d => ?_, fun j k l => ?_, fun d => ?_, fun d => ?_⟩
  · rw [keep_conv V main_arg3 (by decide)]; rfl
  · rw [keep_conv V main_arg4 (by decide)]; rfl
  · rw [keep_conv V main_arg5 (by decide)]; rfl
  · rw [keep_conv V main_arg6 (by decide)]; rfl
  · rw [keep_conv V main_arg7 (by decide)]; rfl

variable {N : Spec.Nums} {W : Valuation τ sig (Elt Ideal)}

/-- A gate, as the reference spells it. -/
theorem gate_eq (w : Fin 8 → Fin 128 → Fin 128 → EReal) (B : Fin 1024 → EReal) (b : Fin 2) (r : ℕ) (d : Fin 1024)
    (hk : ∀ k : Fin 128, d.val / 128 * 128 + k.val < 1024) (hj : d.val / 128 < 8) (hl : d.val % 128 < 128) :
    Ideal.div 1 (1 + Ideal.exp (-(∑ k : Fin 128, w ⟨d.val / 128, hj⟩ k ⟨d.val % 128, hl⟩ * Spec.conv N b r ⟨d.val / 128 * 128 + k.val, hk k⟩ + B d)))
      = Spec.gate N w B b r (Spec.head d) (Spec.place d) := by
  unfold Spec.gate
  rw [Spec.col_head]
  refine congrArg Ideal.logistic (congrArg (· + B d) (Finset.sum_congr rfl fun k _ => ?_))
  rw [mul_comm]
  refine congrArg (Spec.conv N b r · * _) (Fin.ext ?_)
  show d.val / 128 * 128 + k.val = 128 * (d.val / 128) + k.val
  omega

/-- The logarithm of the decay, as the reference spells it. -/
theorem rate_eq (g l : EReal) :
    Ideal.ofBits .f32 0xC1000000#32 * g * (if -l ≠ -l then -l else max (-l) 0 + Ideal.log1p (Ideal.exp (-FloatOps.absf (F := Ideal) (φ := .f32) (-l))))
      = g * (Ideal.ofBits .f32 0xC1000000#32 * (max (0 - l) 0 + Ideal.log1p (Ideal.exp (0 - FloatOps.absf (F := Ideal) (φ := .f32) (0 - l))))) := by
  rw [if_neg (fun hh => hh rfl), zero_sub, zero_sub, mul_comm (Ideal.ofBits .f32 0xC1000000#32) g, mul_assoc]

theorem decay_at (h : Ready N W) (b : Fin 2) (r : Fin 16384) (d : Fin 1024) :
    after gateOps W (Proc.devRef .tc main_v86_0) (ix3 r b d) = Spec.decay N b r.val (Spec.head d) (Spec.place d) := by
  have hg := gate_eq (N := N) N.wa N.ba b r.val d
  obtain ⟨z, hz⟩ : ∃ z, z = Spec.decay N b r.val (Spec.head d) (Spec.place d) := ⟨_, rfl⟩
  rw [← hz]
  unfold Spec.decay Spec.soft at hz
  rw [Spec.col_head, ← rate_eq] at hz
  unfold gateOps part0 part1 lineOf linesOf
  dsimp only [List.cons_append, List.nil_append, List.drop]
  after_reads_at
  simp only [id_eq]
  pointwise
  simp only [h.y, h.wa, h.ba, h.lam]
  rw [hg]
  exact hz.symm

/-- The drive, out of the two gates, the convolution and the parameter. -/
theorem drive_eq (b : Fin 2) (r : ℕ) (d : Fin 1024) :
    Spec.drive N b r (Spec.head d) (Spec.place d) = Ideal.sqrt (-(Ideal.exp (Ideal.ofBits .f32 0x40000000#32 *
        (Ideal.ofBits .f32 0xC1000000#32 * Spec.gate N N.wa N.ba b r (Spec.head d) (Spec.place d)
          * (if -N.lam d ≠ -N.lam d then -N.lam d else max (-N.lam d) 0 + Ideal.log1p (Ideal.exp (-FloatOps.absf (F := Ideal) (φ := .f32) (-N.lam d)))))) - 1))
      * (Spec.gate N N.wi N.bi b r (Spec.head d) (Spec.place d) * Spec.conv N b r d) := by
  unfold Spec.drive Spec.decay Spec.soft
  rw [Spec.col_head, neg_expm1, rate_eq]

theorem drive_at (h : Ready N W) (b : Fin 2) (r : Fin 16384) (d : Fin 1024) :
    after gateOps W (Proc.devRef .tc main_v86_1) (ix3 r b d) = Spec.drive N b r.val (Spec.head d) (Spec.place d) := by
  have hg := gate_eq (N := N) N.wa N.ba b r.val d
  have hi := gate_eq (N := N) N.wi N.bi b r.val d
  have hz := (drive_eq (N := N) b r.val d).symm
  generalize Spec.drive N b r.val (Spec.head d) (Spec.place d) = z at hz ⊢
  unfold gateOps part0 part1 lineOf linesOf
  dsimp only [List.cons_append, List.nil_append, List.drop]
  after_reads_at
  simp only [id_eq]
  pointwise
  simp only [h.y, h.wa, h.ba, h.wi, h.bi, h.lam]
  refine Eq.trans ?_ hz
  refine congrArg₂ (· * ·) (congrArg Ideal.sqrt (congrArg Neg.neg (congrArg (· - 1) (congrArg Ideal.exp (congrArg _ (congrArg (· * _) (congrArg _ (hg _ _ _)))))))) ?_
  exact congrArg (· * _) (hi _ _ _)

/-! ## The loop -/

theorem starts (k : ℕ) (hk : k < 16384) (a : Fin 3) :
    BitVec.toInt ((![constantI S_ 32 (BitVec.ofNat 32 k), constantI S_ 32 0#32, constantI S_ 32 0#32] : Fin 3 → IVec S_ 32) a (Shape.Idx.first h_S_))
      = ((![k, 0, 0] : Fin 3 → ℕ) a : ℤ) := by
  fin_cases a
  · exact toInt_ofNat_of_lt (k := k) (by omega)
  · rfl
  · rfl

theorem rowAt_at (X : FVec Ideal S16384x2x1024 .f32) (k : ℕ) (hk : k < 16384) (b : Fin 2) (d : Fin 1024) :
    rowAt X (constantI S_ 32 (BitVec.ofNat 32 k)) (ix2 b d) = X (ix3 ⟨k, hk⟩ b d) := by
  have hs : S16384x2x1024.Slices ![k, 0, 0] S1x2x1024 := ⟨rfl, fun a => by
    fin_cases a
    · show k + 1 ≤ 16384; omega
    · show 0 + 2 ≤ 2; omega
    · show 0 + 1024 ≤ 1024; omega⟩
  unfold rowAt
  rw [Host.dynamicSlice_eq_extractStridedSlice S1x2x1024 X _ ![k, 0, 0] _ hs (starts k hk)]
  pointwise

theorem stepAt_at (A U : FVec Ideal S16384x2x1024 .f32) (h : FVec Ideal S2x1024 .f32) (k : ℕ) (hk : k < 16384) (b : Fin 2) (d : Fin 1024) :
    stepAt A U (constantI S_ 32 (BitVec.ofNat 32 k)) h (ix2 b d) = A (ix3 ⟨k, hk⟩ b d) * h (ix2 b d) + U (ix3 ⟨k, hk⟩ b d) := by
  rw [← rowAt_at A k hk, ← rowAt_at U k hk]
  rfl

/-- A row written into the rows. -/
theorem update_at (X : FVec Ideal S16384x2x1024 .f32) (Y : FVec Ideal S2x1024 .f32) (k : ℕ) (hk : k < 16384) (r : Fin 16384) (b : Fin 2) (d : Fin 1024) :
    Host.dynamicUpdateSlice X (broadcastInDim S1x2x1024 ![1, 2] bcast_S2x1024_S1x2x1024_1_2 Y)
        (fun a => BitVec.toInt ((![constantI S_ 32 (BitVec.ofNat 32 k), constantI S_ 32 0#32, constantI S_ 32 0#32] : Fin 3 → IVec S_ 32) a (Shape.Idx.first h_S_)))
        updateFits_S16384x2x1024_S1x2x1024 (ix3 r b d)
      = if r.val = k then Y (ix2 b d) else X (ix3 r b d) := by
  have hs : S16384x2x1024.Slices ![k, 0, 0] S1x2x1024 := ⟨rfl, fun a => by
    fin_cases a
    · show k + 1 ≤ 16384; omega
    · show 0 + 2 ≤ 2; omega
    · show 0 + 1024 ≤ 1024; omega⟩
  rw [WordCmp.dynamicUpdateSlice_eq_update X _ _ _ ![k, 0, 0] hs (starts k hk)]
  have hb := b.isLt
  have hd := d.isLt
  unfold updateSlice
  by_cases h : r.val = k
  · rw [if_pos h, dif_pos (fun a => by
      fin_cases a
      · show k ≤ r.val ∧ r.val < k + 1; omega
      · show 0 ≤ b.val ∧ b.val < 0 + 2; omega
      · show 0 ≤ d.val ∧ d.val < 0 + 1024; omega)]
    have e : Y (ix2 b d) = broadcastInDim S1x2x1024 ![1, 2] bcast_S2x1024_S1x2x1024_1_2 Y (ix3 0 b d) := by pointwise
    rw [e]
    refine congrArg _ (funext fun a => Fin.ext ?_)
    fin_cases a
    · show r.val - k = 0; omega
    · show b.val - 0 = b.val; omega
    · show d.val - 0 = d.val; omega
  · rw [if_neg h, dif_neg (fun hh => by
      have : k ≤ r.val ∧ r.val < k + 1 := hh 0
      omega)]

variable (m : (ℓ : Loc nD τ sig) → Buf (Elt Ideal) ℓ) (ρ : Dev nD → PrngReg)

/-- The block's inputs, out of the arguments. -/
abbrev nums (c : Dev nD) : Spec.Nums := numsOf (launchContents m c)

theorem decays (c : Dev nD) (b : Fin 2) (r : Fin 16384) (d : Fin 1024) :
    at_ m 0 c (Proc.devRef .tc main_v86_0) (ix3 r b d) = Spec.decay (nums m c) b r.val (Spec.head d) (Spec.place d) := by
  show after ((part0 0).1 ++ (part1 0).1.1) (launchContents m c) (Proc.devRef .tc main_v86_0) (ix3 r b d) = _
  rw [split]
  exact decay_at (ready (launchContents m c)) b r d

theorem drives (c : Dev nD) (b : Fin 2) (r : Fin 16384) (d : Fin 1024) :
    at_ m 0 c (Proc.devRef .tc main_v86_1) (ix3 r b d) = Spec.drive (nums m c) b r.val (Spec.head d) (Spec.place d) := by
  show after ((part0 0).1 ++ (part1 0).1.1) (launchContents m c) (Proc.devRef .tc main_v86_1) (ix3 r b d) = _
  rw [split]
  exact drive_at (ready (launchContents m c)) b r d

theorem enter_3 (V : Valuation τ sig (Elt Ideal)) (b : Fin 2) (d : Fin 1024) :
    after ((part0 0).1 ++ (part1 0).1.1) V (Proc.devRef .tc main_v86_3) (ix2 b d) = (0 : EReal) := by
  rw [split]
  unfold gateOps part0 part1 lineOf linesOf
  dsimp only [List.cons_append, List.nil_append, List.drop]
  after_reads_at
  simp only [id_eq]
  pointwise

/-- After `k` trips the carried row is the state after `k` rows. -/
theorem carried (k : ℕ) (hk : k ≤ 16384) (c : Dev nD) (b : Fin 2) (d : Fin 1024) :
    at_ m k c (Proc.devRef .tc main_v86_3) (ix2 b d) = Spec.state (nums m c) b d k := by
  induction k with
  | zero => exact enter_3 (launchContents m c) b d
  | succ k ih =>
    rw [at_succ, turn_3, at_2, at_0, at_1]
    refine (stepAt_at _ _ _ k (by omega) b d).trans ?_
    rw [decays, drives, ih (by omega)]
    rfl

/-- After `k` trips the first `k` rows are the states after them. -/
theorem rows (k : ℕ) (hk : k ≤ 16384) (c : Dev nD) (r : Fin 16384) (hr : r.val < k) (b : Fin 2) (d : Fin 1024) :
    at_ m k c (Proc.devRef .tc main_v86_4) (ix3 r b d) = Spec.state (nums m c) b d (r.val + 1) := by
  induction k with
  | zero => omega
  | succ k ih =>
    have hc := carried m (k + 1) hk c b d
    rw [at_succ, turn_3, at_2] at hc
    rw [at_succ, turn_4, at_2]
    refine (update_at _ _ k (by omega) r b d).trans ?_
    by_cases h : r.val = k
    · rw [if_pos h, h]
      exact hc
    · rw [if_neg h]
      exact ih (by omega) (by omega)

/-! ## The result -/

theorem turn_v0 (V : Valuation τ sig (Elt Ideal)) : turn V (Proc.devRef .tc main_v0) = V (Proc.devRef .tc main_v0) := by
  unfold turn test trip lineOf
  dsimp only [List.cons_append, List.nil_append]
  after_results

theorem enter_v0 (V : Valuation τ sig (Elt Ideal)) (b : Fin 2) (r : Fin 16384) (e : Fin 5120) :
    after ((part0 0).1 ++ (part1 0).1.1) V (Proc.devRef .tc main_v0) (ix3 b r e) = (V (Proc.devRef .tc main_arg0) (ix3 b r e) : EReal) := by
  unfold part0 part1 lineOf linesOf
  dsimp only [List.cons_append, List.nil_append]
  after_reads_at

theorem at_v0 (k : ℕ) (c : Dev nD) (b : Fin 2) (r : Fin 16384) (e : Fin 5120) :
    at_ m k c (Proc.devRef .tc main_v0) (ix3 b r e) = (launchContents m c (Proc.devRef .tc main_arg0) (ix3 b r e) : EReal) := by
  induction k with
  | zero => exact enter_v0 (launchContents m c) b r e
  | succ k ih => rw [at_succ, turn_v0, ih]

theorem test_v0 (V : Valuation τ sig (Elt Ideal)) : after test V (Proc.devRef .tc main_v0) = V (Proc.devRef .tc main_v0) := by
  unfold test; after_results

theorem test_4 (V : Valuation τ sig (Elt Ideal)) : after test V (Proc.devRef .tc main_v86_4) = V (Proc.devRef .tc main_v86_4) := by
  unfold test; after_results

theorem last (V : Valuation τ sig (Elt Ideal)) (b : Fin 2) (r : Fin 16384) (d : Fin 1024) :
    after ((part1 0).1.2 ++ (part2 0).1) V (Proc.devRef .tc main_v103) (ix3 b r d)
      = Spec.gelu (V (Proc.devRef .tc main_v0) (ix3 b r ⟨4096 + d.val, by omega⟩)) * (V (Proc.devRef .tc main_v86_4) (ix3 r b d) : EReal) := by
  have hg (v : EReal) : v * (Ideal.ofBits .f32 0x3F000000#32 * (1 + Ideal.tanh (Ideal.ofBits .f32 0x3F4C422A#32 * (v + Ideal.ofBits .f32 0x3D372713#32 * (v * v * v))))) = Spec.gelu v := by
    unfold Spec.gelu
    rw [mul_assoc v v v]
  rw [← hg]
  unfold part1 part2 lineOf linesOf
  dsimp only [List.cons_append, List.nil_append]
  after_reads_at

theorem final_at (c : Dev nD) (b : Fin 2) (r : Fin 16384) (d : Fin 1024) :
    final m c (Proc.devRef .tc main_v103) (ix3 b r d) = Spec.out (nums m c) b r.val d := by
  unfold final
  rw [last, test_v0, test_4, at_v0, rows m 16384 le_rfl c r r.isLt b d]
  unfold Spec.out
  refine congrArg (fun v => Spec.gelu v * _) ?_
  unfold nums numsOf
  dsimp only
  rw [dif_pos r.isLt]

/-- The reference's result. -/
theorem final_eq (c : Dev nD) : (final m c (Proc.devRef .tc main_v103) : Vec Ideal S2x16384x1024 .bf16)
    = fun j => Spec.out (nums m c) (j 0) (j 1).val (j 2) := by
  funext j
  rw [← ix3_eta j]
  exact final_at m c (j 0) (j 1) (j 2)

end Cert.ReferenceIdeal.Ref

end
-- ==== Proof.Rglru.Math.lean ====
/- The kernel's vectors read number by number: each is the block's mathematics at its rows. -/
module

public import proofs.«01_k».proof.Proof.Rglru.Step
public import proofs.«01_k».proof.Proof.Spec
public import Idealize.ShloMosaic.Lib.Scf

@[expose] public section

set_option maxRecDepth 16384

noncomputable section

namespace Cert.KernelIdeal.Rglru

open Cert.KernelIdeal Cert.KernelIdeal.Gen
open Idealize.ShloMosaic Idealize.ShloMosaic.TcCoe Idealize.ShloMosaic.Tactic
open Idealize.ShloMosaic.VecWindow (window put)

section Windows

variable {α : Type} {n0 n1 n2 : ℕ}

/-- A window at an index. -/
theorem window3 (x : (⟨3, ![n0, n1, n2]⟩ : Shape).Idx → α) (o0 o1 o2 s0 s1 s2 : ℕ)
    (inb : ∀ a, (![o0, o1, o2] : Fin 3 → ℕ) a + (![s0, s1, s2] : Fin 3 → ℕ) a ≤ (⟨3, ![n0, n1, n2]⟩ : Shape).size a)
    (a : Fin s0) (b : Fin s1) (c : Fin s2) (a' : Fin n0) (b' : Fin n1) (c' : Fin n2)
    (ha : a'.val = o0 + a.val) (hb : b'.val = o1 + b.val) (hc : c'.val = o2 + c.val) :
    window x ![o0, o1, o2] ![s0, s1, s2] inb (ix3 a b c) = x (ix3 a' b' c') := by
  refine congrArg x (funext fun k => Fin.ext ?_)
  match k with
  | 0 => show o0 + 1 * a.val = a'.val; omega
  | 1 => show o1 + 1 * b.val = b'.val; omega
  | 2 => show o2 + 1 * c.val = c'.val; omega

theorem window2 (x : (⟨2, ![n0, n1]⟩ : Shape).Idx → α) (o0 o1 s0 s1 : ℕ)
    (inb : ∀ a, (![o0, o1] : Fin 2 → ℕ) a + (![s0, s1] : Fin 2 → ℕ) a ≤ (⟨2, ![n0, n1]⟩ : Shape).size a)
    (a : Fin s0) (b : Fin s1) (a' : Fin n0) (b' : Fin n1)
    (ha : a'.val = o0 + a.val) (hb : b'.val = o1 + b.val) :
    window x ![o0, o1] ![s0, s1] inb (ix2 a b) = x (ix2 a' b') := by
  refine congrArg x (funext fun k => Fin.ext ?_)
  match k with
  | 0 => show o0 + 1 * a.val = a'.val; omega
  | 1 => show o1 + 1 * b.val = b'.val; omega

/-- An array with a window put in, inside the window. -/
theorem put3_in (x : (⟨3, ![n0, n1, n2]⟩ : Shape).Idx → α) (o0 o1 o2 s0 s1 s2 : ℕ)
    (w : (⟨3, ![s0, s1, s2]⟩ : Shape).Idx → α)
    (a : Fin s0) (b : Fin s1) (c : Fin s2) (a' : Fin n0) (b' : Fin n1) (c' : Fin n2)
    (ha : a'.val = o0 + a.val) (hb : b'.val = o1 + b.val) (hc : c'.val = o2 + c.val) :
    put x ![o0, o1, o2] ![s0, s1, s2] w (ix3 a' b' c') = w (ix3 a b c) := by
  have := a.isLt; have := b.isLt; have := c.isLt
  unfold put
  rw [dif_pos (fun k => by
    match k with
    | 0 => show o0 ≤ a'.val ∧ a'.val < o0 + s0; omega
    | 1 => show o1 ≤ b'.val ∧ b'.val < o1 + s1; omega
    | 2 => show o2 ≤ c'.val ∧ c'.val < o2 + s2; omega)]
  refine congrArg w (funext fun k => Fin.ext ?_)
  match k with
  | 0 => show a'.val - o0 = a.val; omega
  | 1 => show b'.val - o1 = b.val; omega
  | 2 => show c'.val - o2 = c.val; omega

/-- An array with a window put in, outside the window. -/
theorem put3_out (x : (⟨3, ![n0, n1, n2]⟩ : Shape).Idx → α) (o0 o1 o2 s0 s1 s2 : ℕ)
    (w : (⟨3, ![s0, s1, s2]⟩ : Shape).Idx → α) (a' : Fin n0) (b' : Fin n1) (c' : Fin n2)
    (h : ¬ ((o0 ≤ a'.val ∧ a'.val < o0 + s0) ∧ (o1 ≤ b'.val ∧ b'.val < o1 + s1) ∧ (o2 ≤ c'.val ∧ c'.val < o2 + s2))) :
    put x ![o0, o1, o2] ![s0, s1, s2] w (ix3 a' b' c') = x (ix3 a' b' c') := by
  unfold put
  rw [dif_neg (fun k => h ⟨k 0, k 1, k 2⟩)]

end Windows

/-- The inputs of a point are the rows from row `r` on, and the weights. -/
structure Reads (N : Spec.Nums) (r : ℕ) (w : Ins Ideal) : Prop where
  x : ∀ (b : Fin 2) (i : Fin 256) (d : Fin 1024), w.x (ix3 b i d) = N.x b (r + i.val) d
  g : ∀ (b : Fin 2) (i : Fin 256) (d : Fin 1024), w.g (ix3 b i d) = N.g b (r + i.val) d
  cw : ∀ (k : Fin 4) (d : Fin 1024), w.cw (ix2 k d) = N.cw k d
  cb : ∀ d : Fin 1024, w.cb (ix2 0 d) = N.cb d
  wa : ∀ (j : Fin 8) (k l : Fin 128), w.wa (ix3 j k l) = N.wa j k l
  ba : ∀ d : Fin 1024, w.ba (ix2 0 d) = N.ba d
  wi : ∀ (j : Fin 8) (k l : Fin 128), w.wi (ix3 j k l) = N.wi j k l
  bi : ∀ d : Fin 1024, w.bi (ix2 0 d) = N.bi d
  lam : ∀ d : Fin 1024, w.lam (ix2 0 d) = N.lam d

variable {N : Spec.Nums} {r : ℕ} {w : Ins Ideal}

theorem rows_in (hw : Reads N r w) (b : Fin 2) (X : Vec Ideal S2x264x1024 .f32)
    (hX : ∀ (k : Fin 264) (d : Fin 1024), k.val < 8 → X (ix3 b k d) = Spec.padded N b (r + k.val) d) (k : Fin 264) (d : Fin 1024) :
    rows b w X (ix3 b k d) = Spec.padded N b (r + k.val) d := by
  unfold rows
  by_cases hk : k.val < 8
  · refine (put3_out X _ _ _ _ _ _ _ b k d (fun h => ?_)).trans (hX k d hk)
    have := h.2.1.1; omega
  · have hk' := k.isLt
    refine (put3_in X b.val 8 0 1 256 1024 _ 0 ⟨k.val - 8, by omega⟩ d b k d (by simp) (by show k.val = 8 + (k.val - 8); omega) (by omega)).trans ?_
    generalize hx : window w.x _ _ _ = v
    pointwise [k0_pay5]
    rw [← hx]
    refine (window3 w.x b.val 0 0 1 256 1024 _ 0 ⟨k.val - 8, by omega⟩ d b ⟨k.val - 8, by omega⟩ d (by simp) (by simp) (by simp)).trans ?_
    rw [hw.x]
    unfold Spec.padded
    rw [if_neg (by omega)]
    exact congrArg (fun n => N.x b n d) (by show r + (k.val - 8) = r + k.val - 8; omega)

theorem rows_out (b b' : Fin 2) (h : b' ≠ b) (X : Vec Ideal S2x264x1024 .f32) (k : Fin 264) (d : Fin 1024) :
    rows b w X (ix3 b' k d) = X (ix3 b' k d) :=
  put3_out X _ _ _ _ _ _ _ b' k d (fun hh => h (Fin.ext (by omega)))

theorem keep_in (b : Fin 2) (X : Vec Ideal S2x264x1024 .f32) (k : Fin 264) (d : Fin 1024) (hk : k.val < 8) :
    keep b X (ix3 b k d) = X (ix3 b ⟨k.val + 256, by omega⟩ d) := by
  unfold keep
  refine (put3_in X b.val 0 0 1 8 1024 _ 0 ⟨k.val, hk⟩ d b k d (by simp) (by simp) (by simp)).trans ?_
  generalize hx : window X _ _ _ = v
  pointwise [k0_pay10]
  rw [← hx]
  exact window3 X b.val 256 0 1 8 1024 _ 0 ⟨k.val, hk⟩ d b ⟨k.val + 256, by omega⟩ d (by simp) (by show k.val + 256 = 256 + k.val; omega) (by simp)

theorem keep_out (b b' : Fin 2) (h : b' ≠ b) (X : Vec Ideal S2x264x1024 .f32) (k : Fin 264) (d : Fin 1024) :
    keep b X (ix3 b' k d) = X (ix3 b' k d) :=
  put3_out X _ _ _ _ _ _ _ b' k d (fun hh => h (Fin.ext (by omega)))

theorem conv_eq (hw : Reads N r w) (b : Fin 2) (X : Vec Ideal S2x264x1024 .f32)
    (hX : ∀ (k : Fin 264) (d : Fin 1024), X (ix3 b k d) = Spec.padded N b (r + k.val) d) (i : Fin 256) (d : Fin 1024) :
    conv b w X (ix2 i d) = Spec.conv N b (r + i.val) d := by
  have hi := i.isLt
  have hx (o : ℕ) (ho : o + 256 ≤ 264) : (window X ![b.val, o, 0] S1x256x1024.size (inb_rows b o 256 ho) : FVec Ideal S1x256x1024 .f32) (ix3 0 i d)
      = Spec.padded N b (r + i.val + o) d :=
    (window3 X b.val o 0 1 256 1024 _ 0 i d b ⟨i.val + o, by omega⟩ d (by simp) (by show i.val + o = o + i.val; omega) (by simp)).trans
      ((hX _ d).trans (congrArg (fun n => Spec.padded N b n d) (by show r + (i.val + o) = r + i.val + o; omega)))
  have hc (k : Fin 4) (inb) : (window w.cw ![k.val, 0] S1x1024.size inb : FVec Ideal S1x1024 .f32) (ix2 0 d) = N.cw k d :=
    (window2 w.cw k.val 0 1 1024 inb 0 d k d (by simp) (by simp)).trans (hw.cw k d)
  have hb (inb) : (window w.cb ![0, 0] S1x1024.size inb : FVec Ideal S1x1024 .f32) (ix2 0 d) = N.cb d :=
    (window2 w.cb 0 0 1 1024 inb 0 d 0 d (by simp) (by simp)).trans (hw.cb d)
  unfold conv Spec.conv
  rw [← hx 5 (by omega), ← hx 6 (by omega), ← hx 7 (by omega), ← hx 8 (by omega), ← hc 0 inb_S4x1024_S1x1024_0_0, ← hc 1 inb_S4x1024_S1x1024_1_0,
    ← hc 2 inb_S4x1024_S1x1024_2_0, ← hc 3 inb_S4x1024_S1x1024_3_0, ← hb inb_S1x1024_S1x1024_0_0]
  generalize (window X ![b.val, 5, 0] _ _) = x5
  generalize (window X ![b.val, 6, 0] _ _) = x6
  generalize (window X ![b.val, 7, 0] _ _) = x7
  generalize (window X ![b.val, 8, 0] _ _) = x8
  pointwise [k0_pay9, k0_pay8, k0_pay7, k0_pay6]

theorem gate_at (j : Fin 8) (xc : FVec Ideal S256x1024 .bf16) (W : FVec Ideal S1x128x128 .bf16) (B : FVec Ideal S1x128 .f32) (i : Fin 256) (l : Fin 128) :
    logistic (addf (matmul dot_S256x128_S128x128_S256x128_1_0_0_1_n_n none (extractStridedSlice S256x128 ![0, 128 * j.val] xc (sl_c j))
        (shapeCast S128x128 W shapeCasts_S1x128x128_S128x128) (constant S256x128 .f32 0x00000000#32))
      (broadcastTo S256x128 (shapeCast S1x128 B shapeCasts_S1x128_S1x128) broadcasts_S1x128_S256x128)) (ix2 i l)
      = Ideal.logistic (∑ k : Fin 128, xc (ix2 i (Spec.col j k)) * W (ix3 0 k l) + B (ix2 0 l)) := by
  pointwise
  rfl

theorem gate_eq (b : Fin 2) (j : Fin 8) (xc : FVec Ideal S256x1024 .bf16) (hx : ∀ (i : Fin 256) (d : Fin 1024), xc (ix2 i d) = Spec.conv N b (r + i.val) d)
    (W : Vec Ideal S8x128x128 .bf16) (W' : Fin 8 → Fin 128 → Fin 128 → EReal) (hW : ∀ (j : Fin 8) (k l : Fin 128), W (ix3 j k l) = W' j k l)
    (B : Vec Ideal S1x1024 .f32) (B' : Fin 1024 → EReal) (hB : ∀ d : Fin 1024, B (ix2 0 d) = B' d) (i : Fin 256) (l : Fin 128) :
    gate j xc W B (ix2 i l) = Spec.gate N W' B' b (r + i.val) j l := by
  have hWw (k : Fin 128) : (window W ![j.val, 0, 0] S1x128x128.size (inb_w j) : FVec Ideal S1x128x128 .bf16) (ix3 0 k l) = W' j k l :=
    (window3 W j.val 0 0 1 128 128 _ 0 k l j k l (by simp) (by simp) (by simp)).trans (hW j k l)
  have hBw : (window B ![0, 128 * j.val] S1x128.size (inb_b j) : FVec Ideal S1x128 .f32) (ix2 0 l) = B' (Spec.col j l) :=
    (window2 B 0 (128 * j.val) 1 128 _ 0 l 0 (Spec.col j l) (by simp) rfl).trans (hB _)
  unfold gate
  refine (gate_at j xc _ _ i l).trans ?_
  unfold Spec.gate
  refine congrArg Ideal.logistic (congrArg₂ (· + ·) (Finset.sum_congr rfl fun k _ => ?_) hBw)
  exact congrArg₂ (· * ·) (hx i _) (hWw k)

theorem decay_eq (hw : Reads N r w) (b : Fin 2) (j : Fin 8) (xc : FVec Ideal S256x1024 .f32)
    (hx : ∀ (i : Fin 256) (d : Fin 1024), xc (ix2 i d) = Spec.conv N b (r + i.val) d) (i : Fin 256) (l : Fin 128) :
    decay w j xc (ix2 i l) = Spec.decay N b (r + i.val) j l := by
  have hl (inb) (d : Fin 1024) : (window w.lam ![0, 0] S1x1024.size inb : FVec Ideal S1x1024 .f32) (ix2 0 d) = N.lam d :=
    (window2 w.lam 0 0 1 1024 inb 0 d 0 d (by simp) (by simp)).trans (hw.lam d)
  have hg := gate_eq (N := N) (r := r) b j (truncf .bf16 xc bitsLt_bf16_f32) hx w.wa N.wa hw.wa w.ba N.ba hw.ba i l
  unfold decay Spec.decay Spec.soft rate
  rw [← hg, ← hl inb_S1x1024_S1x1024_0_0]
  generalize gate (F := Ideal) j _ _ _ = G
  generalize window w.lam _ _ _ = L
  pointwise [k0_pay4]
  rw [if_neg (fun hh => hh rfl)]
  rfl

theorem drive_eq (hw : Reads N r w) (b : Fin 2) (j : Fin 8) (xc : FVec Ideal S256x1024 .f32)
    (hx : ∀ (i : Fin 256) (d : Fin 1024), xc (ix2 i d) = Spec.conv N b (r + i.val) d) (i : Fin 256) (l : Fin 128) :
    drive w j xc (ix2 i l) = Spec.drive N b (r + i.val) j l := by
  have hg := gate_eq (N := N) (r := r) b j (truncf .bf16 xc bitsLt_bf16_f32) hx w.wi N.wi hw.wi w.bi N.bi hw.bi i l
  have ha := decay_eq hw b j xc hx i l
  unfold drive Spec.drive
  rw [← hg, ← ha, ← hx]
  generalize gate (F := Ideal) j _ _ _ = G
  generalize decay (F := Ideal) w j xc = D
  pointwise
  rfl

/-- After `n` heads, the columns of those heads hold them, in the rows of sequence `b`. -/
theorem fill_at (b : Fin 2) (h : Fin 8 → FVec Ideal S256x128 .f32) (A : Vec Ideal S2x256x1024 .f32) (b' : Fin 2) (i : Fin 256) (d : Fin 1024) (n : ℕ) (hn : n ≤ 8) :
    fill b h A n (ix3 b' i d) = if b' = b ∧ d.val < 128 * n then h (Spec.head d) (ix2 i (Spec.place d)) else A (ix3 b' i d) := by
  induction n with
  | zero => rw [if_neg (by omega)]; rfl
  | succ n ih =>
    show put (fill b h A n) ![b.val, 0, 128 * n] S1x256x128.size (shapeCast S1x256x128 (h (Fin.ofNat 8 n)) shapeCasts_S256x128_S1x256x128) (ix3 b' i d) = _
    by_cases hd : b' = b ∧ 128 * n ≤ d.val ∧ d.val < 128 * n + 128
    · obtain ⟨rfl, hd1, hd2⟩ := hd
      rw [if_pos ⟨rfl, by omega⟩]
      refine (put3_in _ b'.val 0 (128 * n) 1 256 128 _ 0 i (Spec.place d) b' i d (by simp) (by simp)
        (by show d.val = 128 * n + d.val % 128; omega)).trans ?_
      rw [show Fin.ofNat 8 n = Spec.head d from Fin.ext (by show n % 8 = d.val / 128; omega)]
      generalize h (Spec.head d) = v
      pointwise
    · refine (put3_out _ b.val 0 (128 * n) 1 256 128 _ b' i d (fun hh => hd ⟨Fin.ext (by omega), by omega, by omega⟩)).trans ?_
      rw [ih (by omega)]
      by_cases hb : b' = b
      · exact if_congr ⟨fun ⟨h1, h2⟩ => ⟨h1, by omega⟩, fun ⟨h1, h2⟩ => ⟨h1, by
          by_contra h3; exact hd ⟨h1, by omega, by omega⟩⟩⟩ rfl rfl
      · rw [if_neg (fun hh => hb hh.1), if_neg (fun hh => hb hh.1)]

theorem trips_eq : k0_t1_loop.trips = 256 := by decide +kernel
theorem off1_eq : ∀ k : Fin k0_t1_loop.trips, k0_off1 k = ![0, k.val, 0] := by decide +kernel
theorem off2_eq : ∀ k : Fin k0_t1_loop.trips, k0_off2 k = ![1, k.val, 0] := by decide +kernel

/-- A row of one sequence, read. -/
theorem row_at (X : Vec Ideal S2x256x1024 .f32) (b : Fin 2) (k : Fin 256) (off : Fin 3 → ℕ) (ho : off = ![b.val, k.val, 0])
    (inb : ∀ a, off a + S1x1x1024.size a ≤ S2x256x1024.size a) (d : Fin 1024) :
    (window X off S1x1x1024.size inb : FVec Ideal S1x1x1024 .f32) (ix3 0 0 d) = X (ix3 b k d) := by
  subst ho
  exact window3 X b.val k.val 0 1 1 1024 inb 0 0 d b k d (by simp) (by simp) (by simp)

/-- A row of one sequence, written. -/
theorem put_row (X : Vec Ideal S2x256x1024 .f32) (b : Fin 2) (k : Fin 256) (off : Fin 3 → ℕ) (ho : off = ![b.val, k.val, 0])
    (v : FVec Ideal S1x1x1024 .f32) (b' : Fin 2) (i : Fin 256) (d : Fin 1024) :
    put X off S1x1x1024.size v (ix3 b' i d) = if b' = b ∧ i = k then v (ix3 0 0 d) else X (ix3 b' i d) := by
  subst ho
  by_cases h : b' = b ∧ i = k
  · obtain ⟨rfl, rfl⟩ := h
    rw [if_pos ⟨rfl, rfl⟩]
    exact put3_in X b'.val i.val 0 1 1 1024 v 0 0 d b' i d (by simp) (by simp) (by simp)
  · rw [if_neg h]
    exact put3_out X b.val k.val 0 1 1 1024 v b' i d (fun hh => h ⟨Fin.ext (by omega), Fin.ext (by omega)⟩)

theorem pay99_at (h : FVec Ideal S1x1024 .f32) (a u : Vec Ideal S1x1x1024 .f32) (d : Fin 1024) :
    k0_pay99 h a u (ix2 0 d) = a (ix3 0 0 d) * h (ix2 0 d) + u (ix3 0 0 d) := by pointwise [k0_pay99]
theorem pay100_at (h : FVec Ideal S1x1024 .f32) (a u : Vec Ideal S1x1x1024 .f32) (d : Fin 1024) :
    k0_pay100 h a u (ix3 0 0 d) = a (ix3 0 0 d) * h (ix2 0 d) + u (ix3 0 0 d) := by pointwise [k0_pay99, k0_pay100]
theorem pay101_at (h : FVec Ideal S1x1024 .f32) (a u : Vec Ideal S1x1x1024 .f32) (d : Fin 1024) :
    k0_pay101 h a u (ix2 0 d) = a (ix3 0 0 d) * h (ix2 0 d) + u (ix3 0 0 d) := by pointwise [k0_pay101]
theorem pay102_at (h : FVec Ideal S1x1024 .f32) (a u : Vec Ideal S1x1x1024 .f32) (d : Fin 1024) :
    k0_pay102 h a u (ix3 0 0 d) = a (ix3 0 0 d) * h (ix2 0 d) + u (ix3 0 0 d) := by pointwise [k0_pay101, k0_pay102]

/-- After `k` steps the states are those after `k` more rows, and the first `k` rows hold each row's state. -/
theorem steps_at (A U : Vec Ideal S2x256x1024 .f32) (h0 h1 : FVec Ideal S1x1024 .f32)
    (hA : ∀ (b : Fin 2) (i : Fin 256) (d : Fin 1024), A (ix3 b i d) = Spec.decay N b (r + i.val) (Spec.head d) (Spec.place d))
    (hU : ∀ (b : Fin 2) (i : Fin 256) (d : Fin 1024), U (ix3 b i d) = Spec.drive N b (r + i.val) (Spec.head d) (Spec.place d))
    (hh0 : ∀ d : Fin 1024, h0 (ix2 0 d) = Spec.state N 0 d r) (hh1 : ∀ d : Fin 1024, h1 (ix2 0 d) = Spec.state N 1 d r) (k : ℕ) (hk : k ≤ 256) :
    (∀ d : Fin 1024, (steps A ((h0, h1), U) k).1.1 (ix2 0 d) = Spec.state N 0 d (r + k))
    ∧ (∀ d : Fin 1024, (steps A ((h0, h1), U) k).1.2 (ix2 0 d) = Spec.state N 1 d (r + k))
    ∧ ∀ (b : Fin 2) (i : Fin 256) (d : Fin 1024), (steps A ((h0, h1), U) k).2 (ix3 b i d)
        = if i.val < k then Spec.state N b d (r + i.val + 1) else Spec.drive N b (r + i.val) (Spec.head d) (Spec.place d) := by
  induction k with
  | zero => exact ⟨hh0, hh1, fun b i d => by rw [if_neg (by omega)]; exact hU b i d⟩
  | succ k ih =>
    obtain ⟨i0, i1, i2⟩ := ih (by omega)
    have hkt : k < k0_t1_loop.trips := by rw [trips_eq]; omega
    rw [steps_succ A ((h0, h1), U) ⟨k, hkt⟩]
    generalize steps A ((h0, h1), U) k = L at i0 i1 i2
    obtain ⟨⟨H0, H1⟩, W⟩ := L
    dsimp only at i0 i1 i2
    have e1 := off1_eq ⟨k, hkt⟩
    have e2 := off2_eq ⟨k, hkt⟩
    set κ : Fin 256 := ⟨k, by omega⟩ with hκ
    have s0 (d : Fin 1024) : A (ix3 0 κ d) * H0 (ix2 0 d) + W (ix3 0 κ d) = Spec.state N 0 d (r + k + 1) := by
      rw [hA, i0, i2, if_neg (by show ¬ k < k; omega)]; rfl
    have s1 (d : Fin 1024) : A (ix3 1 κ d) * H1 (ix2 0 d) + W (ix3 1 κ d) = Spec.state N 1 d (r + k + 1) := by
      rw [hA, i1, i2, if_neg (by show ¬ k < k; omega)]; rfl
    have p1 (b' : Fin 2) (i : Fin 256) (d : Fin 1024) (v : FVec Ideal S1x1x1024 .f32) := put_row W 0 κ _ e1 v b' i d
    unfold trip
    dsimp only
    refine ⟨fun d => ?_, fun d => ?_, fun b i d => ?_⟩
    · rw [pay99_at, row_at A 0 κ _ e1, row_at W 0 κ _ e1]; exact s0 d
    · rw [pay101_at, row_at A 1 κ _ e2, row_at _ 1 κ _ e2, p1, if_neg (fun hh => absurd hh.1 (by decide))]; exact s1 d
    · rw [put_row _ 1 κ _ e2]
      by_cases hi : i = κ
      · subst hi
        rw [if_pos (show (κ : ℕ) < k + 1 by show k < k + 1; omega)]
        match b with
        | 0 => rw [if_neg (fun hh => absurd hh.1 (by decide)), p1, if_pos ⟨rfl, rfl⟩, pay100_at, row_at A 0 κ _ e1, row_at W 0 κ _ e1]; exact s0 d
        | 1 => rw [if_pos ⟨rfl, rfl⟩, pay102_at, row_at A 1 κ _ e2, row_at _ 1 κ _ e2, p1, if_neg (fun hh => absurd hh.1 (by decide))]; exact s1 d
      · rw [if_neg (fun hh => hi hh.2), p1, if_neg (fun hh => hi hh.2), i2]
        have hne : i.val ≠ k := fun hh => hi (Fin.ext hh)
        exact if_congr (by omega) rfl rfl

theorem start_at (H : Vec Ideal S2x1x1024 .f32) (d : Fin 1024) :
    (start H).1 (ix2 0 d) = H (ix3 0 0 d) ∧ (start H).2 (ix2 0 d) = H (ix3 1 0 d) := by
  unfold start
  have h0 := window3 H 0 0 0 1 1 1024 inb_S2x1x1024_S1x1x1024_0_0_0 0 0 d 0 0 d (by simp) (by simp) (by simp)
  have h1 := window3 H 1 0 0 1 1 1024 inb_S2x1x1024_S1x1x1024_1_0_0 0 0 d 1 0 d (by simp) (by simp) (by simp)
  rw [← h0, ← h1]
  dsimp only
  generalize window H ![0, 0, 0] _ _ = v0
  generalize window H ![1, 0, 0] _ _ = v1
  exact ⟨by pointwise [k0_pay97], by pointwise [k0_pay98]⟩

/-- The carried state at the end, put in for both sequences. -/
theorem put_states (H : Vec Ideal S2x1x1024 .f32) (v0 v1 : FVec Ideal S1x1024 .f32) (b : Fin 2) (d : Fin 1024) :
    put (put H ![0, 0, 0] S1x1x1024.size (k0_pay103 v0)) ![1, 0, 0] S1x1x1024.size (k0_pay106 v1) (ix3 b 0 d) = if b = 0 then v0 (ix2 0 d) else v1 (ix2 0 d) := by
  match b with
  | 0 =>
    rw [if_pos rfl]
    refine (put3_out _ 1 0 0 1 1 1024 _ (0 : Fin 2) (0 : Fin 1) d (fun hh => absurd hh.1.1 (by decide))).trans ?_
    refine (put3_in _ 0 0 0 1 1 1024 _ 0 0 d (0 : Fin 2) (0 : Fin 1) d (by simp) (by simp) (by simp)).trans ?_
    pointwise [k0_pay103]
  | 1 =>
    rw [if_neg (by decide)]
    refine (put3_in _ 1 0 0 1 1 1024 _ 0 0 d (1 : Fin 2) (0 : Fin 1) d (by simp) (by simp) (by simp)).trans ?_
    pointwise [k0_pay106]

theorem out0_at (g : Vec Ideal S1x256x1024 .bf16) (U : Vec Ideal S1x256x1024 .f32) (i : Fin 256) (d : Fin 1024) :
    k0_pay105 (k0_pay104 g U) (ix3 0 i d) = Spec.gelu (g (ix3 0 i d)) * U (ix3 0 i d) := by
  unfold Spec.gelu
  pointwise [k0_pay104, k0_pay105]

theorem out1_at (g : Vec Ideal S1x256x1024 .bf16) (U : Vec Ideal S1x256x1024 .f32) (i : Fin 256) (d : Fin 1024) :
    k0_pay1 (k0_pay107 g) U (ix3 0 i d) = Spec.gelu (g (ix3 0 i d)) * U (ix3 0 i d) := by
  unfold Spec.gelu
  pointwise [k0_pay1, k0_pay107]

theorem block_at {e : EltTy} (X : Vec Ideal S2x256x1024 e) (b : Fin 2) (inb : ∀ a, (![b.val, 0, 0] : Fin 3 → ℕ) a + S1x256x1024.size a ≤ S2x256x1024.size a) (i : Fin 256) (d : Fin 1024) :
    (window X ![b.val, 0, 0] S1x256x1024.size inb : Vec Ideal S1x256x1024 e) (ix3 0 i d) = X (ix3 b i d) :=
  window3 X b.val 0 0 1 256 1024 inb 0 i d b i d (by simp) (by simp) (by simp)

/-- The body's step: from the eight rows before row `r` and the states after `r` rows, it leaves the eight rows before
    row `r + 256`, the states after `r + 256` rows, and the output's rows from `r` on. -/
theorem after_at (hw : Reads N r w) (s : St Ideal)
    (hX : ∀ (b : Fin 2) (k : Fin 264) (d : Fin 1024), k.val < 8 → s.X (ix3 b k d) = Spec.padded N b (r + k.val) d)
    (hH : ∀ (b : Fin 2) (d : Fin 1024), s.H (ix3 b 0 d) = Spec.state N b d r) :
    (∀ (b : Fin 2) (k : Fin 264) (d : Fin 1024), k.val < 8 → (after w s).X (ix3 b k d) = Spec.padded N b (r + 256 + k.val) d)
    ∧ (∀ (b : Fin 2) (d : Fin 1024), (after w s).H (ix3 b 0 d) = Spec.state N b d (r + 256))
    ∧ ∀ (b : Fin 2) (i : Fin 256) (d : Fin 1024), (after w s).O (ix3 b i d) = Spec.out N b (r + i.val) d := by
  have x1 := rows_in hw 0 s.X (hX 0)
  have c0 := conv_eq hw 0 _ x1
  have x3 := rows_in hw 1 (keep 0 (rows 0 w s.X)) (fun k d hk => by
    rw [keep_out 0 1 (by decide), rows_out 0 1 (by decide)]; exact hX 1 k d hk)
  have c1 := conv_eq hw 1 _ x3
  have hf (h0 h1 : Fin 8 → FVec Ideal S256x128 .f32) (f : Fin 2 → ℕ → Fin 8 → Fin 128 → EReal) (A : Vec Ideal S2x256x1024 .f32)
      (e0 : ∀ (j : Fin 8) (i : Fin 256) (l : Fin 128), h0 j (ix2 i l) = f 0 (r + i.val) j l) (e1 : ∀ (j : Fin 8) (i : Fin 256) (l : Fin 128), h1 j (ix2 i l) = f 1 (r + i.val) j l)
      (b : Fin 2) (i : Fin 256) (d : Fin 1024) : fill 1 h1 (fill 0 h0 A 8) 8 (ix3 b i d) = f b (r + i.val) (Spec.head d) (Spec.place d) := by
    have hd := d.isLt
    rw [fill_at 1 h1 _ b i d 8 (le_refl _), fill_at 0 h0 _ b i d 8 (le_refl _)]
    match b with
    | 0 => rw [if_neg (fun hh => absurd hh.1 (by decide)), if_pos ⟨rfl, by omega⟩]; exact e0 _ _ _
    | 1 => rw [if_pos ⟨rfl, by omega⟩]; exact e1 _ _ _
  have hA := hf _ _ (Spec.decay N) s.A (fun j i l => decay_eq hw 0 j _ c0 i l) (fun j i l => decay_eq hw 1 j _ c1 i l)
  have hU := hf _ _ (Spec.drive N) s.U (fun j i l => drive_eq hw 0 j _ c0 i l) (fun j i l => drive_eq hw 1 j _ c1 i l)
  obtain ⟨t0, t1, t2⟩ := steps_at _ _ (start s.H).1 (start s.H).2 hA hU (fun d => ((start_at s.H d).1).trans (hH 0 d)) (fun d => ((start_at s.H d).2).trans (hH 1 d)) 256 (le_refl _)
  unfold after
  rw [trips_eq]
  dsimp only
  refine ⟨fun b k d hk => ?_, fun b d => ?_, fun b i d => ?_⟩
  · match b with
    | 0 =>
      rw [keep_out 1 0 (by decide), rows_out 1 0 (by decide), keep_in 0 _ k d hk, x1]
      exact congrArg (fun n => Spec.padded N 0 n d) (by show r + (k.val + 256) = r + 256 + k.val; omega)
    | 1 =>
      rw [keep_in 1 _ k d hk, x3]
      exact congrArg (fun n => Spec.padded N 1 n d) (by show r + (k.val + 256) = r + 256 + k.val; omega)
  · rw [put_states]
    match b with
    | 0 => rw [if_pos rfl]; exact t0 d
    | 1 => rw [if_neg (by decide)]; exact t1 d
  · have ht (b : Fin 2) := (t2 b i d).trans (if_pos i.isLt)
    match b with
    | 0 =>
      refine (put3_out _ 1 0 0 1 256 1024 _ (0 : Fin 2) i d (fun hh => absurd hh.1.1 (by decide))).trans ?_
      refine (put3_in _ 0 0 0 1 256 1024 _ 0 i d (0 : Fin 2) i d (by simp) (by simp) (by simp)).trans ?_
      refine (out0_at _ _ i d).trans ?_
      exact congrArg₂ (fun x y => Spec.gelu x * y) ((block_at w.g 0 _ i d).trans (hw.g 0 i d)) ((block_at _ 0 _ i d).trans (ht 0))
    | 1 =>
      refine (put3_in _ 1 0 0 1 256 1024 _ 0 i d (1 : Fin 2) i d (by simp) (by simp) (by simp)).trans ?_
      refine (out1_at _ _ i d).trans ?_
      exact congrArg₂ (fun x y => Spec.gelu x * y) ((block_at w.g 1 _ i d).trans (hw.g 1 i d)) ((block_at _ 1 _ i d).trans (ht 1))

/-- The cleared state is the state before row zero. -/
theorem cleared_at (i : grid0.Coords) (hi : first i) (s : St Ideal) :
    (∀ (b : Fin 2) (k : Fin 264) (d : Fin 1024), k.val < 8 → (cleared i s).X (ix3 b k d) = Spec.padded N b k.val d)
    ∧ ∀ (b : Fin 2) (d : Fin 1024), (cleared i s).H (ix3 b 0 d) = Spec.state N b d 0 := by
  unfold cleared
  rw [if_pos hi]
  refine ⟨fun b k d hk => ?_, fun b d => ?_⟩
  · refine (put3_in _ 0 0 0 2 8 1024 _ b ⟨k.val, hk⟩ d b k d (by simp) (by simp) (by simp)).trans ?_
    unfold Spec.padded
    rw [if_pos hk]
    pointwise [k0_pay2]
  · refine (put3_in _ 0 0 0 2 1 1024 _ b 0 d b (0 : Fin 1) d (by simp) (by simp) (by simp)).trans ?_
    unfold Spec.state
    pointwise [k0_pay3]

end Cert.KernelIdeal.Rglru

end
-- ==== Proof.Rglru.Value.lean ====
/- The kernel's result is the block's mathematics of its arguments. -/
module

public import proofs.«01_k».proof.Proof.Rglru.Data
public import proofs.«01_k».proof.Proof.Rglru.Math
public import Idealize.ShloMosaic.Lib.Claim
public import Idealize.ShloMosaic.Lib.Pipeline.ValueKit

@[expose] public section

set_option maxRecDepth 16384

noncomputable section

namespace Cert.KernelIdeal.Rglru

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The block's inputs, out of the arguments. -/
def nums (c : Dev nD) : Spec.Nums where
  x b r d := if h : r < 16384 then m ((c.tc : Thread nD τ).loc main_arg0) (ix3 b ⟨r, h⟩ ⟨3072 + d.val, by omega⟩) else 0
  g b r d := if h : r < 16384 then m ((c.tc : Thread nD τ).loc main_arg0) (ix3 b ⟨r, h⟩ ⟨4096 + d.val, by omega⟩) else 0
  cw k d := m ((c.tc : Thread nD τ).loc main_arg1) (ix3 0 k d)
  cb d := m ((c.tc : Thread nD τ).loc main_arg2) (ix2 0 d)
  wa j k l := m ((c.tc : Thread nD τ).loc main_arg3) (ix4 0 j k l)
  ba d := m ((c.tc : Thread nD τ).loc main_arg4) (ix2 0 d)
  wi j k l := m ((c.tc : Thread nD τ).loc main_arg5) (ix4 0 j k l)
  bi d := m ((c.tc : Thread nD τ).loc main_arg6) (ix2 0 d)
  lam d := m ((c.tc : Thread nD τ).loc main_arg7) (ix2 0 d)

theorem idx_x : ∀ t : Fin cfg0.N, (cfg0.win 0).index t 0 = 0 ∧ (cfg0.win 0).index t 1 = t.val ∧ (cfg0.win 0).index t 2 = 3 := by decide +kernel
theorem idx_g : ∀ t : Fin cfg0.N, (cfg0.win 1).index t 0 = 0 ∧ (cfg0.win 1).index t 1 = t.val ∧ (cfg0.win 1).index t 2 = 4 := by decide +kernel
theorem idx_cw : ∀ t : Fin cfg0.N, (cfg0.win 2).index t 0 = 0 ∧ (cfg0.win 2).index t 1 = 0 := by decide +kernel
theorem idx_cb : ∀ t : Fin cfg0.N, (cfg0.win 3).index t 0 = 0 ∧ (cfg0.win 3).index t 1 = 0 := by decide +kernel
theorem idx_wa : ∀ t : Fin cfg0.N, (cfg0.win 4).index t 0 = 0 ∧ (cfg0.win 4).index t 1 = 0 ∧ (cfg0.win 4).index t 2 = 0 := by decide +kernel
theorem idx_ba : ∀ t : Fin cfg0.N, (cfg0.win 5).index t 0 = 0 ∧ (cfg0.win 5).index t 1 = 0 := by decide +kernel
theorem idx_wi : ∀ t : Fin cfg0.N, (cfg0.win 6).index t 0 = 0 ∧ (cfg0.win 6).index t 1 = 0 ∧ (cfg0.win 6).index t 2 = 0 := by decide +kernel
theorem idx_bi : ∀ t : Fin cfg0.N, (cfg0.win 7).index t 0 = 0 ∧ (cfg0.win 7).index t 1 = 0 := by decide +kernel
theorem idx_lam : ∀ t : Fin cfg0.N, (cfg0.win 8).index t 0 = 0 ∧ (cfg0.win 8).index t 1 = 0 := by decide +kernel
theorem idx_o : ∀ t : Fin cfg0.N, (cfg0.win 9).index t 0 = 0 ∧ (cfg0.win 9).index t 1 = t.val ∧ (cfg0.win 9).index t 2 = 0 := by decide +kernel

theorem iblk_x (c : Dev nD) (t : Fin cfg0.N) (b : Fin 2) (i : Fin 256) (d : Fin 1024) : iblk m c 0 t (ix3 b i d) = (nums m c).x b (256 * t.val + i.val) d := by
  have ht : t.val < 64 := t.isLt
  have hx : 256 * t.val + i.val < 16384 := by omega
  unfold nums
  dsimp only
  rw [dif_pos hx]
  blk_ext! [iblk, V, idx_x t]

theorem iblk_g (c : Dev nD) (t : Fin cfg0.N) (b : Fin 2) (i : Fin 256) (d : Fin 1024) : iblk m c 1 t (ix3 b i d) = (nums m c).g b (256 * t.val + i.val) d := by
  have ht : t.val < 64 := t.isLt
  have hx : 256 * t.val + i.val < 16384 := by omega
  unfold nums
  dsimp only
  rw [dif_pos hx]
  blk_ext! [iblk, V, idx_g t]

theorem iblk_cw (c : Dev nD) (t : Fin cfg0.N) (k : Fin 4) (d : Fin 1024) : iblk m c 2 t (ix2 k d) = (nums m c).cw k d := by
  unfold nums
  blk_ext! [iblk, V, idx_cw t]

theorem iblk_cb (c : Dev nD) (t : Fin cfg0.N) (d : Fin 1024) : iblk m c 3 t (ix2 0 d) = (nums m c).cb d := by
  unfold nums
  blk_ext! [iblk, V, idx_cb t]

theorem iblk_wa (c : Dev nD) (t : Fin cfg0.N) (j : Fin 8) (k l : Fin 128) : iblk m c 4 t (ix3 j k l) = (nums m c).wa j k l := by
  unfold nums
  blk_ext! [iblk, V, idx_wa t]

theorem iblk_ba (c : Dev nD) (t : Fin cfg0.N) (d : Fin 1024) : iblk m c 5 t (ix2 0 d) = (nums m c).ba d := by
  unfold nums
  blk_ext! [iblk, V, idx_ba t]

theorem iblk_wi (c : Dev nD) (t : Fin cfg0.N) (j : Fin 8) (k l : Fin 128) : iblk m c 6 t (ix3 j k l) = (nums m c).wi j k l := by
  unfold nums
  blk_ext! [iblk, V, idx_wi t]

theorem iblk_bi (c : Dev nD) (t : Fin cfg0.N) (d : Fin 1024) : iblk m c 7 t (ix2 0 d) = (nums m c).bi d := by
  unfold nums
  blk_ext! [iblk, V, idx_bi t]

theorem iblk_lam (c : Dev nD) (t : Fin cfg0.N) (d : Fin 1024) : iblk m c 8 t (ix2 0 d) = (nums m c).lam d := by
  unfold nums
  blk_ext! [iblk, V, idx_lam t]

theorem reads (c : Dev nD) (t : Fin cfg0.N) : Reads (nums m c) (256 * t.val) (ins m c t) :=
  ⟨iblk_x m c t, iblk_g m c t, iblk_cw m c t, iblk_cb m c t, iblk_wa m c t, iblk_ba m c t, iblk_wi m c t, iblk_bi m c t, iblk_lam m c t⟩

theorem first_iff : ∀ t : Fin cfg0.N, first (grid0.coords t) ↔ t.val = 0 := by decide +kernel

/-- Before point `n`: the kept rows of the convolution's input and the carried state of the recurrence. Nothing is
    asked before the first point, which clears both. -/
def Before (c : Dev nD) (n : ℕ) (s : St Ideal) : Prop :=
  n = 0 ∨ (∀ (b : Fin 2) (k : Fin 264) (d : Fin 1024), k.val < 8 → s.X (ix3 b k d) = Spec.padded (nums m c) b (256 * n + k.val) d) ∧
    ∀ (b : Fin 2) (d : Fin 1024), s.H (ix3 b 0 d) = Spec.state (nums m c) b d (256 * n)

/-- The block of the result at a point. -/
def outBlock (c : Dev nD) (t : Fin cfg0.N) : Vec Ideal S2x256x1024 .bf16 :=
  fun y => Spec.out (nums m c) (y 0) (256 * t.val + (y 1).val) (y 2)

theorem after_cleared {c : Dev nD} {t : Fin cfg0.N} {s : St Ideal} (h : Before m c t.val s) :
    (∀ (b : Fin 2) (k : Fin 264) (d : Fin 1024), k.val < 8 →
        (cleared (grid0.coords t) s).X (ix3 b k d) = Spec.padded (nums m c) b (256 * t.val + k.val) d) ∧
      ∀ (b : Fin 2) (d : Fin 1024), (cleared (grid0.coords t) s).H (ix3 b 0 d) = Spec.state (nums m c) b d (256 * t.val) := by
  by_cases h0 : t.val = 0
  · obtain ⟨hX, hH⟩ := cleared_at (N := nums m c) (grid0.coords t) ((first_iff t).mpr h0) s
    rw [h0]
    exact ⟨fun b k d hk => by rw [hX b k d hk, Nat.mul_zero, Nat.zero_add], fun b d => hH b d⟩
  · rw [show cleared (grid0.coords t) s = s from if_neg fun hf => h0 ((first_iff t).mp hf)]
    exact h.resolve_left h0

theorem before_next (c : Dev nD) (t : Fin cfg0.N) (s : St Ideal) (h : Before m c t.val s) : Before m c (t.val + 1) (next m c t s) := by
  obtain ⟨hX, hH⟩ := after_cleared m h
  obtain ⟨h1, h2, h3⟩ := after_at (reads m c t) (cleared (grid0.coords t) s) hX hH
  refine Or.inr ⟨fun b k d hk => ?_, fun b d => ?_⟩
  · rw [show 256 * (t.val + 1) + k.val = 256 * t.val + 256 + k.val by omega]
    exact h1 b k d hk
  · exact h2 b d

theorem next_out (c : Dev nD) (t : Fin cfg0.N) (s : St Ideal) (h : Before m c t.val s) : (next m c t s).O = outBlock m c t := by
  obtain ⟨hX, hH⟩ := after_cleared m h
  obtain ⟨h1, h2, h3⟩ := after_at (reads m c t) (cleared (grid0.coords t) s) hX hH
  funext y
  exact (congrArg _ (ix3_eta y).symm).trans (h3 (y 0) (y 1) (y 2))

/-- The kernel's result. -/
def result (c : Dev nD) : Vec Ideal S2x16384x1024 .bf16 := fun j => Spec.out (nums m c) (j 0) (j 1).val (j 2)

theorem arr_out (c : Dev nD) :
    (dats m (Before m) (outBlock m) 0 c).arrAt 9 (cfgs 0).N = result m c := by
  refine (dats m (Before m) (outBlock m) 0 c).arrAt_eq_of_covers 9 _ (by decide +kernel) fun t hf y => ?_
  have hi := idx_o t
  have ht : t.val < 64 := t.isLt
  show outBlock m c t y = result m c _
  unfold outBlock result
  refine congr (congr (congrArg (Spec.out (nums m c)) (Fin.ext ?_)) ?_) (Fin.ext ?_) <;> blk_simp [hi] <;> omega

/-- What a run of the kernel leaves. -/
theorem run_value : θ_run defs (onTc (τ := τ) (main (F := Ideal))) ⟨m, fun _ => 0, ρ⟩ (fun r => (∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨(Pipeline.FramePost.out_eq h.1 c 9).trans (arr_out m c),
      (Pipeline.FramePost.in_eq h.1 c 1 rfl).trans (V_main_arg0 m c),
      (Pipeline.FramePost.rest_eq h.1 c main_arg1 (Pipeline.mem_restRefs_of main_arg1 (by decide) (by decide))).trans (V_main_arg1 m c),
      (Pipeline.FramePost.rest_eq h.1 c main_arg2 (Pipeline.mem_restRefs_of main_arg2 (by decide) (by decide))).trans (V_main_arg2 m c),
      (Pipeline.FramePost.rest_eq h.1 c main_arg3 (Pipeline.mem_restRefs_of main_arg3 (by decide) (by decide))).trans (V_main_arg3 m c),
      (Pipeline.FramePost.rest_eq h.1 c main_arg4 (Pipeline.mem_restRefs_of main_arg4 (by decide) (by decide))).trans (V_main_arg4 m c),
      (Pipeline.FramePost.rest_eq h.1 c main_arg5 (Pipeline.mem_restRefs_of main_arg5 (by decide) (by decide))).trans (V_main_arg5 m c),
      (Pipeline.FramePost.rest_eq h.1 c main_arg6 (Pipeline.mem_restRefs_of main_arg6 (by decide) (by decide))).trans (V_main_arg6 m c),
      (Pipeline.FramePost.rest_eq h.1 c main_arg7 (Pipeline.mem_restRefs_of main_arg7 (by decide) (by decide))).trans (V_main_arg7 m c)⟩, h.2⟩)
    (run_exact m ρ (Before m) (outBlock m) (fun _ _ _ _ h => h) (before_next m) (fun _ _ => Or.inl rfl) (next_out m))

end Cert.KernelIdeal.Rglru

end
-- ==== Proof.Experts.Step.lean ====
module

public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.VecWindow
public import Idealize.ShloMosaic.PureOps.Ideal
public import Idealize.ShloMosaic.Adequacy
public import Idealize.ShloMosaic.Init

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open Idealize.ShloMosaic.VecWindow (window put)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables and the two scratch buffers, whole. -/
abbrev tb0 : Memref sig .tc .smem S160 .i32 := Memref.whole main_arg0
abbrev tb1 : Memref sig .tc .smem S1 .i32 := Memref.whole main_arg1
abbrev sc0 : Memref sig .tc .vmem S2048x512 .bf16 := Memref.whole cc0_scratch0
abbrev sc1 : Memref sig .tc .vmem S256x2048 .bf16 := Memref.whole cc0_scratch1

/-- The five staging memrefs the body is called with. -/
structure Mems where
  m1 : Memref sig .tc .vmem S512x2048 .f32
  h1 : m1.IsWhole
  m2 : Memref sig .tc .vmem S1x2048x256 .f32
  h2 : m2.IsWhole
  m3 : Memref sig .tc .vmem S1x2048x256 .f32
  h3 : m3.IsWhole
  m4 : Memref sig .tc .vmem S1x256x2048 .f32
  h4 : m4.IsWhole
  m5 : Memref sig .tc .vmem S512x2048 .f32
  h5 : m5.IsWhole

/-- What the body reads and keeps: the tile of rows, one expert's three weight blocks, and the two tables. -/
structure Ins (F : FTy → Type) where
  x : Vec F S512x2048 .f32
  g : Vec F S1x2048x256 .f32
  u : Vec F S1x2048x256 .f32
  d : Vec F S1x256x2048 .f32
  te : S160.Idx → BitVec 32
  nu : S1.Idx → BitVec 32

/-- What the body changes: the output tile and the two scratch buffers of cast weights. -/
structure St (F : FTy → Type) where
  O : Vec F S512x2048 .f32
  A : Vec F S2048x512 .bf16
  B : Vec F S256x2048 .bf16

/-- All the memrefs, at the inputs and the state. -/
def Bufs (c : Dev nD) (M : Mems) (w : Ins F) (s : St F) : sProp 𝕄 :=
  iprop((owns (c : Thread nD τ) M.m1 fullShare w.x ∗ owns (c : Thread nD τ) M.m2 fullShare w.g ∗ owns (c : Thread nD τ) M.m3 fullShare w.u
    ∗ owns (c : Thread nD τ) M.m4 fullShare w.d ∗ (tb0.view.loc (c : Thread nD τ) ↦{fullShare.right} w.te) ∗ (tb1.view.loc (c : Thread nD τ) ↦{fullShare.right} w.nu))
    ∗ owns (c : Thread nD τ) M.m5 fullShare s.O ∗ owns (c : Thread nD τ) sc0 fullShare s.A ∗ owns (c : Thread nD τ) sc1 fullShare s.B)

/-- The two table words that the body compares, and the number of tiles in use. -/
abbrev here (F : FTy → Type) (i : grid0.Coords) (te : S160.Idx → BitVec 32) : BitVec 32 :=
  View.readAt (Elt F) tb0.view (Rect.unit (s := S160) (k0_off1 i) S1.size (k0_off1_inb i)).toLoadRect te (Shape.Idx.first (numel1_S1.symm ▸ Nat.one_pos))
abbrev prior (F : FTy → Type) (i : grid0.Coords) (te : S160.Idx → BitVec 32) : BitVec 32 :=
  View.readAt (Elt F) tb0.view (Rect.unit (s := S160) (k0_off2 i) S1.size (k0_off2_inb i)).toLoadRect te (Shape.Idx.first (numel1_S1.symm ▸ Nat.one_pos))
abbrev tiles (F : FTy → Type) (nu : S1.Idx → BitVec 32) : BitVec 32 :=
  View.readAt (Elt F) tb1.view (Rect.unit (s := S1) ![0] S1.size inb_S1_S1_0).toLoadRect nu (Shape.Idx.first (numel1_S1.symm ▸ Nat.one_pos))

/-- The point takes other weights than the point before it. -/
abbrev fresh (F : FTy → Type) (i : grid0.Coords) (te : S160.Idx → BitVec 32) : Prop :=
  Scalar.cmpi .ne (Scalar.extui (Scalar.ori (Scalar.cmpi .eq (BitVec.ofNat 32 (i 0).val) 0#32) (Scalar.cmpi .ne (here F i te) (prior F i te)))) 0#32 = 1#1

/-- The scratch buffers after one expert's weights are cast into them. -/
def castA (w : Ins F) (A : Vec F S2048x512 .bf16) : Vec F S2048x512 .bf16 :=
  put (put A ![0, 0] S2048x256.size (k0_pay1 (window w.g ![0, 0, 0] S1x2048x256.size inb_S1x2048x256_S1x2048x256_0_0_0)))
    ![0, 256] S2048x256.size (k0_pay2 (window w.u ![0, 0, 0] S1x2048x256.size inb_S1x2048x256_S1x2048x256_0_0_0))
def castB (w : Ins F) (B : Vec F S256x2048 .bf16) : Vec F S256x2048 .bf16 :=
  put B ![0, 0] S256x2048.size (k0_pay3 (window w.d ![0, 0, 0] S1x256x2048.size inb_S1x256x2048_S1x256x2048_0_0_0))

/-- The state after the first conditional. -/
def loaded (i : grid0.Coords) (w : Ins F) (s : St F) : St F :=
  if fresh F i w.te then ⟨s.O, castA w s.A, castB w s.B⟩ else s
/-- The state after the second: the tile's product. -/
def product (i : grid0.Coords) (w : Ins F) (s : St F) : St F :=
  if k0_cond2 i (tiles F w.nu) = 1#1 then
    ⟨put s.O ![0, 0] S512x2048.size (k0_pay4 (window w.x ![0, 0] S512x2048.size inb_S512x2048_S512x2048_0_0)
      (window s.A ![0, 0] S2048x512.size inb_S2048x512_S2048x512_0_0) (window s.B ![0, 0] S256x2048.size inb_S256x2048_S256x2048_0_0)), s.A, s.B⟩ else s
/-- The state after the third: zeros in a tile past those in use. -/
def cleared (i : grid0.Coords) (w : Ins F) (s : St F) : St F :=
  if k0_cond3 i (tiles F w.nu) = 1#1 then ⟨put s.O ![0, 0] S512x2048.size k0_pay5, s.A, s.B⟩ else s

/-- A load of a box reads the window of what the memref holds. -/
theorem load_owns (c : Dev nD) (E : Set ℕ) {s : Shape} {e : EltTy} (m : Memref sig .tc .vmem s e) (x : Vec F s e) (off size : Fin s.rank → ℕ)
    (inb : ∀ a, off a + size a ≤ s.size a) (h : m.view.LoadsAt (Rect.unit off size inb).toLoadRect) {α : Type}
    (k : _ → Prog (TpuEff nD τ sig (Elt F) Λ₀ .tc) α) (Q : α → sProp 𝕄) :
    iprop(owns (c : Thread nD τ) m fullShare x ∗ (owns (c : Thread nD τ) m fullShare x -∗ wp frame (wpE (defs₀ (F := F)) Variants.none c none) E (k (window x off size inb)) Q))
      ⊢ wp frame (wpE (defs₀ (F := F)) Variants.none c none) E (Prog.lift (.load m (Rect.unit off size inb).toLoadRect h) >>= k) Q := by
  unfold owns
  iintro ⟨⟨%f, %hf, H⟩, Hk⟩
  subst hf
  sl_exec
  iapply Hk
  iexists _
  isplitr; · ipureintro; rfl
  iexact H

/-- A store of a box puts the payload over the window. -/
theorem store_owns (c : Dev nD) (E : Set ℕ) {s : Shape} {e : EltTy} (m : Memref sig .tc .vmem s e) (x : Vec F s e) (off size : Fin s.rank → ℕ)
    (inb : ∀ a, off a + size a ≤ s.size a) (w : ((a : Fin s.rank) → Fin (size a)) → Elt F e) (h : (m.access (Rect.unit off size inb)).Stores Finset.univ) (hm) {α : Type}
    (k : PUnit → Prog (TpuEff nD τ sig (Elt F) Λ₀ .tc) α) (Q : α → sProp 𝕄) :
    iprop(owns (c : Thread nD τ) m fullShare x ∗ (owns (c : Thread nD τ) m fullShare (put x off size w) -∗ wp frame (wpE (defs₀ (F := F)) Variants.none c none) E (k ⟨⟩) Q))
      ⊢ wp frame (wpE (defs₀ (F := F)) Variants.none c none) E (Prog.lift (.store m (Rect.unit off size inb) w Finset.univ h hm) >>= k) Q := by
  unfold owns
  iintro ⟨⟨%f, %hf, H⟩, Hk⟩
  subst hf
  sl_exec
  iapply Hk
  iexists _
  isplitr
  rotate_left
  · iexact H
  · ipureintro
    exact View.read_writes_cons_put m.view f inb w [] rfl

/-- A scalar load from a table reads its word. -/
theorem word_owns (c : Dev nD) (E : Set ℕ) {s : Shape} (m : Memref sig .tc .smem s .i32) (hm : m.IsWhole) (q : PosShare TreeShare) (f : Buf (Elt F) (m.view.loc (c : Thread nD τ)))
    (off : Fin s.rank → ℕ) (size : Fin s.rank → ℕ) (inb : ∀ a, off a + size a ≤ s.size a) (h1 : (Rect.unit off size inb).shape.numel = 1) (hp : EltTy.packing .i32 = 1) {α : Type}
    (k : Elt F .i32 → Prog (TpuEff nD τ sig (Elt F) Λ₀ .tc) α) (Q : α → sProp 𝕄) :
    iprop((m.view.loc (c : Thread nD τ) ↦{q} f) ∗ ((m.view.loc (c : Thread nD τ) ↦{q} f) -∗ wp frame (wpE (defs₀ (F := F)) Variants.none c none) E
        (k (View.readAt (Elt F) m.view (Rect.unit off size inb).toLoadRect f (Shape.Idx.first (h1.symm ▸ Nat.one_pos)))) Q))
      ⊢ wp frame (wpE (defs₀ (F := F)) Variants.none c none) E (smemLoad m (Rect.unit off size inb) h1 hp >>= k) Q := by
  iintro ⟨H, Hk⟩
  sl_exec
  iapply Hk
  iexact H

variable {c : Dev nD} {E : Set ℕ} {M : Mems} {w : Ins F} {s : St F}

theorem at_load {d : Shape} {e : EltTy} {m : Memref sig .tc .vmem d e} {x : Vec F d e} {off size : Fin d.rank → ℕ}
    {inb : ∀ a, off a + size a ≤ d.size a} {h : m.view.LoadsAt (Rect.unit off size inb).toLoadRect} {α : Type}
    {k : _ → Prog (TpuEff nD τ sig (Elt F) Λ₀ .tc) α} {Q : α → sProp 𝕄}
    (hb : Bufs c M w s ⊢ iprop(owns (c : Thread nD τ) m fullShare x ∗ (owns (c : Thread nD τ) m fullShare x -∗ Bufs c M w s)))
    (hk : Bufs c M w s ⊢ wp frame (wpE (defs₀ (F := F)) Variants.none c none) E (k (window x off size inb)) Q) :
    Bufs c M w s ⊢ wp frame (wpE (defs₀ (F := F)) Variants.none c none) E (Prog.lift (.load m (Rect.unit off size inb).toLoadRect h) >>= k) Q := by
  refine hb.trans (.trans ?_ (load_owns c E m x off size inb h k _))
  iintro ⟨H, Hw⟩
  isplitl [H]; · iexact H
  iintro H
  iapply hk
  iapply Hw
  iexact H

theorem at_store {d : Shape} {e : EltTy} {m : Memref sig .tc .vmem d e} {x : Vec F d e} {off size : Fin d.rank → ℕ}
    {inb : ∀ a, off a + size a ≤ d.size a} {v : ((a : Fin d.rank) → Fin (size a)) → Elt F e} {h : (m.access (Rect.unit off size inb)).Stores Finset.univ} {hm} {α : Type}
    {k : PUnit → Prog (TpuEff nD τ sig (Elt F) Λ₀ .tc) α} {Q : α → sProp 𝕄} {s' : St F}
    (hb : Bufs c M w s ⊢ iprop(owns (c : Thread nD τ) m fullShare x ∗ (owns (c : Thread nD τ) m fullShare (put x off size v) -∗ Bufs c M w s')))
    (hk : Bufs c M w s' ⊢ wp frame (wpE (defs₀ (F := F)) Variants.none c none) E (k ⟨⟩) Q) :
    Bufs c M w s ⊢ wp frame (wpE (defs₀ (F := F)) Variants.none c none) E (Prog.lift (.store m (Rect.unit off size inb) v Finset.univ h hm) >>= k) Q := by
  refine hb.trans (.trans ?_ (store_owns c E m x off size inb v h hm k _))
  iintro ⟨H, Hw⟩
  isplitl [H]; · iexact H
  iintro H
  iapply hk
  iapply Hw
  iexact H

theorem at_word {d : Shape} {m : Memref sig .tc .smem d .i32} {hm : m.IsWhole} {q : PosShare TreeShare} {f : Buf (Elt F) (m.view.loc (c : Thread nD τ))} {off size : Fin d.rank → ℕ}
    {inb : ∀ a, off a + size a ≤ d.size a} {h1 : (Rect.unit off size inb).shape.numel = 1} {hp : EltTy.packing .i32 = 1} {α : Type}
    {k : Elt F .i32 → Prog (TpuEff nD τ sig (Elt F) Λ₀ .tc) α} {Q : α → sProp 𝕄}
    (hb : Bufs c M w s ⊢ iprop((m.view.loc (c : Thread nD τ) ↦{q} f) ∗ ((m.view.loc (c : Thread nD τ) ↦{q} f) -∗ Bufs c M w s)))
    (hk : Bufs c M w s ⊢ wp frame (wpE (defs₀ (F := F)) Variants.none c none) E
        (k (View.readAt (Elt F) m.view (Rect.unit off size inb).toLoadRect f (Shape.Idx.first (h1.symm ▸ Nat.one_pos)))) Q) :
    Bufs c M w s ⊢ wp frame (wpE (defs₀ (F := F)) Variants.none c none) E (smemLoad m (Rect.unit off size inb) h1 hp >>= k) Q := by
  refine hb.trans (.trans ?_ (word_owns c E m hm q f off size inb h1 hp k _))
  iintro ⟨H, Hw⟩
  isplitl [H]; · iexact H
  iintro H
  iapply hk
  iapply Hw
  iexact H

theorem at_end {s' : St F} (h : s = s') : Bufs c M w s ⊢ wp frame (wpE (defs₀ (F := F)) Variants.none c none) E (Pure.pure PUnit.unit : Prog (TpuEff nD τ sig (Elt F) Λ₀ .tc) PUnit) (fun _ => Bufs c M w s') := by
  subst h
  iintro H
  sl_step
  iexact H

theorem at_seq {α β : Type} {p : Prog (TpuEff nD τ sig (Elt F) Λ₀ .tc) α} {k : α → Prog (TpuEff nD τ sig (Elt F) Λ₀ .tc) β} {Q : β → sProp 𝕄} {s' : St F}
    (hp : Bufs c M w s ⊢ wp frame (wpE (defs₀ (F := F)) Variants.none c none) E p (fun _ => Bufs c M w s'))
    (hk : ∀ r, Bufs c M w s' ⊢ wp frame (wpE (defs₀ (F := F)) Variants.none c none) E (k r) Q) :
    Bufs c M w s ⊢ wp frame (wpE (defs₀ (F := F)) Variants.none c none) E (p >>= k) Q := by
  rw [wp_bind]
  exact hp.trans (wp_mono _ _ _ fun r => hk r)

section Focus
variable (c M w s)

theorem at1 : Bufs c M w s ⊢ iprop(owns (c : Thread nD τ) M.m1 fullShare w.x ∗ (owns (c : Thread nD τ) M.m1 fullShare w.x -∗ Bufs c M w s)) := by
  unfold Bufs; iintro ⟨⟨H1, H2, H3, H4, H5, H6⟩, H⟩; isplitl [H1]; · iexact H1
  iintro H1; iframe
theorem at2 : Bufs c M w s ⊢ iprop(owns (c : Thread nD τ) M.m2 fullShare w.g ∗ (owns (c : Thread nD τ) M.m2 fullShare w.g -∗ Bufs c M w s)) := by
  unfold Bufs; iintro ⟨⟨H1, H2, H3, H4, H5, H6⟩, H⟩; isplitl [H2]; · iexact H2
  iintro H2; iframe
theorem at3 : Bufs c M w s ⊢ iprop(owns (c : Thread nD τ) M.m3 fullShare w.u ∗ (owns (c : Thread nD τ) M.m3 fullShare w.u -∗ Bufs c M w s)) := by
  unfold Bufs; iintro ⟨⟨H1, H2, H3, H4, H5, H6⟩, H⟩; isplitl [H3]; · iexact H3
  iintro H3; iframe
theorem at4 : Bufs c M w s ⊢ iprop(owns (c : Thread nD τ) M.m4 fullShare w.d ∗ (owns (c : Thread nD τ) M.m4 fullShare w.d -∗ Bufs c M w s)) := by
  unfold Bufs; iintro ⟨⟨H1, H2, H3, H4, H5, H6⟩, H⟩; isplitl [H4]; · iexact H4
  iintro H4; iframe
theorem at5 : Bufs c M w s ⊢ iprop((tb0.view.loc (c : Thread nD τ) ↦{fullShare.right} w.te) ∗ ((tb0.view.loc (c : Thread nD τ) ↦{fullShare.right} w.te) -∗ Bufs c M w s)) := by
  unfold Bufs; iintro ⟨⟨H1, H2, H3, H4, H5, H6⟩, H⟩; isplitl [H5]; · iexact H5
  iintro H5; iframe
theorem at6 : Bufs c M w s ⊢ iprop((tb1.view.loc (c : Thread nD τ) ↦{fullShare.right} w.nu) ∗ ((tb1.view.loc (c : Thread nD τ) ↦{fullShare.right} w.nu) -∗ Bufs c M w s)) := by
  unfold Bufs; iintro ⟨⟨H1, H2, H3, H4, H5, H6⟩, H⟩; isplitl [H6]; · iexact H6
  iintro H6; iframe
theorem atO (O : Vec F S512x2048 .f32) (A : Vec F S2048x512 .bf16) (B : Vec F S256x2048 .bf16) (y : Vec F S512x2048 .f32) :
    Bufs c M w ⟨O, A, B⟩ ⊢ iprop(owns (c : Thread nD τ) M.m5 fullShare O ∗ (owns (c : Thread nD τ) M.m5 fullShare y -∗ Bufs c M w ⟨y, A, B⟩)) := by
  unfold Bufs; iintro ⟨K, H1, H2, H3⟩; isplitl [H1]; · iexact H1
  iintro H1; iframe
theorem atA (O : Vec F S512x2048 .f32) (A : Vec F S2048x512 .bf16) (B : Vec F S256x2048 .bf16) (y : Vec F S2048x512 .bf16) :
    Bufs c M w ⟨O, A, B⟩ ⊢ iprop(owns (c : Thread nD τ) sc0 fullShare A ∗ (owns (c : Thread nD τ) sc0 fullShare y -∗ Bufs c M w ⟨O, y, B⟩)) := by
  unfold Bufs; iintro ⟨K, H1, H2, H3⟩; isplitl [H2]; · iexact H2
  iintro H2; iframe
theorem atB (O : Vec F S512x2048 .f32) (A : Vec F S2048x512 .bf16) (B : Vec F S256x2048 .bf16) (y : Vec F S256x2048 .bf16) :
    Bufs c M w ⟨O, A, B⟩ ⊢ iprop(owns (c : Thread nD τ) sc1 fullShare B ∗ (owns (c : Thread nD τ) sc1 fullShare y -∗ Bufs c M w ⟨O, A, y⟩)) := by
  unfold Bufs; iintro ⟨K, H1, H2, H3⟩; isplitl [H3]; · iexact H3
  iintro H3; iframe

end Focus

/-- The body, from state `s`. -/
theorem body (i : grid0.Coords) (s : St F) :
    Bufs c M w s ⊢ wp frame (wpE (defs₀ (F := F)) Variants.none c none) E
      (cc0_moe_experts i tb0 (Memref.isWhole_whole _) tb1 (Memref.isWhole_whole _) M.m1 M.h1 M.m2 M.h2 M.m3 M.h3 M.m4 M.h4 M.m5 M.h5 sc0 (Memref.isWhole_whole _) sc1 (Memref.isWhole_whole _))
      (fun _ => Bufs c M w (cleared i w (product i w (loaded i w s)))) := by
  rw [cc0_moe_experts_eq_skeleton]; unfold cc0_moe_experts_skel
  dsimp only
  refine at_word (hm := Memref.isWhole_whole _) (at5 c M w s) ?_
  refine at_word (hm := Memref.isWhole_whole _) (at5 c M w s) ?_
  obtain ⟨O, A, B⟩ := s
  by_cases h : fresh F i w.te
  on_goal 1 =>
    rw [if_pos h, show loaded i w ⟨O, A, B⟩ = ⟨O, castA w A, castB w B⟩ from if_pos h]
    refine at_load (at2 c M w _) ?_
    refine at_load (atA c M w _ _ _ A) ?_
    refine at_store (atA c M w _ _ _ _) ?_
    refine at_load (at3 c M w _) ?_
    refine at_load (atA c M w _ _ _ _) ?_
    refine at_store (atA c M w _ _ _ _) ?_
    refine at_load (at4 c M w _) ?_
    refine at_load (atB c M w _ _ _ B) ?_
    refine at_store (atB c M w _ _ _ _) ?_
    refine .trans (Q := Bufs c M w ⟨O, castA w A, castB w B⟩) .rfl ?_
    generalize castA w A = A
    generalize castB w B = B
  on_goal 2 => rw [if_neg h, show loaded i w ⟨O, A, B⟩ = ⟨O, A, B⟩ from if_neg h]
  all_goals
    refine at_word (hm := Memref.isWhole_whole _) (at6 c M w _) ?_
    by_cases h2 : k0_cond2 i (tiles F w.nu) = 1#1
    on_goal 1 =>
      rw [dif_pos h2, product, if_pos h2]
      refine at_load (at1 c M w _) ?_
      refine at_load (atA c M w _ _ _ A) ?_
      refine at_load (atB c M w _ _ _ B) ?_
      refine at_load (atO c M w _ _ _ O) ?_
      refine at_store (atO c M w _ _ _ _) ?_
    on_goal 2 => rw [dif_neg h2, product, if_neg h2]
    all_goals
      refine at_word (hm := Memref.isWhole_whole _) (at6 c M w _) ?_
      by_cases h3 : k0_cond3 i (tiles F w.nu) = 1#1
      · rw [dif_pos h3, cleared, if_pos h3]
        refine at_load (atO c M w _ _ _ _) ?_
        refine at_store (atO c M w _ _ _ _) ?_
        exact at_end rfl
      · rw [dif_neg h3, cleared, if_neg h3]
        exact at_end rfl

end Cert.Kernel2Ideal.Experts

end
-- ==== Proof.Experts.Tables.lean ====
module

public import proofs.«01_k».proof.Proof.Experts.Step

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open Idealize.ShloMosaic.VecWindow (window put)
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

variable {F : FTy → Type} [FloatOps F]

local notation "𝕄" => MT nD τ sig Unit (Elt F) ℕ (UR sig nD τ) ℕ

/-- The two tables, in range: each tile's expert, and the number of tiles in use. -/
structure Tables where
  te : S160.Idx → BitVec 32
  nu : S1.Idx → BitVec 32
  hte : ∀ x, (te x).toNat < 32
  hlo : ∀ x, 1 ≤ (nu x).toNat
  hhi : ∀ x, (nu x).toNat ≤ 160

variable (T : Tables)

/-- The tables as the launch prefetches them. -/
def pf (F : FTy → Type) (T : Tables) : pre0.Contents (Elt F) := fun | ⟨0, _⟩ => T.te | ⟨1, _⟩ => T.nu | ⟨_ + 2, h⟩ => absurd h (by simp)

/-- The table index that a point reads. -/
def at160 (n : ℕ) (h : n < 160) : S160.Idx := fun a => match a with | ⟨0, _⟩ => ⟨n, h⟩
abbrev z1 : S1.Idx := fun a => match a with | ⟨0, _⟩ => ⟨0, Nat.one_pos⟩

theorem lt160 (i : grid0.Coords) : (i 0).val < 160 := (i 0).isLt

theorem idx160_ext {x y : S160.Idx} (h : (x 0).val = (y 0).val) : x = y := by
  funext a; fin_cases a; exact Fin.ext h
theorem idx1_eq (x : S1.Idx) : x = z1 := by
  funext a; fin_cases a; exact Fin.ext (by have := (x 0).isLt; change (x 0).val < 1 at this; show (x 0).val = 0; omega)

theorem off1_eq (i : grid0.Coords) : k0_off1 i 0 = (i 0).val := by
  have := lt160 i
  show (BitVec.ofNat 32 (i 0).val).toNat = _
  rw [BitVec.toNat_ofNat]; omega

theorem off2_eq : ∀ n : Fin 160, (Scalar.indexCast (Scalar.maxsi (Scalar.subi (BitVec.ofNat 32 n.val) 1#32) 0#32) : Index).toNat = n.val - 1 := by decide +kernel

theorem here_eq (i : grid0.Coords) : here F i T.te = T.te (at160 (i 0).val (lt160 i)) := by
  refine congrArg T.te (idx160_ext ?_)
  show k0_off1 i 0 + 1 * 0 = _
  rw [off1_eq]; rfl

theorem prior_eq (i : grid0.Coords) : prior F i T.te = T.te (at160 ((i 0).val - 1) (by have := lt160 i; omega)) := by
  refine congrArg T.te (idx160_ext ?_)
  show k0_off2 i 0 + 1 * 0 = _
  exact off2_eq ⟨(i 0).val, lt160 i⟩

theorem tiles_eq : tiles F T.nu = T.nu z1 := congrArg T.nu (idx1_eq _)

theorem pf_at0 (i : grid0.Coords) : (pf F T).at 0 (Rect.unit (s := S160) (k0_off1 i) S1.size (k0_off1_inb i)) numel1_S1 = T.te (at160 (i 0).val (lt160 i)) := here_eq (F := F) T i
theorem pf_at1 : (pf F T).at 1 (Rect.unit (s := S1) ![0] S1.size inb_S1_S1_0) numel1_S1 = T.nu z1 := tiles_eq (F := F) T

/-- The expert of tile `n`, and the number of tiles in use. -/
def expert (n : ℕ) (h : n < 160) : Fin 32 := ⟨(T.te (at160 n h)).toNat, T.hte _⟩
def used : ℕ := (T.nu z1).toNat

theorem used_pos : 1 ≤ used T := T.hlo _
theorem used_le : used T ≤ 160 := T.hhi _

/-- The tile of rows that a point is given: past those in use, the last one in use. -/
def tile (n : ℕ) : ℕ := min n (used T - 1)

theorem slt_small (a b : ℕ) (ha : a < 2 ^ 31) (hb : b < 2 ^ 31) : (BitVec.ofNat 32 a).slt (BitVec.ofNat 32 b) = decide (a < b) := by
  have h (n : ℕ) (hn : n < 2 ^ 31) : (BitVec.ofNat 32 n).toInt = n := by
    rw [BitVec.toInt_eq_toNat_of_lt] <;> rw [BitVec.toNat_ofNat] <;> omega
  rw [BitVec.slt, h a ha, h b hb]
  simp

theorem minsi_small (n u : ℕ) (hn : n < 160) (h1 : 1 ≤ u) (h2 : u ≤ 160) :
    (Scalar.minsi (BitVec.ofNat 32 n) (Scalar.subi (BitVec.ofNat 32 u) 1#32)).toNat = min n (u - 1) := by
  have e : Scalar.subi (BitVec.ofNat 32 u) 1#32 = BitVec.ofNat 32 (u - 1) := by
    apply BitVec.eq_of_toNat_eq
    simp only [Scalar.subi, IntOp.subi, BitVec.toNat_sub, BitVec.toNat_ofNat]
    omega
  rw [e]
  have hs := slt_small n (u - 1) (by omega) (by omega)
  simp only [Scalar.minsi, IntOp.minsi, hs]
  split <;> rename_i h <;> simp at h <;> rw [BitVec.toNat_ofNat] <;> omega

theorem ix_x (i : grid0.Coords) : cc0_transform_0 inb_S1_S1_0 numel1_S1 (pf F T) i = ![tile T (i 0).val, 0] := by
  have h := fun n u => minsi_small n u
  have e := h (i 0).val (used T) (lt160 i) (used_pos T) (used_le T)
  rw [show BitVec.ofNat 32 (used T) = T.nu z1 from by simp [used]] at e
  unfold cc0_transform_0
  dsimp only
  rw [pf_at1, e]
  rfl

theorem ix_g (i : grid0.Coords) : cc0_transform_1 k0_off1_inb numel1_S1 (pf F T) i = ![(expert T (i 0).val (lt160 i)).val, 0, 0] := by
  unfold cc0_transform_1
  dsimp only
  have e := pf_at0 (F := F) T i
  show ![BitVec.toNat ((pf F T).at 0 (Rect.unit (s := S160) (k0_off1 i) S1.size (k0_off1_inb i)) numel1_S1), 0, 0] = ![(T.te (at160 (i 0).val (lt160 i))).toNat, 0, 0]
  rw [e]
theorem ix_u (i : grid0.Coords) : cc0_transform_2 k0_off1_inb numel1_S1 (pf F T) i = ![(expert T (i 0).val (lt160 i)).val, 0, 0] := ix_g T i
theorem ix_d (i : grid0.Coords) : cc0_transform_3 k0_off1_inb numel1_S1 (pf F T) i = ![(expert T (i 0).val (lt160 i)).val, 0, 0] := ix_g T i
theorem ix_o (i : grid0.Coords) : cc0_transform_4 i = ![(i 0).val, 0] := by
  have := lt160 i
  unfold cc0_transform_4
  dsimp only
  rw [show (BitVec.ofNat 32 (i 0).val).toNat = (i 0).val from by rw [BitVec.toNat_ofNat]; omega]
  rfl

/-- Every block lies inside its array. -/
theorem ok : ok0 (pf F T) := by
  refine ⟨fun i => ⟨?_, .inl rfl⟩, fun i => ⟨?_, .inl rfl⟩, fun i => ⟨?_, .inl rfl⟩, fun i => ⟨?_, .inl rfl⟩⟩
  · rw [ix_x]; have := used_le T; have := used_pos T
    intro a; fin_cases a
    · show (tile T (i 0).val + 1) * 512 ≤ 81920
      unfold tile; omega
    · exact Nat.le_refl _
  · rw [ix_g]; have := (expert T (i 0).val (lt160 i)).isLt
    intro a; fin_cases a
    · show ((expert T (i 0).val (lt160 i)).val + 1) * 1 ≤ 32
      omega
    · exact Nat.le_refl _
    · exact Nat.le_refl _
  · rw [ix_u]; have := (expert T (i 0).val (lt160 i)).isLt
    intro a; fin_cases a
    · show ((expert T (i 0).val (lt160 i)).val + 1) * 1 ≤ 32
      omega
    · exact Nat.le_refl _
    · exact Nat.le_refl _
  · rw [ix_d]; have := (expert T (i 0).val (lt160 i)).isLt
    intro a; fin_cases a
    · show ((expert T (i 0).val (lt160 i)).val + 1) * 1 ≤ 32
      omega
    · exact Nat.le_refl _
    · exact Nat.le_refl _

/-- One of the two conditions holds at every point: the tile is in use, or it is not. -/
theorem cond2_iff (i : grid0.Coords) (v : BitVec 32) : k0_cond2 i v = 1#1 ↔ (BitVec.ofNat 32 (i 0).val).slt v = true := by
  unfold k0_cond2
  simp only [Scalar.cmpi, Scalar.extui]
  cases h : (BitVec.ofNat 32 (i 0).val).slt v <;> simp [IntOp.cmpi, h]
theorem cond3_iff (i : grid0.Coords) (v : BitVec 32) : k0_cond3 i v = 1#1 ↔ (BitVec.ofNat 32 (i 0).val).slt v = false := by
  unfold k0_cond3
  simp only [Scalar.cmpi, Scalar.extui, IntOp.cmpi, BitVec.sle_eq_not_slt]
  generalize (BitVec.ofNat 32 (i 0).val).slt v = b
  cases b <;> decide

theorem slt_used (i : grid0.Coords) : (BitVec.ofNat 32 (i 0).val).slt (T.nu z1) = true ↔ (i 0).val < used T := by
  have h := slt_small (i 0).val (used T) (by have := lt160 i; omega) (by have := used_le T; omega)
  rw [show BitVec.ofNat 32 (used T) = T.nu z1 from by simp [used]] at h
  rw [h, decide_eq_true_iff]

theorem fresh_iff (i : grid0.Coords) : fresh F i T.te ↔ (i 0).val = 0 ∨ here F i T.te ≠ prior F i T.te := by
  have h0 : (BitVec.ofNat 32 (i 0).val = 0#32) ↔ (i 0).val = 0 := by
    have := lt160 i
    constructor
    · intro h; have h := congrArg BitVec.toNat h; rw [BitVec.toNat_ofNat] at h; change _ % _ = 0 at h; omega
    · intro h; rw [h]
  rw [← h0]
  unfold fresh
  generalize here F i T.te = a
  generalize prior F i T.te = b
  generalize BitVec.ofNat 32 (i 0).val = n
  rw [← beq_iff_eq (a := n), ← bne_iff_ne (a := a)]
  simp only [Scalar.cmpi, Scalar.extui, Scalar.ori, IntOp.cmpi, IntOp.ori]
  generalize (n == 0#32) = x
  generalize (a != b) = y
  cases x <;> cases y <;> decide

theorem not_idle (i : grid0.Coords) (v : BitVec 32) : (!(k0_cond2 i v == 1#1) && !(k0_cond3 i v == 1#1)) = false := by
  have h2 := cond2_iff i v
  have h3 := cond3_iff i v
  cases h : (BitVec.ofNat 32 (i 0).val).slt v
  · simp [h3.2 h]
  · simp [h2.2 h]

end Cert.Kernel2Ideal.Experts

end
-- ==== Proof.Experts.Data.lean ====
module

public import proofs.«01_k».proof.Proof.Experts.Tables
public import Idealize.ShloMosaic.Lib.Pipeline.ValueKit

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open Idealize.ShloMosaic.VecWindow (window put)
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

variable {F : FTy → Type} [FloatOps F]

local notation "𝕄" => MT nD τ sig Unit (Elt F) ℕ (UR sig nD τ) ℕ

/-- The library's resource algebra for the staging buffers, embedded whole. -/
abbrev EP (F : FTy → Type) [FloatOps F] : Emb (UR sig nD τ) (MT nD τ sig Unit (Elt F) ℕ (UR sig nD τ) ℕ) := emb₁

section

variable (F) (T : Tables)

/-- The pipeline at the tables. -/
def adm : (pcfg0 (F := F)).Adm := ⟨pf F T, ok T⟩
abbrev cfgA : Pipeline.Cfg sig Λ₀ := cfg0 (F := F) (adm F T)
abbrev pcs : Fin 1 → Pipeline.Cfg sig Λ₀ := Pipeline.pin (pcfgs (F := F)) fun _ => adm F T

end

variable (T : Tables) (m : (ℓ : Loc nD τ sig) → Buf (Elt F) ℓ) (ρ : Dev nD → PrngReg)

abbrev crd (t : Fin (cfgA F T).N) : grid0.Coords := (cfgA F T).grid.coords t

theorem coords_val0 : ∀ t : Fin grid0.N, (grid0.coords t 0).val = t.val := by decide +kernel
theorem crd_val (t : Fin (cfgA F T).N) : (crd T t 0).val = t.val := coords_val0 t

/-- The memrefs of the body at point `t`. -/
def mems (t : Fin (cfgA F T).N) : Mems where
  m1 := spec0_0.stage ((cfgA F T).slots t 0)
  h1 := hstage0_0 (((cfgA F T).slots t 0).cast nbuf0_0)
  m2 := spec0_1.stage ((cfgA F T).slots t 1)
  h2 := hstage0_1 (((cfgA F T).slots t 1).cast nbuf0_1)
  m3 := spec0_2.stage ((cfgA F T).slots t 2)
  h3 := hstage0_2 (((cfgA F T).slots t 2).cast nbuf0_2)
  m4 := spec0_3.stage ((cfgA F T).slots t 3)
  h4 := hstage0_3 (((cfgA F T).slots t 3).cast nbuf0_3)
  m5 := spec0_4.stage ((cfgA F T).slots t 4)
  h5 := hstage0_4 (((cfgA F T).slots t 4).cast nbuf0_4)

/-- Window `w`'s block at point `t`, read off its array at launch. -/
def iblk (c : Dev nD) (w : Fin (cfgA F T).W) (t : Fin (cfgA F T).N) : (((cfgA F T).win w).xblock ((cfgA F T).grid.coords t)).Idx → Elt F ((cfgA F T).win w).elt :=
  (((cfgA F T).win w).blk t).view.read (Elt F) ((s₀ m ρ).mem (((cfgA F T).win w).arr.view.loc (c : Thread nD τ)))

/-- The inputs of the body at point `t`. -/
def ins (c : Dev nD) (t : Fin (cfgA F T).N) : Ins F where
  x := iblk T m ρ c 0 t
  g := iblk T m ρ c 1 t
  u := iblk T m ρ c 2 t
  d := iblk T m ρ c 3 t
  te := T.te
  nu := T.nu

/-- Buffers that nothing is known of. -/
def noA : Vec F S2048x512 .bf16 := fun _ => Scalar.ofBits .bf16 0
def noB : Vec F S256x2048 .bf16 := fun _ => Scalar.ofBits .bf16 0

/-- The casts cover the scratch buffers, so what they held before is gone. -/
theorem castA_all (w : Ins F) (A A' : Vec F S2048x512 .bf16) : castA w A = castA w A' := by
  funext y
  unfold castA VecWindow.put
  have h0 : (y 0).val < 2048 := (y 0).isLt
  have h1 : (y 1).val < 512 := (y 1).isLt
  split
  · rfl
  · rename_i hn
    split
    · rfl
    · rename_i hm
      exfalso
      have hm' : ¬ ((y 0).val < 2048 ∧ (y 1).val < 256) := fun h => hm fun a => by
        fin_cases a
        · exact ⟨Nat.zero_le _, by show (y 0).val < 0 + 2048; omega⟩
        · exact ⟨Nat.zero_le _, by show (y 1).val < 0 + 256; omega⟩
      have hn' : ¬ ((y 0).val < 2048 ∧ 256 ≤ (y 1).val) := fun h => hn fun a => by
        fin_cases a
        · exact ⟨Nat.zero_le _, by show (y 0).val < 0 + 2048; omega⟩
        · exact ⟨h.2, by show (y 1).val < 256 + 256; omega⟩
      omega

theorem put_all {s : Shape} {α : Type} (x x' : s.Idx → α) (off : Fin s.rank → ℕ) (h0 : ∀ a, off a = 0) (v : ((a : Fin s.rank) → Fin (s.size a)) → α) : put x off s.size v = put x' off s.size v := by
  funext y
  unfold VecWindow.put
  have h : ∀ a, off a ≤ (y a).val ∧ (y a).val < off a + s.size a := fun a => by
    have := (y a).isLt; rw [h0 a]; exact ⟨Nat.zero_le _, by omega⟩
  rw [dif_pos h, dif_pos h]

theorem zero2 : ∀ a, (![0, 0] : Fin 2 → ℕ) a = 0 := by decide

theorem castB_all (w : Ins F) (B B' : Vec F S256x2048 .bf16) : castB w B = castB w B' := put_all (s := S256x2048) B B' ![0, 0] zero2 _

/-- The cast weights of point `t`, and the block that its body leaves in the output. -/
def wA (c : Dev nD) (t : Fin (cfgA F T).N) : Vec F S2048x512 .bf16 := castA (ins T m ρ c t) noA
def wB (c : Dev nD) (t : Fin (cfgA F T).N) : Vec F S256x2048 .bf16 := castB (ins T m ρ c t) noB
def out (c : Dev nD) (t : Fin (cfgA F T).N) : Vec F S512x2048 .f32 :=
  (cleared (crd T t) (ins T m ρ c t) (product (crd T t) (ins T m ρ c t) ⟨fun _ => Scalar.ofBits .f32 0, wA T m ρ c t, wB T m ρ c t⟩)).O

/-- Before point `n` the scratch buffers hold the cast weights of the point before it. -/
def Held (c : Dev nD) (n : ℕ) (A : Vec F S2048x512 .bf16) (B : Vec F S256x2048 .bf16) : Prop :=
  n = 0 ∨ ∃ t : Fin (cfgA F T).N, t.val + 1 = n ∧ A = wA T m ρ c t ∧ B = wB T m ρ c t

theorem expert_congr {n n' : ℕ} (h : n < 160) (h' : n' < 160) (e : n = n') : expert T n h = expert T n' h' := by subst e; rfl

abbrev lt_N (t : Fin (cfgA F T).N) : t.val < 160 := lt_of_lt_of_eq t.isLt rfl

theorem idx_g (t : Fin (cfgA F T).N) : ((cfgA F T).win 1).index t = ![(expert T t.val (lt_N T t)).val, 0, 0] := by
  have e := ix_g (F := F) T (crd T t)
  rw [expert_congr T (lt160 (crd T t)) (lt_N T t) (crd_val T t)] at e
  exact e
theorem idx_u (t : Fin (cfgA F T).N) : ((cfgA F T).win 2).index t = ![(expert T t.val (lt_N T t)).val, 0, 0] := idx_g T t
theorem idx_d (t : Fin (cfgA F T).N) : ((cfgA F T).win 3).index t = ![(expert T t.val (lt_N T t)).val, 0, 0] := idx_g T t
theorem idx_x (t : Fin (cfgA F T).N) : ((cfgA F T).win 0).index t = ![tile T t.val, 0] := by
  have := ix_x (F := F) T (crd T t)
  rw [crd_val] at this
  exact this
theorem idx_o (t : Fin (cfgA F T).N) : ((cfgA F T).win 4).index t = ![t.val, 0] := by
  have := ix_o (crd (F := F) T t)
  rw [crd_val] at this
  exact this

theorem iblk_g (c : Dev nD) (t : Fin (cfgA F T).N) (k : Fin 2048) (f : Fin 256) :
    iblk T m ρ c 1 t (ix3 0 k f) = m ((c.tc : Thread nD τ).loc main_arg3) (ix3 (expert T t.val (lt_N T t)) k f) := by
  blk_ext! [iblk, s₀, idx_g T t]
theorem iblk_u (c : Dev nD) (t : Fin (cfgA F T).N) (k : Fin 2048) (f : Fin 256) :
    iblk T m ρ c 2 t (ix3 0 k f) = m ((c.tc : Thread nD τ).loc main_arg4) (ix3 (expert T t.val (lt_N T t)) k f) := by
  blk_ext! [iblk, s₀, idx_u T t]
theorem iblk_d (c : Dev nD) (t : Fin (cfgA F T).N) (f : Fin 256) (d : Fin 2048) :
    iblk T m ρ c 3 t (ix3 0 f d) = m ((c.tc : Thread nD τ).loc main_arg5) (ix3 (expert T t.val (lt_N T t)) f d) := by
  blk_ext! [iblk, s₀, idx_d T t]
theorem iblk_x (c : Dev nD) (t : Fin (cfgA F T).N) (r : Fin 512) (k : Fin 2048) :
    iblk T m ρ c 0 t (ix2 r k) = m ((c.tc : Thread nD τ).loc main_arg2)
      (ix2 ⟨512 * tile T t.val + r.val, by have := used_le T; have := used_pos T; unfold tile; omega⟩ k) := by
  have := idx_x (F := F) T t
  blk_ext! [iblk, s₀, idx_x T t]

theorem eta_one {n k : ℕ} (y : (⟨3, ![1, n, k]⟩ : Shape).Idx) : ∃ (a : Fin n) (b : Fin k), y = ix3 0 a b :=
  ⟨y 1, y 2, (ix3_eta y).symm.trans (congrArg (fun z : Fin 1 => ix3 z (y 1) (y 2)) (Subsingleton.elim _ _))⟩

/-- Points of one expert have the same weight blocks. -/
theorem same_g (c : Dev nD) (t t' : Fin (cfgA F T).N) (h : expert T t.val (lt_N T t) = expert T t'.val (lt_N T t')) :
    (ins T m ρ c t).g = (ins T m ρ c t').g := by
  funext y
  obtain ⟨k, f, rfl⟩ := eta_one y
  exact (iblk_g T m ρ c t k f).trans ((congrArg (fun e => m ((c.tc : Thread nD τ).loc main_arg3) (ix3 e k f)) h).trans (iblk_g T m ρ c t' k f).symm)
theorem same_u (c : Dev nD) (t t' : Fin (cfgA F T).N) (h : expert T t.val (lt_N T t) = expert T t'.val (lt_N T t')) :
    (ins T m ρ c t).u = (ins T m ρ c t').u := by
  funext y
  obtain ⟨k, f, rfl⟩ := eta_one y
  exact (iblk_u T m ρ c t k f).trans ((congrArg (fun e => m ((c.tc : Thread nD τ).loc main_arg4) (ix3 e k f)) h).trans (iblk_u T m ρ c t' k f).symm)
theorem same_d (c : Dev nD) (t t' : Fin (cfgA F T).N) (h : expert T t.val (lt_N T t) = expert T t'.val (lt_N T t')) :
    (ins T m ρ c t).d = (ins T m ρ c t').d := by
  funext y
  obtain ⟨k, f, rfl⟩ := eta_one y
  exact (iblk_d T m ρ c t k f).trans ((congrArg (fun e => m ((c.tc : Thread nD τ).loc main_arg5) (ix3 e k f)) h).trans (iblk_d T m ρ c t' k f).symm)

/-- After the first conditional the scratch buffers hold the point's own cast weights. -/
theorem loaded_eq (c : Dev nD) (t : Fin (cfgA F T).N) (s : St F) (h : Held T m ρ c t.val s.A s.B) :
    loaded (crd T t) (ins T m ρ c t) s = ⟨s.O, wA T m ρ c t, wB T m ρ c t⟩ := by
  unfold loaded
  by_cases hf : fresh F (crd T t) (ins T m ρ c t).te
  · rw [if_pos hf, castA_all _ s.A noA, castB_all _ s.B noB]; rfl
  · rw [if_neg hf]
    have hf' : ¬ (_ ∨ _) := fun h => hf ((fresh_iff T (crd T t)).mpr h)
    rw [not_or, not_not, here_eq, prior_eq] at hf'
    obtain ⟨h0, he⟩ := hf'
    obtain ⟨t', ht, hA, hB⟩ := h.resolve_left fun e => h0 ((crd_val T t).trans e)
    have hx : expert T t.val (lt_N T t) = expert T t'.val (lt_N T t') := by
      have e1 : T.te (at160 t.val (lt_N T t)) = T.te (at160 (crd T t 0).val (lt160 _)) := congrArg T.te (idx160_ext (crd_val T t).symm)
      have e2 : T.te (at160 ((crd T t 0).val - 1) (by have := lt160 (crd T t); omega)) = T.te (at160 t'.val (lt_N T t')) :=
        congrArg T.te (idx160_ext (by show (crd T t 0).val - 1 = t'.val; rw [crd_val]; omega))
      have e3 := congrArg BitVec.toNat (e1.trans (he.trans e2))
      exact Fin.ext e3
    obtain ⟨O, A, B⟩ := s
    refine congr (congrArg (St.mk O) (hA.trans ?_)) (hB.trans ?_)
    · unfold wA castA
      rw [same_g T m ρ c t t' hx, same_u T m ρ c t t' hx]
    · unfold wB castB
      rw [same_d T m ρ c t t' hx]

/-- After the body the output holds `out`, whatever it held, and the scratch buffers the point's cast weights. -/
theorem after_eq (c : Dev nD) (t : Fin (cfgA F T).N) (s : St F) (h : Held T m ρ c t.val s.A s.B) :
    cleared (crd T t) (ins T m ρ c t) (product (crd T t) (ins T m ρ c t) (loaded (crd T t) (ins T m ρ c t) s))
      = ⟨out T m ρ c t, wA T m ρ c t, wB T m ρ c t⟩ := by
  rw [loaded_eq T m ρ c t s h]
  unfold out
  generalize wA T m ρ c t = A
  generalize wB T m ρ c t = B
  have h2 := cond2_iff (crd T t) (tiles F (ins T m ρ c t).nu)
  have h3 := cond3_iff (crd T t) (tiles F (ins T m ρ c t).nu)
  unfold product cleared
  by_cases hc : (BitVec.ofNat 32 (crd T t 0).val).slt (tiles F (ins T m ρ c t).nu) = true
  · have n3 : ¬ k0_cond3 (crd T t) (tiles F (ins T m ρ c t).nu) = 1#1 := fun h => by rw [h3.mp h] at hc; exact absurd hc (by decide)
    simp only [if_pos (h2.mpr hc), if_neg n3]
    exact congrArg (fun O => St.mk O A B) (put_all (s := S512x2048) _ _ ![0, 0] zero2 _)
  · have p3 := h3.mpr (Bool.eq_false_iff.mpr hc)
    have n2 : ¬ k0_cond2 (crd T t) (tiles F (ins T m ρ c t).nu) = 1#1 := fun h => hc (h2.mp h)
    simp only [if_neg n2, if_pos p3]
    exact congrArg (fun O => St.mk O A B) (put_all (s := S512x2048) _ _ ![0, 0] zero2 _)

end Cert.Kernel2Ideal.Experts

end
-- ==== Proof.Experts.Run.lean ====
module

public import proofs.«01_k».proof.Proof.Experts.Data

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open Idealize.ShloMosaic.VecWindow (window put)
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

variable {F : FTy → Type} [FloatOps F]

local notation "𝕄" => MT nD τ sig Unit (Elt F) ℕ (UR sig nD τ) ℕ

variable (T : Tables) (m : (ℓ : Loc nD τ sig) → Buf (Elt F) ℓ) (ρ : Dev nD → PrngReg)

/-- The invariant before point `n`: the scratch buffers as said, and the body's halves of the tables. -/
def Phi (c : Dev nD) (n : ℕ) : sProp 𝕄 :=
  iprop(∃ A B, ⌜Held T m ρ c n A B⌝ ∗ owns (c : Thread nD τ) sc0 fullShare A ∗ owns (c : Thread nD τ) sc1 fullShare B
    ∗ (tb0.view.loc (c : Thread nD τ) ↦{fullShare.right} T.te) ∗ (tb1.view.loc (c : Thread nD τ) ↦{fullShare.right} T.nu))

/-- The pipeline's data. -/
def dats (_ : Fin 1) (c : Dev nD) : Dat τ (Elt F) Unit ℕ (UR sig nD τ) ℕ (cfgA F T) c where
  A w := (s₀ m ρ).mem (((cfgA F T).win w).arr.view.loc (c : Thread nD τ))
  after w t := match w with
    | ⟨0, _⟩ => iblk T m ρ c 0 t
    | ⟨1, _⟩ => iblk T m ρ c 1 t
    | ⟨2, _⟩ => iblk T m ρ c 2 t
    | ⟨3, _⟩ => iblk T m ρ c 3 t
    | ⟨4, _⟩ => out T m ρ c t
  Φ n := Phi T m ρ c n.val
  q _ := fullShare
  owed _ := 0

theorem after0 (c : Dev nD) (t : Fin (cfgA F T).N) : (dats T m ρ 0 c).after 0 t = iblk T m ρ c 0 t := rfl
theorem after1 (c : Dev nD) (t : Fin (cfgA F T).N) : (dats T m ρ 0 c).after 1 t = iblk T m ρ c 1 t := rfl
theorem after2 (c : Dev nD) (t : Fin (cfgA F T).N) : (dats T m ρ 0 c).after 2 t = iblk T m ρ c 2 t := rfl
theorem after3 (c : Dev nD) (t : Fin (cfgA F T).N) : (dats T m ρ 0 c).after 3 t = iblk T m ρ c 3 t := rfl
theorem after4 (c : Dev nD) (t : Fin (cfgA F T).N) : (dats T m ρ 0 c).after 4 t = out T m ρ c t := rfl

theorem before0 (c : Dev nD) (t : Fin (cfgA F T).N) (d) : (dats T m ρ 0 c).before 0 t d = iblk T m ρ c 0 t :=
  ((dats T m ρ 0 c).before_in_eq_fetched 0 rfl (fun _ => rfl) (fun _ _ _ => rfl) (fun t => by rw [after0]; unfold Dat.blockOf iblk; rfl) t d).trans
    (by unfold Dat.fetched Dat.blockOf iblk; rfl)
theorem before1 (c : Dev nD) (t : Fin (cfgA F T).N) (d) : (dats T m ρ 0 c).before 1 t d = iblk T m ρ c 1 t :=
  ((dats T m ρ 0 c).before_in_eq_fetched 1 rfl (fun _ => rfl) (fun _ _ _ => rfl) (fun t => by rw [after1]; unfold Dat.blockOf iblk; rfl) t d).trans
    (by unfold Dat.fetched Dat.blockOf iblk; rfl)
theorem before2 (c : Dev nD) (t : Fin (cfgA F T).N) (d) : (dats T m ρ 0 c).before 2 t d = iblk T m ρ c 2 t :=
  ((dats T m ρ 0 c).before_in_eq_fetched 2 rfl (fun _ => rfl) (fun _ _ _ => rfl) (fun t => by rw [after2]; unfold Dat.blockOf iblk; rfl) t d).trans
    (by unfold Dat.fetched Dat.blockOf iblk; rfl)
theorem before3 (c : Dev nD) (t : Fin (cfgA F T).N) (d) : (dats T m ρ 0 c).before 3 t d = iblk T m ρ c 3 t :=
  ((dats T m ρ 0 c).before_in_eq_fetched 3 rfl (fun _ => rfl) (fun _ _ _ => rfl) (fun t => by rw [after3]; unfold Dat.blockOf iblk; rfl) t d).trans
    (by unfold Dat.fetched Dat.blockOf iblk; rfl)

/-- The body at point `t`, as the pipeline calls it. -/
abbrev bodyAt (t : Fin (cfgA F T).N) : Prog (TpuEff nD τ sig (Elt F) Λ₀ .tc) PUnit :=
  cc0_moe_experts (crd T t) tb0 (Memref.isWhole_whole _) tb1 (Memref.isWhole_whole _) (mems T t).m1 (mems T t).h1 (mems T t).m2 (mems T t).h2 (mems T t).m3 (mems T t).h3
    (mems T t).m4 (mems T t).h4 (mems T t).m5 (mems T t).h5 sc0 (Memref.isWhole_whole _) sc1 (Memref.isWhole_whole _)

/-- The body at a point: from the inputs' blocks to the output's block. -/
theorem body_step (c : Dev nD) (t : Fin (cfgA F T).N) :
    iprop((dats T m ρ 0 c).Φ t.castSucc ∗ (dats T m ρ 0 c).owesAt () t.castSucc
        ∗ (∃ d, owns (c : Thread nD τ) (mems T t).m1 fullShare ((dats T m ρ 0 c).before 0 t d))
        ∗ (∃ d, owns (c : Thread nD τ) (mems T t).m2 fullShare ((dats T m ρ 0 c).before 1 t d))
        ∗ (∃ d, owns (c : Thread nD τ) (mems T t).m3 fullShare ((dats T m ρ 0 c).before 2 t d))
        ∗ (∃ d, owns (c : Thread nD τ) (mems T t).m4 fullShare ((dats T m ρ 0 c).before 3 t d))
        ∗ (∃ d, owns (c : Thread nD τ) (mems T t).m5 fullShare ((dats T m ρ 0 c).before 4 t d)))
      ⊢ wp frame (wpE (defs₀ (F := F)) Variants.none c none) Set.univ (bodyAt T t) fun _ =>
          iprop((dats T m ρ 0 c).Φ t.succ ∗ (dats T m ρ 0 c).owesAt () t.succ
        ∗ owns (c : Thread nD τ) (mems T t).m1 fullShare ((dats T m ρ 0 c).after 0 t)
        ∗ owns (c : Thread nD τ) (mems T t).m2 fullShare ((dats T m ρ 0 c).after 1 t)
        ∗ owns (c : Thread nD τ) (mems T t).m3 fullShare ((dats T m ρ 0 c).after 2 t)
        ∗ owns (c : Thread nD τ) (mems T t).m4 fullShare ((dats T m ρ 0 c).after 3 t)
        ∗ owns (c : Thread nD τ) (mems T t).m5 fullShare ((dats T m ρ 0 c).after 4 t)) := by
  simp only [before0, before1, before2, before3, after0, after1, after2, after3, after4]
  rewrite [show (dats T m ρ 0 c).Φ t.succ = Phi T m ρ c (t.val + 1) from rfl, show (dats T m ρ 0 c).Φ t.castSucc = Phi T m ρ c t.val from rfl,
    show (dats T m ρ 0 c).owesAt () t.succ = (dats T m ρ 0 c).owesAt () t.castSucc from rfl]
  unfold Phi
  iintro ⟨⟨%A, %B, %hs, S0, S1, T0, T1⟩, Ho, ⟨%d0, H0⟩, ⟨%d1, H1⟩, ⟨%d2, H2⟩, ⟨%d3, H3⟩, ⟨%d4, H4⟩⟩
  have hb := body (c := c) (E := Set.univ) (M := mems T t) (w := ins T m ρ c t) (crd T t) ⟨(dats T m ρ 0 c).before 4 t d4, A, B⟩
  rw [after_eq T m ρ c t _ hs] at hb
  unfold Bufs at hb
  iapply (wp_wand_r Idealize.ShloMosaic.frame (wpE (defs₀ (F := F)) Variants.none (c : Thread nD τ) none) Set.univ)
  isplitl [S0 S1 T0 T1 H0 H1 H2 H3 H4]
  · iapply hb
    isplitl [T0 T1 H0 H1 H2 H3]
    · isplitl [H0]; · iexact H0
      isplitl [H1]; · iexact H1
      isplitl [H2]; · iexact H2
      isplitl [H3]; · iexact H3
      isplitl [T0]; · iexact T0
      iexact T1
    isplitl [H4]; · iexact H4
    isplitl [S0]; · iexact S0
    iexact S1
  iintro %r HB
  icases HB with ⟨⟨H0, H1, H2, H3, T0, T1⟩, H4, S0, S1⟩
  isplitl [S0 S1 T0 T1]
  · iexists (wA T m ρ c t); iexists (wB T m ρ c t)
    isplitr; · ipureintro; exact Or.inr ⟨t, rfl, rfl, rfl⟩
    isplitl [S0]; · iexact S0
    isplitl [S1]; · iexact S1
    isplitl [T0]; · iexact T0
    iexact T1
  isplitl [Ho]; · iexact Ho
  isplitl [H0]; · iexact H0
  isplitl [H1]; · iexact H1
  isplitl [H2]; · iexact H2
  isplitl [H3]; · iexact H3
  iexact H4

theorem idle4 (t : Fin (cfgA F T).N) : (cfgA F T).idle 4 ((cfgA F T).grid.coords t) = false := not_idle (crd T t) _

theorem obligation (c : Dev nD) : BodyObligation (dats T m ρ 0 c) (defs₀ (F := F)) Variants.none () Set.univ := fun t => by
  rw [bigSep_W0, bigSep_W0]
  rewrite [idle4]
  exact body_step T m ρ c t

/-! The launch. -/

def u₀ : UR sig nD τ :=
  initOf (Pipeline.cells (pcs F T) ((launch0 (F := F)).cellOf_inj fun _ => adm F T))
    (Pipeline.launchToks (pcs F T) ((launch0 (F := F)).cellOf_inj fun _ => adm F T))

theorem share_eq (c : Dev nD) (w : Fin (cfgA F T).W) : (dats T m ρ 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, of the tables and the scratch buffers. -/
theorem hin (c : Dev nD) :
    iprop(BI.emp ∗ Pipeline.prefHeld pre0 c (fun _ => fullShare.right) (adm F T).1 ∗ Pipeline.scopedRest spec0 c) ⊢ (dats T m ρ 0 c).Φ 0 := by
  rw [prefHeld_eq, scopedRest0_eq, show (dats T m ρ 0 c).Φ 0 = Phi T m ρ c 0 from rfl]
  unfold Phi
  simp only [owns_whole]
  iintro ⟨-, ⟨HT0, HT1⟩, ⟨%a0, HS0⟩, ⟨%a1, HS1⟩⟩
  iexists a0; iexists a1
  isplitr; · ipureintro; exact Or.inl rfl
  isplitl [HS0]; · iexact HS0
  isplitl [HS1]; · iexact HS1
  isplitl [HT0]; · iexact HT0
  iexact HT1

/-- After the last point it gives the scratch buffers back. -/
theorem hout (c : Dev nD) : (dats T m ρ 0 c).Φ (Fin.last (cfgA F T).N) ⊢ iprop(BI.emp ∗ Pipeline.scopedRest spec0 c) := by
  rw [scopedRest0_eq, show (dats T m ρ 0 c).Φ (Fin.last (cfgA F T).N) = Phi T m ρ c (cfgA F T).N from rfl]
  unfold Phi
  simp only [owns_whole]
  iintro ⟨%a0, %a1, %h, HS0, HS1, -, -⟩
  isplitr; · iempintro
  isplitl [HS0]; · iexists a0; iexact HS0
  iexists a1; iexact HS1

/-- The launch memory holds the tables. -/
def Pinned : Prop := (∀ c : Dev nD, m ((c : Thread nD τ).loc main_arg0) = T.te) ∧ ∀ c : Dev nD, m ((c : Thread nD τ).loc main_arg1) = T.nu

theorem V_pre (hp : Pinned T m) (c : Dev nD) (j : Fin 2) : m ((c : Thread nD τ).loc (pre0.ref j)) = (adm F T).1 j := by
  fin_cases j
  · exact hp.1 c
  · exact hp.2 c

/-- What a run leaves: every window's array at what the pipeline computes, and the tables. -/
def Post : PUnit × MemSt nD τ sig (Elt F) → Prop := fun r =>
  ∀ c : Dev nD, (∀ w : Fin (cfgA F T).W, r.2.mem (((cfgA F T).win w).arr.view.loc (c : Thread nD τ)) = (dats T m ρ 0 c).arrAt w (cfgA F T).N)
    ∧ ∀ j, r.2.mem ((c : Thread nD τ).loc (pre0.ref j)) = (adm F T).1 j

set_option backward.isDefEq.respectTransparency.types false in
set_option maxHeartbeats 4000000 in
theorem run (hp : Pinned T m) : θ_run (defs (F := F)) (onTc (τ := τ) (main (F := F))) (s₀ m ρ) (fun r => Post T m ρ r ∧ r.2.sem = fun _ => 0) :=
  Pipeline.θ_run_region_noSem_pf_quiescent pcfgs (fun _ => adm F T) (dats T m ρ) () ((launch0 (F := F)).cellOf_inj fun _ => adm F T) (0 : Fin 1)
    (launch0 (F := F)).win.to₀ (launch0 (F := F)).pre (EP F) defs₀ Variants.none m ρ main
    (hbody := fun c => (obligation T m ρ c).loose) (hne := (launch0 (F := F)).block_pos)
    (harr := (launch0 (F := F)).arr_whole) (hstage := (launch0 (F := F)).stage_whole) (howed := fun _ _ => rfl)
    (u₀ := u₀ (F := F) T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs F T) (dats T m ρ) 0 (launch0 (F := F)).win.arr_inj c (launch0 (F := F)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := hin T m ρ)
    (hout := hout T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame, and the result's array. -/
theorem run_args (hp : Pinned T m) :
    θ_run (defs (F := F)) (onTc (τ := τ) (main (F := F))) ⟨m, fun _ => 0, ρ⟩ (fun r => (∀ c : Dev nD,
      r.2.mem ((c.tc : Thread nD τ).loc main_v0) = (dats T m ρ 0 c).arrAt 4 (cfgA F T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4, ((h.1 c).2 0).trans (hp.1 c).symm, ((h.1 c).2 1).trans (hp.2 c).symm,
    ((h.1 c).1 0).trans ((dats T m ρ 0 c).arrAt_in 0 rfl _), ((h.1 c).1 1).trans ((dats T m ρ 0 c).arrAt_in 1 rfl _),
    ((h.1 c).1 2).trans ((dats T m ρ 0 c).arrAt_in 2 rfl _), ((h.1 c).1 3).trans ((dats T m ρ 0 c).arrAt_in 3 rfl _)⟩, h.2⟩) (run T m ρ hp)

end Cert.Kernel2Ideal.Experts

end
-- ==== Proof.Experts.Pre.lean ====
/- The precondition, read back as tables in range, and the two printings of the kernel as one. -/
module

public import proofs.«01_k».proof.Defs
public import proofs.«01_k».proof.Proof.Experts.Run
public import proofs.«01_k».proof.Proof.Gen.Kernel2
public import proofs.«01_k».proof.Proof.Gen.Pre_tables_in_range
public import Idealize.ShloMosaic.Lib.ReduceAll

@[expose] public section

set_option maxRecDepth 100000

noncomputable section

namespace Cert.Kernel2Ideal.Experts

open Idealize.ShloMosaic Idealize.SL.Sem

variable {F : FTy → Type} [FloatOps F]

/-- Arrays that meet the precondition are tables in range. -/
theorem tables_of_pre (te : IVec Pre_tables_in_range.S160 32) (nu : IVec Pre_tables_in_range.S1 32) (a2 a3 a4 a5)
    (h : Pre_tables_in_range.fn (F := F) te nu a2 a3 a4 a5 = fun _ => 1#1) : ∃ T : Tables, T.te = te ∧ T.nu = nu := by
  have andi_one {p q : BitVec 1} (h : IntOp.andi p q = 1#1) : p = 1#1 ∧ q = 1#1 := by revert p q; decide
  have ofBool_one {p : Bool} (h : BitVec.ofBool p = 1#1) : p = true := by revert p; decide
  let i0 : Pre_tables_in_range.S_.Idx := fun a => a.elim0
  haveI : Subsingleton Pre_tables_in_range.S_.Idx := ⟨fun y z => funext fun a => a.elim0⟩
  have e := congrFun h i0
  unfold Pre_tables_in_range.fn at e
  dsimp only at e
  obtain ⟨e, e4⟩ := andi_one e
  obtain ⟨e, e3⟩ := andi_one e
  obtain ⟨e1, e2⟩ := andi_one e
  have g1 (x) : (0#32).sle (te x) = true := ofBool_one (Host.reduce_andi_all _ _ _ _ _ e1 x)
  have g2 (x) : (te x).slt 32#32 = true := ofBool_one (Host.reduce_andi_all _ _ _ _ _ e2 x)
  have g3 (x) : (1#32).sle (nu x) = true := ofBool_one (Host.reduce_andi_all _ _ _ _ _ e3 x)
  have g4 (x) : (nu x).sle 160#32 = true := ofBool_one (Host.reduce_andi_all _ _ _ _ _ e4 x)
  refine ⟨⟨te, nu, fun x => ?_, fun x => ?_, fun x => ?_⟩, rfl, rfl⟩
  · have a := g1 x; have b := g2 x
    simp only [BitVec.sle, BitVec.slt, decide_eq_true_eq, BitVec.toInt, BitVec.toNat_ofNat] at a b; omega
  · have a := g3 x; have b := g4 x
    simp only [BitVec.sle, BitVec.slt, decide_eq_true_eq, BitVec.toInt, BitVec.toNat_ofNat] at a b; omega
  · have a := g3 x; have b := g4 x
    simp only [BitVec.sle, BitVec.slt, decide_eq_true_eq, BitVec.toInt, BitVec.toNat_ofNat] at a b; omega

/-- A launch memory that meets the precondition holds tables in range. -/
theorem pinned_of (m : (ℓ : Loc nD τ sig) → Buf (Elt F) ℓ)
    (h : ∀ c : Dev nD, Pre_tables_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : ∃ T : Tables, Pinned T m := by
  obtain ⟨T, h0, h1⟩ := tables_of_pre _ _ _ _ _ _ (h 0)
  refine ⟨T, fun c => ?_, fun c => ?_⟩
  · obtain rfl : c = 0 := Subsingleton.elim _ _
    exact h0.symm
  · obtain rfl : c = 0 := Subsingleton.elim _ _
    exact h1.symm

/-- What the frame asks, over any floats. -/
theorem frame (m : (ℓ : Loc nD τ sig) → Buf (Elt F) ℓ) (ρ : Dev nD → PrngReg) (T : Tables) (hp : Pinned T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_args T m ρ hp)

end Cert.Kernel2Ideal.Experts

namespace Cert.Same2

open Idealize.ShloMosaic Idealize.SL.Sem

variable [Cert.Kernel2.Facts] [Cert.Kernel2Ideal.Facts]
variable {F : FTy → Type} [FloatOps F]

theorem body_eq : @Cert.Kernel2.cc0_moe_experts F _ _ = @Cert.Kernel2Ideal.cc0_moe_experts F _ _ := rfl

theorem table_eq : Cert.Kernel2.defs₀ (F := F) = Cert.Kernel2Ideal.defs₀ := by
  unfold Cert.Kernel2.defs₀ Cert.Kernel2Ideal.defs₀
  refine congrArg (Defs.onTc (Λ := Cert.Kernel2Ideal.Λ₀)) ?_
  funext ℓ a
  match ℓ, a with
  | 0, (t, s) => dsimp only; rw [body_eq]; rfl

theorem defs_eq : Cert.Kernel2.defs (F := F) = Cert.Kernel2Ideal.defs :=
  congrArg (Pipeline.defs Cert.Kernel2Ideal.pcfgs) table_eq

theorem main_eq : @Cert.Kernel2.main F _ _ = @Cert.Kernel2Ideal.main F _ _ := rfl

end Cert.Same2

end
-- ==== Proof.Experts.Spec.lean ====
/- The experts' products as mathematics over extended reals. -/
module

public import Idealize.ShloMosaic.PureOps.Ideal

@[expose] public section

noncomputable section

namespace Cert.ExpertsSpec

open Idealize.ShloMosaic

/-- What the experts read: the sorted rows, the three stacks of weights, each tile's expert, and how many tiles of 512
    rows are in use. -/
structure Nums where
  x : Fin 81920 → Fin 2048 → EReal
  wg : Fin 32 → Fin 2048 → Fin 256 → EReal
  wu : Fin 32 → Fin 2048 → Fin 256 → EReal
  wd : Fin 32 → Fin 256 → Fin 2048 → EReal
  te : Fin 160 → Fin 32
  nu : ℕ

variable (N : Nums)

/-- A row times a column of an expert's matrix. -/
def proj (w : Fin 32 → Fin 2048 → Fin 256 → EReal) (e : Fin 32) (r : Fin 81920) (f : Fin 256) : EReal := ∑ k : Fin 2048, N.x r k * w e k f

/-- An expert's hidden value: the gate through the sigmoid-weighted unit, times the up projection. -/
def hidden (e : Fin 32) (r : Fin 81920) (f : Fin 256) : EReal := proj N N.wg e r f * Ideal.logistic (proj N N.wg e r f) * proj N N.wu e r f

/-- An expert's result in a row. -/
def row (e : Fin 32) (r : Fin 81920) (d : Fin 2048) : EReal := ∑ f : Fin 256, hidden N e r f * N.wd e f d

/-- The tile of a row. -/
def tileOf (r : Fin 81920) : Fin 160 := ⟨r.val / 512, by omega⟩

/-- The result: the row's tile's expert in the tiles in use, zero past them. -/
def out (r : Fin 81920) (d : Fin 2048) : EReal := if r.val < 512 * N.nu then row N (N.te (tileOf r)) r d else 0

end Cert.ExpertsSpec

end
-- ==== Proof.Experts.Value.lean ====
/- The kernel's result is the experts' mathematics of its arguments. -/
module

public import proofs.«01_k».proof.Proof.Experts.Run
public import proofs.«01_k».proof.Proof.Experts.Spec
public import proofs.«01_k».proof.Proof.Rglru.Math
public import Idealize.ShloMosaic.Lib.Pipeline.Covers

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.Sem
open Idealize.ShloMosaic.VecWindow (window put)
open Cert.KernelIdeal.Rglru (window2 window3)

section Windows

variable {α : Type} {n0 n1 : ℕ}

/-- An array with a window put in, inside the window. -/
theorem put2_in (x : (⟨2, ![n0, n1]⟩ : Shape).Idx → α) (o0 o1 s0 s1 : ℕ) (w : (⟨2, ![s0, s1]⟩ : Shape).Idx → α)
    (a : Fin s0) (b : Fin s1) (a' : Fin n0) (b' : Fin n1) (ha : a'.val = o0 + a.val) (hb : b'.val = o1 + b.val) :
    put x ![o0, o1] ![s0, s1] w (ix2 a' b') = w (ix2 a b) := by
  have := a.isLt; have := b.isLt
  unfold put
  rw [dif_pos (fun k => by
    match k with
    | 0 => show o0 ≤ a'.val ∧ a'.val < o0 + s0; omega
    | 1 => show o1 ≤ b'.val ∧ b'.val < o1 + s1; omega)]
  refine congrArg w (funext fun k => Fin.ext ?_)
  match k with
  | 0 => show a'.val - o0 = a.val; omega
  | 1 => show b'.val - o1 = b.val; omega

/-- An array with a window put in, outside the window. -/
theorem put2_out (x : (⟨2, ![n0, n1]⟩ : Shape).Idx → α) (o0 o1 s0 s1 : ℕ) (w : (⟨2, ![s0, s1]⟩ : Shape).Idx → α)
    (a : Fin n0) (b : Fin n1) (hb : b.val < o1 ∨ o1 + s1 ≤ b.val) : put x ![o0, o1] ![s0, s1] w (ix2 a b) = x (ix2 a b) := by
  unfold put
  rw [dif_neg (fun h => by
    have h1 := h 1
    change o1 ≤ b.val ∧ b.val < o1 + s1 at h1
    omega)]

end Windows

/-! ## The payloads at an index -/

theorem pay1_at (W : Vec Ideal S1x2048x256 .f32) (k : Fin 2048) (f : Fin 256) : k0_pay1 W (ix2 k f) = W (ix3 0 k f) := by pointwise [k0_pay1]
theorem pay2_at (W : Vec Ideal S1x2048x256 .f32) (k : Fin 2048) (f : Fin 256) : k0_pay2 W (ix2 k f) = W (ix3 0 k f) := by pointwise [k0_pay2]
theorem pay3_at (W : Vec Ideal S1x256x2048 .f32) (f : Fin 256) (d : Fin 2048) : k0_pay3 W (ix2 f d) = W (ix3 0 f d) := by pointwise [k0_pay3]

/-- The gate's columns of the stacked weights, and the up projection's. -/
def colG (f : Fin 256) : Fin 512 := ⟨f.val, by omega⟩
def colU (f : Fin 256) : Fin 512 := ⟨256 + f.val, by omega⟩

theorem pay4_at (X : Vec Ideal S512x2048 .f32) (A : Vec Ideal S2048x512 .bf16) (B : Vec Ideal S256x2048 .bf16) (i : Fin 512) (d : Fin 2048) :
    k0_pay4 X A B (ix2 i d) = ∑ f : Fin 256, (∑ k : Fin 2048, X (ix2 i k) * A (ix2 k (colG f))) * Ideal.logistic (∑ k : Fin 2048, X (ix2 i k) * A (ix2 k (colG f)))
      * (∑ k : Fin 2048, X (ix2 i k) * A (ix2 k (colU f))) * B (ix2 f d) := by
  pointwise [k0_pay4]
  rfl

theorem pay5_at (i : Fin 512) (d : Fin 2048) : k0_pay5 (F := Ideal) (ix2 i d) = 0 := by pointwise [k0_pay5]

variable (T : Tables) (m : (ℓ : Loc nD τ sig) → Buf (Elt Ideal) ℓ) (ρ : Dev nD → PrngReg)

/-- The inputs, out of the arguments. -/
def nums (c : Dev nD) : ExpertsSpec.Nums where
  x r k := m ((c.tc : Thread nD τ).loc main_arg2) (ix2 r k)
  wg e k f := m ((c.tc : Thread nD τ).loc main_arg3) (ix3 e k f)
  wu e k f := m ((c.tc : Thread nD τ).loc main_arg4) (ix3 e k f)
  wd e f d := m ((c.tc : Thread nD τ).loc main_arg5) (ix3 e f d)
  te n := expert T n.val n.isLt
  nu := used T

variable (c : Dev nD) (t : Fin (cfgA Ideal T).N)

theorem wA_g (k : Fin 2048) (f : Fin 256) : wA T m ρ c t (ix2 k (colG f)) = (nums T m c).wg (expert T t.val (lt_N T t)) k f := by
  unfold wA castA
  refine (put2_out _ 0 256 2048 256 _ k (colG f) (Or.inl f.isLt)).trans ?_
  refine (put2_in _ 0 0 2048 256 _ k f k (colG f) (by simp) (by show f.val = 0 + f.val; omega)).trans ?_
  refine (pay1_at _ k f).trans ?_
  exact (window3 _ 0 0 0 1 2048 256 _ 0 k f 0 k f (by simp) (by simp) (by simp)).trans (iblk_g T m ρ c t k f)

theorem wA_u (k : Fin 2048) (f : Fin 256) : wA T m ρ c t (ix2 k (colU f)) = (nums T m c).wu (expert T t.val (lt_N T t)) k f := by
  unfold wA castA
  refine (put2_in _ 0 256 2048 256 _ k f k (colU f) (by simp) rfl).trans ?_
  refine (pay2_at _ k f).trans ?_
  exact (window3 _ 0 0 0 1 2048 256 _ 0 k f 0 k f (by simp) (by simp) (by simp)).trans (iblk_u T m ρ c t k f)

theorem wB_d (f : Fin 256) (d : Fin 2048) : wB T m ρ c t (ix2 f d) = (nums T m c).wd (expert T t.val (lt_N T t)) f d := by
  unfold wB castB
  refine (put2_in _ 0 0 256 2048 _ f d f d (by simp) (by simp)).trans ?_
  refine (pay3_at _ f d).trans ?_
  exact (window3 _ 0 0 0 1 256 2048 _ 0 f d 0 f d (by simp) (by simp) (by simp)).trans (iblk_d T m ρ c t f d)

/-- A tile's row in the array. -/
def rowOf (i : Fin 512) : Fin 81920 := ⟨512 * t.val + i.val, by have := lt_N T t; omega⟩

theorem tileOf_rowOf (i : Fin 512) : (nums T m c).te (ExpertsSpec.tileOf (rowOf T t i)) = expert T t.val (lt_N T t) :=
  expert_congr T _ _ (by show (512 * t.val + i.val) / 512 = t.val; omega)

theorem x_at (h : t.val < used T) (i : Fin 512) (k : Fin 2048) : iblk T m ρ c 0 t (ix2 i k) = (nums T m c).x (rowOf T t i) k := by
  refine (iblk_x T m ρ c t i k).trans ?_
  refine congrArg (fun r => m ((c.tc : Thread nD τ).loc main_arg2) (ix2 r k)) (Fin.ext ?_)
  show 512 * tile T t.val + i.val = 512 * t.val + i.val
  unfold tile
  omega

theorem used_iff : (BitVec.ofNat 32 (crd T t 0).val).slt (tiles Ideal (ins T m ρ c t).nu) = true ↔ t.val < used T := by
  have h := slt_used T (crd T t)
  rw [crd_val] at h
  refine Iff.trans ?_ h
  rw [show tiles Ideal (ins T m ρ c t).nu = T.nu z1 from tiles_eq (F := Ideal) T, crd_val]

theorem out_at (i : Fin 512) (d : Fin 2048) : out T m ρ c t (ix2 i d) = ExpertsSpec.out (nums T m c) (rowOf T t i) d := by
  have h2 := cond2_iff (crd T t) (tiles Ideal (ins T m ρ c t).nu)
  have h3 := cond3_iff (crd T t) (tiles Ideal (ins T m ρ c t).nu)
  have hu := used_iff T m ρ c t
  unfold out ExpertsSpec.out
  by_cases h : t.val < used T
  · have hc := hu.mpr h
    have n3 : ¬ k0_cond3 (crd T t) (tiles Ideal (ins T m ρ c t).nu) = 1#1 := fun h => by rw [h3.mp h] at hc; exact absurd hc (by decide)
    rw [if_pos (show (rowOf T t i).val < 512 * (nums T m c).nu by show 512 * t.val + i.val < 512 * used T; omega), tileOf_rowOf]
    unfold product cleared
    rw [if_neg n3, if_pos (h2.mpr hc)]
    refine (put2_in _ 0 0 512 2048 _ i d i d (by simp) (by simp)).trans ?_
    refine (pay4_at _ _ _ i d).trans ?_
    have eX (k : Fin 2048) : window (ins T m ρ c t).x ![0, 0] S512x2048.size inb_S512x2048_S512x2048_0_0 (ix2 i k) = (nums T m c).x (rowOf T t i) k :=
      (window2 _ 0 0 512 2048 _ i k i k (by simp) (by simp)).trans (x_at T m ρ c t h i k)
    have eG (k : Fin 2048) (f : Fin 256) : window (wA T m ρ c t) ![0, 0] S2048x512.size inb_S2048x512_S2048x512_0_0 (ix2 k (colG f)) = (nums T m c).wg (expert T t.val (lt_N T t)) k f :=
      (window2 _ 0 0 2048 512 _ k (colG f) k (colG f) (by simp) (by simp)).trans (wA_g T m ρ c t k f)
    have eU (k : Fin 2048) (f : Fin 256) : window (wA T m ρ c t) ![0, 0] S2048x512.size inb_S2048x512_S2048x512_0_0 (ix2 k (colU f)) = (nums T m c).wu (expert T t.val (lt_N T t)) k f :=
      (window2 _ 0 0 2048 512 _ k (colU f) k (colU f) (by simp) (by simp)).trans (wA_u T m ρ c t k f)
    have eD (f : Fin 256) : window (wB T m ρ c t) ![0, 0] S256x2048.size inb_S256x2048_S256x2048_0_0 (ix2 f d) = (nums T m c).wd (expert T t.val (lt_N T t)) f d :=
      (window2 _ 0 0 256 2048 _ f d f d (by simp) (by simp)).trans (wB_d T m ρ c t f d)
    have pG (f : Fin 256) : (∑ k : Fin 2048, window (ins T m ρ c t).x ![0, 0] S512x2048.size inb_S512x2048_S512x2048_0_0 (ix2 i k)
        * window (wA T m ρ c t) ![0, 0] S2048x512.size inb_S2048x512_S2048x512_0_0 (ix2 k (colG f)))
        = ExpertsSpec.proj (nums T m c) (nums T m c).wg (expert T t.val (lt_N T t)) (rowOf T t i) f :=
      Finset.sum_congr rfl fun k _ => congrArg₂ (· * ·) (eX k) (eG k f)
    have pU (f : Fin 256) : (∑ k : Fin 2048, window (ins T m ρ c t).x ![0, 0] S512x2048.size inb_S512x2048_S512x2048_0_0 (ix2 i k)
        * window (wA T m ρ c t) ![0, 0] S2048x512.size inb_S2048x512_S2048x512_0_0 (ix2 k (colU f)))
        = ExpertsSpec.proj (nums T m c) (nums T m c).wu (expert T t.val (lt_N T t)) (rowOf T t i) f :=
      Finset.sum_congr rfl fun k _ => congrArg₂ (· * ·) (eX k) (eU k f)
    unfold ExpertsSpec.row ExpertsSpec.hidden
    exact Finset.sum_congr rfl fun f _ => congrArg₂ (· * ·) (congrArg₂ (· * ·) (congrArg₂ (· * ·) (pG f) (congrArg Ideal.logistic (pG f))) (pU f)) (eD f)
  · have hc : ¬ _ := fun hh => h (hu.mp hh)
    have p3 := h3.mpr (Bool.eq_false_iff.mpr hc)
    rw [if_neg (show ¬ (rowOf T t i).val < 512 * (nums T m c).nu by show ¬ 512 * t.val + i.val < 512 * used T; omega)]
    unfold cleared
    rw [if_pos p3]
    exact (put2_in _ 0 0 512 2048 _ i d i d (by simp) (by simp)).trans (pay5_at i d)

/-- The kernel's result. -/
def result : Vec Ideal S81920x2048 .f32 := fun j => ExpertsSpec.out (nums T m c) (j 0) (j 1)

theorem size_pos : ∀ a : Fin 2, 0 < S512x2048.size a := by decide

theorem nblk_0 : ((cfgA Ideal T).win 4).nblk (0 : Fin 2) = 160 := by
  show (81920 + 512 - 1) / 512 = 160
  rfl
theorem nblk_1 : ((cfgA Ideal T).win 4).nblk (1 : Fin 2) = 1 := by
  show (2048 + 2048 - 1) / 2048 = 1
  rfl

theorem covers : ((cfgA Ideal T).win 4).Covers :=
  ((cfgA Ideal T).win 4).covers_of_index_surj rfl size_pos fun β => by
    have h0 : (β (0 : Fin 2)).val < 160 := lt_of_lt_of_eq (β (0 : Fin 2)).isLt (nblk_0 T)
    have h1 : (β (1 : Fin 2)).val < 1 := lt_of_lt_of_eq (β (1 : Fin 2)).isLt (nblk_1 T)
    refine ⟨⟨(β (0 : Fin 2)).val, h0⟩, fun a => ?_⟩
    rw [idx_o]
    match a with
    | (0 : Fin 2) => rfl
    | (1 : Fin 2) => show 0 = (β (1 : Fin 2)).val; omega

theorem arr_out : (dats T m ρ 0 c).arrAt 4 (cfgA Ideal T).N = result T m c := by
  refine (dats T m ρ 0 c).arrAt_eq_of_covers 4 _ (covers T) fun t hf y => ?_
  have hi := idx_o T t
  have ht : t.val < 160 := lt_N T t
  have ho (y : S512x2048.Idx) : out T m ρ c t y = ExpertsSpec.out (nums T m c) (rowOf T t (y 0)) (y 1) :=
    (congrArg _ (ix2_eta y).symm).trans (out_at T m ρ c t (y 0) (y 1))
  show out T m ρ c t y = result T m c _
  refine (ho y).trans ?_
  unfold result
  refine congr (congrArg (ExpertsSpec.out (nums T m c)) (Fin.ext ?_)) (Fin.ext ?_) <;> simp only [rowOf] <;> blk_simp [hi] <;> omega

end Cert.Kernel2Ideal.Experts

end
-- ==== Proof.Ref2.Run.lean ====
/- The experts' reference: its operations in a line, and its run. -/
module

public import proofs.«01_k».proof.Reference2Ideal
public import proofs.«01_k».proof.Proof.Gen.Reference2Ideal
public import Idealize.ShloMosaic.Lib.StableHlo.RunHlo
public import Idealize.ShloMosaic.Lib.StableHlo.RunClose
public import Idealize.ShloMosaic.Lib.StableHlo.ReadAt
public import Idealize.ShloMosaic.Lib.Quiescent

@[expose] public section

set_option maxRecDepth 16384

noncomputable section

open Idealize.ShloMosaic Idealize.ShloMosaic.StableHlo
open Idealize.ShloMosaic.TcCoe Idealize.ShloMosaic.Tactic
open Idealize.SL Idealize.SL.Sem

namespace Cert.Reference2Ideal.Ref

variable {F : FTy → Type} [FloatOps F]

/-- The reference's host programs. -/
abbrev HostProg (F : FTy → Type) [FloatOps F] := Prog (TpuEff nD τ sig (Elt F) (Pipeline.Sig Λ₀ (Fin 0) fun p => (pcfgs (F := F) p).Adm) .tc) PUnit

/-- A line, then a line. -/
theorem isSeq_append {p k : HostProg F} {l l' : List (HloOp τ sig (Elt F))} (h : IsSeq p l) (h' : IsSeq k l') :
    IsSeq (p >>= fun _ => k) (l ++ l') := by
  unfold IsSeq at h h' ⊢; rw [h, h', seq_append]

/-- The line that a proof of `IsSeq` finds. -/
def lineOf {p : HostProg F} {l : List (HloOp τ sig (Elt F))} (h : IsSeq p l) : {l : List (HloOp τ sig (Elt F)) // IsSeq p l} := ⟨l, h⟩

/-- The operations of `main`. -/
def line (c : Dev nD) : {l : List (HloOp τ sig (Elt F)) // IsSeq (main (F := F) c) l} := by
  apply lineOf
  unfold main
  repeat (first | exact IsSeq.nil | apply IsSeq.cons | (apply isSeq_append; (first | (unfold fn_one_hot.body; hlo_seq) | (unfold fn_silu.body; hlo_seq))))

variable (m : (ℓ : Loc nD τ sig) → Buf (Elt F) ℓ) (ρ : Dev nD → PrngReg)

/-- What every buffer ends at. -/
abbrev final (c : Dev nD) : Valuation τ sig (Elt F) := after (line (F := F) 0).1 (launchContents m c)

theorem run_all : θ_run (defs (F := F)) (onTc (τ := τ) (main (F := F))) ⟨m, fun _ => 0, ρ⟩
    (fun r => ∀ (c : Dev nD) (b : Ref sig .tc), r.2.mem ((c.tc : Thread nD τ).loc b) = final m c (Proc.devRef .tc b)) := by
  refine run_hlo defs main (ops := (line (F := F) 0).1) (fun d => (line (F := F) 0).2) (by decide) (by decide) ?_ ?_ m ρ
  · unfold line lineOf
    dsimp only [List.cons_append, List.nil_append]
    simp only [List.forall_cons, List.Forall, nullary_bufs_sub, unary_bufs_sub, binary_bufs_sub, reshape_bufs_sub, TRef.nullary, TRef.unary, TRef.binary, and_true, true_and]
  · unfold line lineOf
    dsimp only [List.cons_append, List.nil_append]
    intro _ h
    (repeat (cases h with | head => rfl | tail _ h => ?_))
    exact nomatch h

/-- The arguments. -/
def args : List (Ref sig .tc) := [main_arg0, main_arg1, main_arg2, main_arg3, main_arg4, main_arg5]

theorem final_args (c : Dev nD) (b : Ref sig .tc) (hb : b ∈ args) : final m c (Proc.devRef .tc b) = m ((c.tc : Thread nD τ).loc b) := by
  unfold final line lineOf
  dsimp only [List.cons_append, List.nil_append]
  simp only [args, List.mem_cons, List.not_mem_nil, or_false] at hb
  rcases hb with rfl | rfl | rfl | rfl | rfl | rfl <;> after_results

/-- The run: the result is the last buffer's composed contents, the arguments end unchanged, and every counter ends at zero. -/
theorem run_main : θ_run (defs (F := F)) (onTc (τ := τ) (main (F := F))) ⟨m, fun _ => 0, ρ⟩ (fun r => (∀ c : Dev nD,
      r.2.mem ((c.tc : Thread nD τ).loc main_v21) = final m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run (defs (F := F)) _ _).mono (fun _ h => ⟨fun c =>
    ⟨h c main_v21, (h c main_arg0).trans (final_args m c _ (by decide)),
      (h c main_arg1).trans (final_args m c _ (by decide)), (h c main_arg2).trans (final_args m c _ (by decide)),
      (h c main_arg3).trans (final_args m c _ (by decide)), (h c main_arg4).trans (final_args m c _ (by decide)),
      (h c main_arg5).trans (final_args m c _ (by decide))⟩, sem_eq_zero_of_no_sems (by decide) _⟩)
    (run_all m ρ)

end Cert.Reference2Ideal.Ref

end
-- ==== Proof.Ref2.Value.lean ====
/- The experts' reference's result is the experts' mathematics of its arguments. -/
module

public import proofs.«01_k».proof.Proof.Ref2.Run
public import proofs.«01_k».proof.Proof.Experts.Spec
public import Idealize.ShloMosaic.Lib.Pointwise
public import Idealize.ShloMosaic.Lib.WordCmp

@[expose] public section

set_option maxRecDepth 16384

noncomputable section

open Idealize.ShloMosaic Idealize.ShloMosaic.StableHlo
open Idealize.ShloMosaic.TcCoe Idealize.ShloMosaic.Tactic
open Idealize.SL Idealize.SL.Sem

namespace Cert.Reference2Ideal.Ref

/-- The arguments' buffers hold `N`. -/
structure Holds (N : ExpertsSpec.Nums) (V : Valuation τ sig (Elt Ideal)) : Prop where
  x : ∀ (r : Fin 81920) (k : Fin 2048), V (Proc.devRef .tc main_arg2) (ix2 r k) = N.x r k
  wg : ∀ (e : Fin 32) (k : Fin 2048) (f : Fin 256), V (Proc.devRef .tc main_arg3) (ix3 e k f) = N.wg e k f
  wu : ∀ (e : Fin 32) (k : Fin 2048) (f : Fin 256), V (Proc.devRef .tc main_arg4) (ix3 e k f) = N.wu e k f
  wd : ∀ (e : Fin 32) (f : Fin 256) (d : Fin 2048), V (Proc.devRef .tc main_arg5) (ix3 e f d) = N.wd e f d
  te : ∀ n : Fin 160, V (Proc.devRef .tc main_arg0) (ix1 n) = BitVec.ofNat 32 (N.te n).val
  nu : V (Proc.devRef .tc main_arg1) (ix1 0) = BitVec.ofNat 32 N.nu
  le : N.nu ≤ 160

/-- The bit of a comparison as a number. -/
theorem bit_at (b : Bool) : (FloatOps.uitofp (F := Ideal) FTy.f32 (BitVec.ofBool b) : EReal) = if b = true then 1 else 0 := by
  cases b
  · show (((BitVec.ofBool false).toNat : ℝ) : EReal) = 0
    simp
  · show (((BitVec.ofBool true).toNat : ℝ) : EReal) = 1
    simp

theorem here_at (e e' : Fin 32) : (FloatOps.uitofp (F := Ideal) FTy.f32 (IntOp.cmpi .eq (BitVec.ofNat 32 e.val) (BitVec.ofNat 32 e'.val)) : EReal) = if e' = e then 1 else 0 := by
  refine (bit_at _).trans (if_congr ?_ rfl rfl)
  show (BitVec.ofNat 32 e.val == BitVec.ofNat 32 e'.val) = true ↔ e' = e
  rw [beq_iff_eq, ← BitVec.toNat_inj, BitVec.toNat_ofNat, BitVec.toNat_ofNat, Fin.ext_iff]
  omega

theorem used_at (r : Fin 81920) (n : ℕ) (hn : n ≤ 160) :
    (FloatOps.uitofp (F := Ideal) FTy.f32 (IntOp.cmpi .slt (BitVec.ofNat 32 r.val) (IntOp.muli (BitVec.ofNat 32 n) 512#32)) : EReal) = if r.val < 512 * n then 1 else 0 := by
  refine (bit_at _).trans (if_congr ?_ rfl rfl)
  show (BitVec.ofNat 32 r.val).slt (BitVec.ofNat 32 n * 512#32) = true ↔ r.val < 512 * n
  have h1 : (BitVec.ofNat 32 r.val).toNat = r.val := by rw [BitVec.toNat_ofNat]; omega
  have h2 : (BitVec.ofNat 32 n * 512#32).toNat = 512 * n := by rw [BitVec.toNat_mul, BitVec.toNat_ofNat, BitVec.toNat_ofNat]; omega
  have hr := r.isLt
  simp only [BitVec.slt, decide_eq_true_eq, BitVec.toInt, h1, h2]
  omega

/-- A sum over experts, each masked by whether it is the row's expert and whether the row is in use. -/
theorem masked (G : Fin 32 → EReal) (e : Fin 32) (p : Prop) [Decidable p] :
    (∑ x : Fin 32, G x * ((if x = e then 1 else 0) * (if p then 1 else 0))) = if p then G e else 0 := by
  by_cases hp : p
  · simp only [if_pos hp, mul_one]
    rw [Finset.sum_eq_single e (fun x _ hx => by rw [if_neg hx, mul_zero]) (fun h => absurd (Finset.mem_univ _) h), if_pos rfl, mul_one]
  · simp only [if_neg hp, mul_zero, Finset.sum_const_zero]

theorem final_at (N : ExpertsSpec.Nums) (V : Valuation τ sig (Elt Ideal)) (hV : Holds N V) (r : Fin 81920) (d : Fin 2048) :
    after (line (F := Ideal) 0).1 V (Proc.devRef .tc main_v21) (ix2 r d) = ExpertsSpec.out N r d := by
  unfold ExpertsSpec.out
  rw [← masked (fun e => ExpertsSpec.row N e r d)]
  generalize hz : (∑ x : Fin 32, ExpertsSpec.row N x r d * ((if x = N.te (ExpertsSpec.tileOf r) then (1 : EReal) else 0) * (if r.val < 512 * N.nu then (1 : EReal) else 0))) = z
  unfold line lineOf
  dsimp only [List.cons_append, List.nil_append]
  after_reads_at
  refine Eq.trans ?_ hz
  have pg (e : Fin 32) (f : Fin 256) : (∑ k : Fin 2048, HMul.hMul (α := EReal) (β := EReal) (γ := EReal) (V (Proc.devRef .tc main_arg2) (ix2 r k)) (V (Proc.devRef .tc main_arg3) (ix3 e k f))) = ExpertsSpec.proj N N.wg e r f :=
    Finset.sum_congr rfl fun k _ => congrArg₂ (· * ·) (hV.x r k) (hV.wg e k f)
  have pu (e : Fin 32) (f : Fin 256) : (∑ k : Fin 2048, HMul.hMul (α := EReal) (β := EReal) (γ := EReal) (V (Proc.devRef .tc main_arg2) (ix2 r k)) (V (Proc.devRef .tc main_arg4) (ix3 e k f))) = ExpertsSpec.proj N N.wu e r f :=
    Finset.sum_congr rfl fun k _ => congrArg₂ (· * ·) (hV.x r k) (hV.wu e k f)
  refine Finset.sum_congr rfl fun e _ => congrArg₂ (· * ·) ?_ (congrArg₂ (· * ·) ?_ ?_)
  · unfold ExpertsSpec.row ExpertsSpec.hidden
    refine Finset.sum_congr rfl fun f _ => (mul_comm _ _).trans ?_
    refine congrArg₂ (· * ·) (congrArg₂ (· * ·) (congrArg₂ (· * ·) (pg e f) ?_) (pu e f)) (hV.wd e f d)
    exact congrArg Ideal.logistic (pg e f)
  · refine Eq.trans (congrArg (fun w => FloatOps.uitofp (F := Ideal) FTy.f32 (IntOp.cmpi .eq w (BitVec.ofNat 32 e.val))) (hV.te (ExpertsSpec.tileOf r))) ?_
    exact here_at _ _
  · refine Eq.trans (congrArg (fun w => FloatOps.uitofp (F := Ideal) FTy.f32 (IntOp.cmpi .slt (BitVec.ofNat 32 r.val) (IntOp.muli w 512#32))) hV.nu) ?_
    exact used_at r N.nu hV.le

end Cert.Reference2Ideal.Ref

end
-- ==== Proof.InProj.Step.lean ====
module

public import proofs.«01_k».proof.Proof.Gen.Kernel3Ideal.Skeleton
public import proofs.«01_k».proof.Proof.Gen.Kernel3Ideal.Launch
public import Idealize.ShloMosaic.Lib.Pipeline.Kit
public import Idealize.ShloMosaic.Lib.Pipeline.TableIdle
public import proofs.«01_k».proof.Proof.Gen.Kernel3Ideal.Points
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.VecWindow
public import Idealize.ShloMosaic.PureOps.Ideal
public import Idealize.ShloMosaic.Adequacy
public import Idealize.ShloMosaic.Init

@[expose] public section

set_option maxRecDepth 16384

noncomputable section

namespace Cert.Kernel3Ideal.InProj

open Cert.Kernel3Ideal Cert.Kernel3Ideal.Gen
open Idealize.ShloMosaic Idealize.ShloMosaic.TcCoe Idealize.ShloMosaic.Tactic
open Idealize.SL Idealize.SL.RA Idealize.SL.BI
open Idealize.ShloMosaic.VecWindow (window put)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scratch buffer, whole. -/
abbrev sc0 : Memref sig .tc .vmem S1024x2048 .bf16 := Memref.whole cc0_scratch0

/-- The eight staging memrefs the body is called with. -/
structure Mems where
  m1 : Memref sig .tc .vmem S1024x2048 .f32
  h1 : m1.IsWhole
  m2 : Memref sig .tc .vmem S1x2048 .f32
  h2 : m2.IsWhole
  m3 : Memref sig .tc .vmem S2048x1024 .bf16
  h3 : m3.IsWhole
  m4 : Memref sig .tc .vmem S2048x128 .bf16
  h4 : m4.IsWhole
  m5 : Memref sig .tc .vmem S1x128 .f32
  h5 : m5.IsWhole
  m6 : Memref sig .tc .vmem S1x128 .f32
  h6 : m6.IsWhole
  m7 : Memref sig .tc .vmem S1024x1024 .bf16
  h7 : m7.IsWhole
  m8 : Memref sig .tc .vmem S1024x128 .f32
  h8 : m8.IsWhole

/-- What the body reads and keeps: the rows, the layer's gain, a column block of the weights, the forget gate's columns, and the two heads' gains. -/
structure Ins (F : FTy → Type) where
  x : Vec F S1024x2048 .f32
  g : Vec F S1x2048 .f32
  w : Vec F S2048x1024 .bf16
  wf : Vec F S2048x128 .bf16
  qg : Vec F S1x128 .f32
  kg : Vec F S1x128 .f32

/-- What the body changes: the two outputs' blocks and the scratch buffer of normalised rows. -/
structure St (F : FTy → Type) where
  O : Vec F S1024x1024 .bf16
  P : Vec F S1024x128 .f32
  X : Vec F S1024x2048 .bf16

/-- All the memrefs, at the inputs and the state. -/
def Bufs (c : Dev nD) (M : Mems) (w : Ins F) (s : St F) : sProp 𝕄 :=
  iprop((owns (c : Thread nD τ) M.m1 fullShare w.x ∗ owns (c : Thread nD τ) M.m2 fullShare w.g ∗ owns (c : Thread nD τ) M.m3 fullShare w.w
    ∗ owns (c : Thread nD τ) M.m4 fullShare w.wf ∗ owns (c : Thread nD τ) M.m5 fullShare w.qg ∗ owns (c : Thread nD τ) M.m6 fullShare w.kg)
    ∗ owns (c : Thread nD τ) M.m7 fullShare s.O ∗ owns (c : Thread nD τ) M.m8 fullShare s.P ∗ owns (c : Thread nD τ) sc0 fullShare s.X)

/-- The inputs read whole. -/
abbrev Ins.x' (w : Ins F) := window w.x ![0, 0] S1024x2048.size inb_S1024x2048_S1024x2048_0_0
abbrev Ins.g' (w : Ins F) := window w.g ![0, 0] S1x2048.size inb_S1x2048_S1x2048_0_0
abbrev Ins.w' (w : Ins F) := window w.w ![0, 0] S2048x1024.size inb_S2048x1024_S2048x1024_0_0
abbrev Ins.wf' (w : Ins F) := window w.wf ![0, 0] S2048x128.size inb_S2048x128_S2048x128_0_0
abbrev Ins.qg' (w : Ins F) := window w.qg ![0, 0] S1x128.size inb_S1x128_S1x128_0_0
abbrev Ins.kg' (w : Ins F) := window w.kg ![0, 0] S1x128.size inb_S1x128_S1x128_0_0

/-- The rows normalised, into the scratch buffer; the forget gate's columns. -/
def rowsX (w : Ins F) (X : Vec F S1024x2048 .bf16) : Vec F S1024x2048 .bf16 := put X ![0, 0] S1024x2048.size (k0_pay2 w.x' w.g')
def gateP (w : Ins F) (P : Vec F S1024x128 .f32) : Vec F S1024x128 .f32 := put P ![0, 0] S1024x128.size (k0_pay3 w.x' w.g' w.wf')

/-- The product of the scratch buffer with the column block. -/
def prodV (w : Ins F) (X : Vec F S1024x2048 .bf16) : FVec F S1024x1024 .f32 :=
  k0_pay4 (window X ![0, 0] S1024x2048.size inb_S1024x2048_S1024x2048_0_0) w.w'

/-- The columns from `o` on, a head's worth, normalised and scaled by the head's gain. -/
def headPay (o : Fin 2 → ℕ) (ho : S1024x1024.Slices o S1024x128) (v : FVec F S1024x1024 .f32) (gn : Vec F S1x128 .f32) : FVec F S1024x128 .bf16 :=
  have v16 : FVec F S1024x128 .f32 := extractStridedSlice S1024x128 o v ho
  have v18 : FVec F S1x128 .f32 := shapeCast S1x128 gn shapeCasts_S1x128_S1x128
  have v19 : FVec F S1024x128 .f32 := mulf v16 v16
  have v20 : FVec F S1024 .f32 := multiReduction .add [1] S1024 v19 0x00000000#32 reduces_S1024x128_S1024 (.inl rfl) rfl
  have v21 : FVec F S1024x1 .f32 := shapeCast S1024x1 v20 shapeCasts_S1024_S1024x1
  have cst_11 : F .f32 := Scalar.ofBits .f32 0x43000000#32
  have v22 : FVec F S1024x1 .f32 := broadcast S1024x1 cst_11
  have v23 : FVec F S1024x1 .f32 := divf v21 v22
  have cst_12 : F .f32 := Scalar.ofBits .f32 0x358637BD#32
  have v24 : FVec F S1024x1 .f32 := broadcast S1024x1 cst_12
  have v25 : FVec F S1024x1 .f32 := addf v23 v24
  have v26 : FVec F S1024x1 .f32 := rsqrt v25
  have v27 : FVec F S1024x128 .f32 := broadcastTo S1024x128 v26 broadcasts_S1024x1_S1024x128
  have v28 : FVec F S1024x128 .f32 := mulf v16 v27
  have v29 : FVec F S1024x128 .f32 := broadcastTo S1024x128 v18 broadcasts_S1x128_S1024x128
  have v30 : FVec F S1024x128 .f32 := mulf v28 v29
  have v31 : FVec F S1024x128 .bf16 := truncf .bf16 v30 bitsLt_bf16_f32
  v31

/-- The eight heads of a column block, one after the other. -/
def heads (v : FVec F S1024x1024 .f32) (gn : Vec F S1x128 .f32) (O : Vec F S1024x1024 .bf16) : Vec F S1024x1024 .bf16 :=
  put (put (put (put (put (put (put (put O ![0, 0] S1024x128.size (headPay ![0, 0] slices_S1024x1024_o0_0_S1024x128 v gn))
    ![0, 128] S1024x128.size (headPay ![0, 128] slices_S1024x1024_o0_128_S1024x128 v gn))
    ![0, 256] S1024x128.size (headPay ![0, 256] slices_S1024x1024_o0_256_S1024x128 v gn))
    ![0, 384] S1024x128.size (headPay ![0, 384] slices_S1024x1024_o0_384_S1024x128 v gn))
    ![0, 512] S1024x128.size (headPay ![0, 512] slices_S1024x1024_o0_512_S1024x128 v gn))
    ![0, 640] S1024x128.size (headPay ![0, 640] slices_S1024x1024_o0_640_S1024x128 v gn))
    ![0, 768] S1024x128.size (headPay ![0, 768] slices_S1024x1024_o0_768_S1024x128 v gn))
    ![0, 896] S1024x128.size (headPay ![0, 896] slices_S1024x1024_o0_896_S1024x128 v gn)

/-- The state after the first conditional, and after the other three. -/
def started (i : grid0.Coords) (w : Ins F) (s : St F) : St F :=
  if k0_cond1 i = 1#1 then ⟨s.O, gateP w s.P, rowsX w s.X⟩ else s
def queries (i : grid0.Coords) (w : Ins F) (s : St F) : St F :=
  if k0_cond2 i = 1#1 then ⟨heads (prodV w s.X) w.qg' s.O, s.P, s.X⟩ else s
def keys (i : grid0.Coords) (w : Ins F) (s : St F) : St F :=
  if k0_cond3 i = 1#1 then ⟨heads (prodV w s.X) w.kg' s.O, s.P, s.X⟩ else s
def plain (i : grid0.Coords) (w : Ins F) (s : St F) : St F :=
  if k0_cond4 i = 1#1 then ⟨put s.O ![0, 0] S1024x1024.size (k0_pay7 (window s.X ![0, 0] S1024x2048.size inb_S1024x2048_S1024x2048_0_0) w.w'), s.P, s.X⟩ else s

/-- A load of a box reads the window of what the memref holds. -/
theorem load_owns (c : Dev nD) (E : Set ℕ) {s : Shape} {e : EltTy} (m : Memref sig .tc .vmem s e) (x : Vec F s e) (off size : Fin s.rank → ℕ)
    (inb : ∀ a, off a + size a ≤ s.size a) (h : m.view.LoadsAt (Rect.unit off size inb).toLoadRect) {α : Type}
    (k : _ → Prog (TpuEff nD τ sig (Elt F) Λ₀ .tc) α) (Q : α → sProp 𝕄) :
    iprop(owns (c : Thread nD τ) m fullShare x ∗ (owns (c : Thread nD τ) m fullShare x -∗ wp frame (wpE (defs₀ (F := F)) Variants.none c none) E (k (window x off size inb)) Q))
      ⊢ wp frame (wpE (defs₀ (F := F)) Variants.none c none) E (Prog.lift (.load m (Rect.unit off size inb).toLoadRect h) >>= k) Q := by
  unfold owns
  iintro ⟨⟨%f, %hf, H⟩, Hk⟩
  subst hf
  sl_exec
  iapply Hk
  iexists _
  isplitr; · ipureintro; rfl
  iexact H

/-- A store of a box puts the payload over the window. -/
theorem store_owns (c : Dev nD) (E : Set ℕ) {s : Shape} {e : EltTy} (m : Memref sig .tc .vmem s e) (x : Vec F s e) (off size : Fin s.rank → ℕ)
    (inb : ∀ a, off a + size a ≤ s.size a) (w : ((a : Fin s.rank) → Fin (size a)) → Elt F e) (h : (m.access (Rect.unit off size inb)).Stores Finset.univ) (hm) {α : Type}
    (k : PUnit → Prog (TpuEff nD τ sig (Elt F) Λ₀ .tc) α) (Q : α → sProp 𝕄) :
    iprop(owns (c : Thread nD τ) m fullShare x ∗ (owns (c : Thread nD τ) m fullShare (put x off size w) -∗ wp frame (wpE (defs₀ (F := F)) Variants.none c none) E (k ⟨⟩) Q))
      ⊢ wp frame (wpE (defs₀ (F := F)) Variants.none c none) E (Prog.lift (.store m (Rect.unit off size inb) w Finset.univ h hm) >>= k) Q := by
  unfold owns
  iintro ⟨⟨%f, %hf, H⟩, Hk⟩
  subst hf
  sl_exec
  iapply Hk
  iexists _
  isplitr
  rotate_left
  · iexact H
  · ipureintro
    exact View.read_writes_cons_put m.view f inb w [] rfl

variable {c : Dev nD} {E : Set ℕ} {M : Mems} {w : Ins F} {s : St F}

theorem at_load {d : Shape} {e : EltTy} {m : Memref sig .tc .vmem d e} {x : Vec F d e} {off size : Fin d.rank → ℕ}
    {inb : ∀ a, off a + size a ≤ d.size a} {h : m.view.LoadsAt (Rect.unit off size inb).toLoadRect} {α : Type}
    {k : _ → Prog (TpuEff nD τ sig (Elt F) Λ₀ .tc) α} {Q : α → sProp 𝕄}
    (hb : Bufs c M w s ⊢ iprop(owns (c : Thread nD τ) m fullShare x ∗ (owns (c : Thread nD τ) m fullShare x -∗ Bufs c M w s)))
    (hk : Bufs c M w s ⊢ wp frame (wpE (defs₀ (F := F)) Variants.none c none) E (k (window x off size inb)) Q) :
    Bufs c M w s ⊢ wp frame (wpE (defs₀ (F := F)) Variants.none c none) E (Prog.lift (.load m (Rect.unit off size inb).toLoadRect h) >>= k) Q := by
  refine hb.trans (.trans ?_ (load_owns c E m x off size inb h k _))
  iintro ⟨H, Hw⟩
  isplitl [H]; · iexact H
  iintro H
  iapply hk
  iapply Hw
  iexact H

theorem at_store {d : Shape} {e : EltTy} {m : Memref sig .tc .vmem d e} {x : Vec F d e} {off size : Fin d.rank → ℕ}
    {inb : ∀ a, off a + size a ≤ d.size a} {v : ((a : Fin d.rank) → Fin (size a)) → Elt F e} {h : (m.access (Rect.unit off size inb)).Stores Finset.univ} {hm} {α : Type}
    {k : PUnit → Prog (TpuEff nD τ sig (Elt F) Λ₀ .tc) α} {Q : α → sProp 𝕄} {s' : St F}
    (hb : Bufs c M w s ⊢ iprop(owns (c : Thread nD τ) m fullShare x ∗ (owns (c : Thread nD τ) m fullShare (put x off size v) -∗ Bufs c M w s')))
    (hk : Bufs c M w s' ⊢ wp frame (wpE (defs₀ (F := F)) Variants.none c none) E (k ⟨⟩) Q) :
    Bufs c M w s ⊢ wp frame (wpE (defs₀ (F := F)) Variants.none c none) E (Prog.lift (.store m (Rect.unit off size inb) v Finset.univ h hm) >>= k) Q := by
  refine hb.trans (.trans ?_ (store_owns c E m x off size inb v h hm k _))
  iintro ⟨H, Hw⟩
  isplitl [H]; · iexact H
  iintro H
  iapply hk
  iapply Hw
  iexact H

theorem at_end {s' : St F} (h : s = s') : Bufs c M w s ⊢ wp frame (wpE (defs₀ (F := F)) Variants.none c none) E (Pure.pure PUnit.unit : Prog (TpuEff nD τ sig (Elt F) Λ₀ .tc) PUnit) (fun _ => Bufs c M w s') := by
  subst h
  iintro H
  sl_step
  iexact H

theorem at_seq {α β : Type} {p : Prog (TpuEff nD τ sig (Elt F) Λ₀ .tc) α} {k : α → Prog (TpuEff nD τ sig (Elt F) Λ₀ .tc) β} {Q : β → sProp 𝕄} {s' : St F}
    (hp : Bufs c M w s ⊢ wp frame (wpE (defs₀ (F := F)) Variants.none c none) E p (fun _ => Bufs c M w s'))
    (hk : ∀ r, Bufs c M w s' ⊢ wp frame (wpE (defs₀ (F := F)) Variants.none c none) E (k r) Q) :
    Bufs c M w s ⊢ wp frame (wpE (defs₀ (F := F)) Variants.none c none) E (p >>= k) Q := by
  rw [wp_bind]
  exact hp.trans (wp_mono _ _ _ fun r => hk r)

section Focus
variable (c M w s)

theorem at1 : Bufs c M w s ⊢ iprop(owns (c : Thread nD τ) M.m1 fullShare w.x ∗ (owns (c : Thread nD τ) M.m1 fullShare w.x -∗ Bufs c M w s)) := by
  unfold Bufs; iintro ⟨⟨H1, H2, H3, H4, H5, H6⟩, H⟩; isplitl [H1]; · iexact H1
  iintro H1; iframe
theorem at2 : Bufs c M w s ⊢ iprop(owns (c : Thread nD τ) M.m2 fullShare w.g ∗ (owns (c : Thread nD τ) M.m2 fullShare w.g -∗ Bufs c M w s)) := by
  unfold Bufs; iintro ⟨⟨H1, H2, H3, H4, H5, H6⟩, H⟩; isplitl [H2]; · iexact H2
  iintro H2; iframe
theorem at3 : Bufs c M w s ⊢ iprop(owns (c : Thread nD τ) M.m3 fullShare w.w ∗ (owns (c : Thread nD τ) M.m3 fullShare w.w -∗ Bufs c M w s)) := by
  unfold Bufs; iintro ⟨⟨H1, H2, H3, H4, H5, H6⟩, H⟩; isplitl [H3]; · iexact H3
  iintro H3; iframe
theorem at4 : Bufs c M w s ⊢ iprop(owns (c : Thread nD τ) M.m4 fullShare w.wf ∗ (owns (c : Thread nD τ) M.m4 fullShare w.wf -∗ Bufs c M w s)) := by
  unfold Bufs; iintro ⟨⟨H1, H2, H3, H4, H5, H6⟩, H⟩; isplitl [H4]; · iexact H4
  iintro H4; iframe
theorem at5 : Bufs c M w s ⊢ iprop(owns (c : Thread nD τ) M.m5 fullShare w.qg ∗ (owns (c : Thread nD τ) M.m5 fullShare w.qg -∗ Bufs c M w s)) := by
  unfold Bufs; iintro ⟨⟨H1, H2, H3, H4, H5, H6⟩, H⟩; isplitl [H5]; · iexact H5
  iintro H5; iframe
theorem at6 : Bufs c M w s ⊢ iprop(owns (c : Thread nD τ) M.m6 fullShare w.kg ∗ (owns (c : Thread nD τ) M.m6 fullShare w.kg -∗ Bufs c M w s)) := by
  unfold Bufs; iintro ⟨⟨H1, H2, H3, H4, H5, H6⟩, H⟩; isplitl [H6]; · iexact H6
  iintro H6; iframe
theorem atO (O : Vec F S1024x1024 .bf16) (P : Vec F S1024x128 .f32) (X : Vec F S1024x2048 .bf16) (y : Vec F S1024x1024 .bf16) :
    Bufs c M w ⟨O, P, X⟩ ⊢ iprop(owns (c : Thread nD τ) M.m7 fullShare O ∗ (owns (c : Thread nD τ) M.m7 fullShare y -∗ Bufs c M w ⟨y, P, X⟩)) := by
  unfold Bufs; iintro ⟨K, H1, H2, H3⟩; isplitl [H1]; · iexact H1
  iintro H1; iframe
theorem atP (O : Vec F S1024x1024 .bf16) (P : Vec F S1024x128 .f32) (X : Vec F S1024x2048 .bf16) (y : Vec F S1024x128 .f32) :
    Bufs c M w ⟨O, P, X⟩ ⊢ iprop(owns (c : Thread nD τ) M.m8 fullShare P ∗ (owns (c : Thread nD τ) M.m8 fullShare y -∗ Bufs c M w ⟨O, y, X⟩)) := by
  unfold Bufs; iintro ⟨K, H1, H2, H3⟩; isplitl [H2]; · iexact H2
  iintro H2; iframe
theorem atX (O : Vec F S1024x1024 .bf16) (P : Vec F S1024x128 .f32) (X : Vec F S1024x2048 .bf16) (y : Vec F S1024x2048 .bf16) :
    Bufs c M w ⟨O, P, X⟩ ⊢ iprop(owns (c : Thread nD τ) sc0 fullShare X ∗ (owns (c : Thread nD τ) sc0 fullShare y -∗ Bufs c M w ⟨O, P, y⟩)) := by
  unfold Bufs; iintro ⟨K, H1, H2, H3⟩; isplitl [H3]; · iexact H3
  iintro H3; iframe

end Focus

/-- The body, from state `s`. -/
theorem body (i : grid0.Coords) (s : St F) :
    Bufs c M w s ⊢ wp frame (wpE (defs₀ (F := F)) Variants.none c none) E
      (cc0_in_proj i M.m1 M.h1 M.m2 M.h2 M.m3 M.h3 M.m4 M.h4 M.m5 M.h5 M.m6 M.h6 M.m7 M.h7 M.m8 M.h8 sc0 (Memref.isWhole_whole _))
      (fun _ => Bufs c M w (plain i w (keys i w (queries i w (started i w s))))) := by
  rw [cc0_in_proj_eq_skeleton]; unfold cc0_in_proj_skel
  dsimp only
  obtain ⟨O, P, X⟩ := s
  by_cases h1 : k0_cond1 i = 1#1
  on_goal 1 =>
    rw [dif_pos h1, show started i w ⟨O, P, X⟩ = ⟨O, gateP w P, rowsX w X⟩ from if_pos h1]
    refine at_load (at1 c M w _) ?_
    refine at_load (at2 c M w _) ?_
    refine at_load (atX c M w _ _ _ _) ?_
    refine at_store (atX c M w _ _ _ _) ?_
    refine at_load (at4 c M w _) ?_
    refine at_load (atP c M w _ _ _ _) ?_
    refine at_store (atP c M w _ _ _ _) ?_
    refine .trans (Q := Bufs c M w ⟨O, gateP w P, rowsX w X⟩) .rfl ?_
    generalize gateP w P = P
    generalize rowsX w X = X
  on_goal 2 => rw [dif_neg h1, show started i w ⟨O, P, X⟩ = ⟨O, P, X⟩ from if_neg h1]
  all_goals
    refine at_load (atX c M w _ _ _ _) ?_
    refine at_load (at3 c M w _) ?_
    by_cases h2 : k0_cond2 i = 1#1
    on_goal 1 =>
      rw [dif_pos h2, show queries i w ⟨O, P, X⟩ = ⟨heads (prodV w X) w.qg' O, P, X⟩ from if_pos h2]
      rw [k0_part1_eq_skeleton, k0_part2_eq_skeleton, k0_part3_eq_skeleton]; unfold k0_part1_skel k0_part2_skel k0_part3_skel
      dsimp only [bind_assoc, pure_bind]
      iterate 8
        refine at_load (at5 c M w _) ?_
        refine at_load (atO c M w _ _ _ _) ?_
        refine at_store (atO c M w _ _ _ _) ?_
      refine .trans (Q := Bufs c M w ⟨heads (prodV w X) w.qg' O, P, X⟩) .rfl ?_
      generalize heads (prodV w X) w.qg' O = O
    on_goal 2 => rw [dif_neg h2, show queries i w ⟨O, P, X⟩ = ⟨O, P, X⟩ from if_neg h2]
    all_goals
      by_cases h3 : k0_cond3 i = 1#1
      on_goal 1 =>
        rw [dif_pos h3, show keys i w ⟨O, P, X⟩ = ⟨heads (prodV w X) w.kg' O, P, X⟩ from if_pos h3]
        rw [k0_part4_eq_skeleton, k0_part5_eq_skeleton, k0_part6_eq_skeleton]; unfold k0_part4_skel k0_part5_skel k0_part6_skel
        dsimp only [bind_assoc, pure_bind]
        iterate 8
          refine at_load (at6 c M w _) ?_
          refine at_load (atO c M w _ _ _ _) ?_
          refine at_store (atO c M w _ _ _ _) ?_
        refine .trans (Q := Bufs c M w ⟨heads (prodV w X) w.kg' O, P, X⟩) .rfl ?_
        generalize heads (prodV w X) w.kg' O = O
      on_goal 2 => rw [dif_neg h3, show keys i w ⟨O, P, X⟩ = ⟨O, P, X⟩ from if_neg h3]
      all_goals
        by_cases h4 : k0_cond4 i = 1#1
        · rw [dif_pos h4, plain, if_pos h4]
          refine at_load (atO c M w _ _ _ _) ?_
          refine at_store (atO c M w _ _ _ _) ?_
          exact at_end rfl
        · rw [dif_neg h4, plain, if_neg h4]
          exact at_end rfl

end Cert.Kernel3Ideal.InProj

end
-- ==== Proof.InProj.Data.lean ====
module

public import proofs.«01_k».proof.Proof.InProj.Step
public import proofs.«01_k».proof.Proof.Gen.Kernel3Ideal.Frame
public import proofs.«01_k».proof.Proof.Experts.Value
public import Idealize.ShloMosaic.Lib.Pipeline.ValueKit

@[expose] public section

set_option maxRecDepth 16384

noncomputable section

namespace Cert.Kernel3Ideal.InProj

open Cert.Kernel3Ideal Cert.Kernel3Ideal.Gen
open Idealize.ShloMosaic Idealize.ShloMosaic.TcCoe Idealize.ShloMosaic.Tactic
open Idealize.SL Idealize.SL.RA Idealize.SL.BI
open Idealize.ShloMosaic.VecWindow (window put)
open scoped Idealize.SL.BI
open Idealize.SL.BI.BIBase Idealize.SL.BI.Laws Idealize.SL.ProofMode Idealize.SL.Sem
open Idealize.ShloMosaic.Rounds

open Cert.Kernel2Ideal.Experts (put2_in put2_out put_all zero2)
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memrefs of the body at point `t`. -/
def mems (t : Fin cfg0.N) : Mems where
  m1 := win0_0.stage (cfg0.slots t 0)
  h1 := hstage0_0 ((cfg0.slots t 0).cast nbuf0_0)
  m2 := win0_1.stage (cfg0.slots t 1)
  h2 := hstage0_1 ((cfg0.slots t 1).cast nbuf0_1)
  m3 := win0_2.stage (cfg0.slots t 2)
  h3 := hstage0_2 ((cfg0.slots t 2).cast nbuf0_2)
  m4 := win0_3.stage (cfg0.slots t 3)
  h4 := hstage0_3 ((cfg0.slots t 3).cast nbuf0_3)
  m5 := win0_4.stage (cfg0.slots t 4)
  h5 := hstage0_4 ((cfg0.slots t 4).cast nbuf0_4)
  m6 := win0_5.stage (cfg0.slots t 5)
  h6 := hstage0_5 ((cfg0.slots t 5).cast nbuf0_5)
  m7 := win0_6.stage (cfg0.slots t 6)
  h7 := hstage0_6 ((cfg0.slots t 6).cast nbuf0_6)
  m8 := win0_7.stage (cfg0.slots t 7)
  h8 := hstage0_7 ((cfg0.slots t 7).cast nbuf0_7)

/-- The input blocks of point `t`. -/
def ins (c : Dev nD) (t : Fin cfg0.N) : Ins F where
  x := iblk m c 0 t
  g := iblk m c 1 t
  w := iblk m c 2 t
  wf := iblk m c 3 t
  qg := iblk m c 4 t
  kg := iblk m c 5 t

/-- A head's columns stay inside a block of columns. -/
theorem slices_head : ∀ h : Fin 8, S1024x1024.Slices ![0, 128 * h.val] S1024x128
  | 0 => slices_S1024x1024_o0_0_S1024x128
  | 1 => slices_S1024x1024_o0_128_S1024x128
  | 2 => slices_S1024x1024_o0_256_S1024x128
  | 3 => slices_S1024x1024_o0_384_S1024x128
  | 4 => slices_S1024x1024_o0_512_S1024x128
  | 5 => slices_S1024x1024_o0_640_S1024x128
  | 6 => slices_S1024x1024_o0_768_S1024x128
  | 7 => slices_S1024x1024_o0_896_S1024x128

/-- A head's column of a block. -/
def hcol (h : Fin 8) (d : Fin 128) : Fin 1024 := ⟨128 * h.val + d.val, by omega⟩

theorem hcol_eta (j : Fin 1024) : ∃ h d, j = hcol h d := ⟨⟨j.val / 128, by omega⟩, ⟨j.val % 128, by omega⟩, Fin.ext (by show j.val = 128 * (j.val / 128) + j.val % 128; omega)⟩

/-- A block of heads at an index: that head's payload. -/
theorem heads_at (v : FVec F S1024x1024 .f32) (gn : Vec F S1x128 .f32) (O : Vec F S1024x1024 .bf16) (r : Fin 1024) (h : Fin 8) (d : Fin 128) :
    heads v gn O (ix2 r (hcol h d)) = headPay ![0, 128 * h.val] (slices_head h) v gn (ix2 r d) := by
  unfold heads
  match h with
  | 0 =>
    refine (put2_out _ 0 896 1024 128 _ r (hcol 0 d) (Or.inl (by show 128 * 0 + d.val < 896; omega))).trans ?_
    refine (put2_out _ 0 768 1024 128 _ r (hcol 0 d) (Or.inl (by show 128 * 0 + d.val < 768; omega))).trans ?_
    refine (put2_out _ 0 640 1024 128 _ r (hcol 0 d) (Or.inl (by show 128 * 0 + d.val < 640; omega))).trans ?_
    refine (put2_out _ 0 512 1024 128 _ r (hcol 0 d) (Or.inl (by show 128 * 0 + d.val < 512; omega))).trans ?_
    refine (put2_out _ 0 384 1024 128 _ r (hcol 0 d) (Or.inl (by show 128 * 0 + d.val < 384; omega))).trans ?_
    refine (put2_out _ 0 256 1024 128 _ r (hcol 0 d) (Or.inl (by show 128 * 0 + d.val < 256; omega))).trans ?_
    refine (put2_out _ 0 128 1024 128 _ r (hcol 0 d) (Or.inl (by show 128 * 0 + d.val < 128; omega))).trans ?_
    exact put2_in _ 0 0 1024 128 _ r d r (hcol 0 d) (by simp) (by show 128 * 0 + d.val = 0 + d.val; omega)
  | 1 =>
    refine (put2_out _ 0 896 1024 128 _ r (hcol 1 d) (Or.inl (by show 128 * 1 + d.val < 896; omega))).trans ?_
    refine (put2_out _ 0 768 1024 128 _ r (hcol 1 d) (Or.inl (by show 128 * 1 + d.val < 768; omega))).trans ?_
    refine (put2_out _ 0 640 1024 128 _ r (hcol 1 d) (Or.inl (by show 128 * 1 + d.val < 640; omega))).trans ?_
    refine (put2_out _ 0 512 1024 128 _ r (hcol 1 d) (Or.inl (by show 128 * 1 + d.val < 512; omega))).trans ?_
    refine (put2_out _ 0 384 1024 128 _ r (hcol 1 d) (Or.inl (by show 128 * 1 + d.val < 384; omega))).trans ?_
    refine (put2_out _ 0 256 1024 128 _ r (hcol 1 d) (Or.inl (by show 128 * 1 + d.val < 256; omega))).trans ?_
    exact put2_in _ 0 128 1024 128 _ r d r (hcol 1 d) (by simp) (by show 128 * 1 + d.val = 128 + d.val; omega)
  | 2 =>
    refine (put2_out _ 0 896 1024 128 _ r (hcol 2 d) (Or.inl (by show 128 * 2 + d.val < 896; omega))).trans ?_
    refine (put2_out _ 0 768 1024 128 _ r (hcol 2 d) (Or.inl (by show 128 * 2 + d.val < 768; omega))).trans ?_
    refine (put2_out _ 0 640 1024 128 _ r (hcol 2 d) (Or.inl (by show 128 * 2 + d.val < 640; omega))).trans ?_
    refine (put2_out _ 0 512 1024 128 _ r (hcol 2 d) (Or.inl (by show 128 * 2 + d.val < 512; omega))).trans ?_
    refine (put2_out _ 0 384 1024 128 _ r (hcol 2 d) (Or.inl (by show 128 * 2 + d.val < 384; omega))).trans ?_
    exact put2_in _ 0 256 1024 128 _ r d r (hcol 2 d) (by simp) (by show 128 * 2 + d.val = 256 + d.val; omega)
  | 3 =>
    refine (put2_out _ 0 896 1024 128 _ r (hcol 3 d) (Or.inl (by show 128 * 3 + d.val < 896; omega))).trans ?_
    refine (put2_out _ 0 768 1024 128 _ r (hcol 3 d) (Or.inl (by show 128 * 3 + d.val < 768; omega))).trans ?_
    refine (put2_out _ 0 640 1024 128 _ r (hcol 3 d) (Or.inl (by show 128 * 3 + d.val < 640; omega))).trans ?_
    refine (put2_out _ 0 512 1024 128 _ r (hcol 3 d) (Or.inl (by show 128 * 3 + d.val < 512; omega))).trans ?_
    exact put2_in _ 0 384 1024 128 _ r d r (hcol 3 d) (by simp) (by show 128 * 3 + d.val = 384 + d.val; omega)
  | 4 =>
    refine (put2_out _ 0 896 1024 128 _ r (hcol 4 d) (Or.inl (by show 128 * 4 + d.val < 896; omega))).trans ?_
    refine (put2_out _ 0 768 1024 128 _ r (hcol 4 d) (Or.inl (by show 128 * 4 + d.val < 768; omega))).trans ?_
    refine (put2_out _ 0 640 1024 128 _ r (hcol 4 d) (Or.inl (by show 128 * 4 + d.val < 640; omega))).trans ?_
    exact put2_in _ 0 512 1024 128 _ r d r (hcol 4 d) (by simp) (by show 128 * 4 + d.val = 512 + d.val; omega)
  | 5 =>
    refine (put2_out _ 0 896 1024 128 _ r (hcol 5 d) (Or.inl (by show 128 * 5 + d.val < 896; omega))).trans ?_
    refine (put2_out _ 0 768 1024 128 _ r (hcol 5 d) (Or.inl (by show 128 * 5 + d.val < 768; omega))).trans ?_
    exact put2_in _ 0 640 1024 128 _ r d r (hcol 5 d) (by simp) (by show 128 * 5 + d.val = 640 + d.val; omega)
  | 6 =>
    refine (put2_out _ 0 896 1024 128 _ r (hcol 6 d) (Or.inl (by show 128 * 6 + d.val < 896; omega))).trans ?_
    exact put2_in _ 0 768 1024 128 _ r d r (hcol 6 d) (by simp) (by show 128 * 6 + d.val = 768 + d.val; omega)
  | 7 =>
    exact put2_in _ 0 896 1024 128 _ r d r (hcol 7 d) (by simp) (by show 128 * 7 + d.val = 896 + d.val; omega)

theorem heads_all (v : FVec F S1024x1024 .f32) (gn : Vec F S1x128 .f32) (O O' : Vec F S1024x1024 .bf16) : heads v gn O = heads v gn O' := by
  funext y
  obtain ⟨h, d, e⟩ := hcol_eta (y 1)
  have hy : y = ix2 (y 0) (hcol h d) := (ix2_eta y).symm.trans (congrArg (ix2 (y 0)) e)
  rw [hy]
  exact (heads_at v gn O (y 0) h d).trans (heads_at v gn O' (y 0) h d).symm

/-! ## The grid: 32 blocks of rows by 5 blocks of columns -/

theorem cond1_iff : ∀ t : Fin cfg0.N, k0_cond1 (grid0.coords t) = 1#1 ↔ t.val % 5 = 0 := by decide +kernel
theorem cond2_iff : ∀ t : Fin cfg0.N, k0_cond2 (grid0.coords t) = 1#1 ↔ t.val % 5 = 0 := by decide +kernel
theorem cond3_iff : ∀ t : Fin cfg0.N, k0_cond3 (grid0.coords t) = 1#1 ↔ t.val % 5 = 1 := by decide +kernel
theorem cond4_iff : ∀ t : Fin cfg0.N, k0_cond4 (grid0.coords t) = 1#1 ↔ 2 ≤ t.val % 5 := by decide +kernel
theorem idle6 : ∀ t : Fin cfg0.N, cfg0.idle 6 (cfg0.grid.coords t) = false := by decide +kernel
theorem idle7 : ∀ t : Fin cfg0.N, cfg0.idle 7 (cfg0.grid.coords t) = !(t.val % 5 == 0) := by decide +kernel

theorem lt_N (t : Fin cfg0.N) : t.val < 160 := lt_of_lt_of_eq t.isLt rfl

/-- The first point of a point's block of rows. -/
def base (t : Fin cfg0.N) : Fin cfg0.N := ⟨5 * (t.val / 5), by have := lt_N t; show _ < 160; omega⟩

theorem base_of (t : Fin cfg0.N) (h : t.val % 5 = 0) : base t = t := Fin.ext (by show 5 * (t.val / 5) = t.val; omega)
theorem base_step (t t' : Fin cfg0.N) (h : t.val % 5 ≠ 0) (e : t'.val + 1 = t.val) : base t' = base t :=
  Fin.ext (by show 5 * (t'.val / 5) = 5 * (t.val / 5); omega)

/-- Buffers that nothing is known of. -/
def noO : Vec F S1024x1024 .bf16 := fun _ => Scalar.ofBits .bf16 0
def noP : Vec F S1024x128 .f32 := fun _ => Scalar.ofBits .f32 0
def noX : Vec F S1024x2048 .bf16 := fun _ => Scalar.ofBits .bf16 0

theorem rowsX_all (w : Ins F) (X X' : Vec F S1024x2048 .bf16) : rowsX w X = rowsX w X' := put_all (s := S1024x2048) X X' ![0, 0] zero2 _
theorem gateP_all (w : Ins F) (P P' : Vec F S1024x128 .f32) : gateP w P = gateP w P' := put_all (s := S1024x128) P P' ![0, 0] zero2 _

/-- The normalised rows of point `t`'s block of rows, their forget gate, and the block of columns that its body leaves. -/
def xn (c : Dev nD) (t : Fin cfg0.N) : Vec F S1024x2048 .bf16 := rowsX (ins m c (base t)) noX
def out7 (c : Dev nD) (t : Fin cfg0.N) : Vec F S1024x128 .f32 := gateP (ins m c (base t)) noP
def blockO (i : grid0.Coords) (w : Ins F) (s : St F) : Vec F S1024x1024 .bf16 := (plain i w (keys i w (queries i w s))).O
def out6 (c : Dev nD) (t : Fin cfg0.N) : Vec F S1024x1024 .bf16 := blockO (grid0.coords t) (ins m c t) ⟨noO, noP, xn m c t⟩

/-- Before point `n` the scratch buffer holds the normalised rows of the point before it. -/
def Held (c : Dev nD) (n : ℕ) (X : Vec F S1024x2048 .bf16) : Prop := n = 0 ∨ ∃ t : Fin cfg0.N, t.val + 1 = n ∧ X = xn m c t

/-- The state after the body at point `t`, from state `s`. -/
def next (c : Dev nD) (t : Fin cfg0.N) (s : St F) : St F :=
  plain (grid0.coords t) (ins m c t) (keys (grid0.coords t) (ins m c t) (queries (grid0.coords t) (ins m c t) (started (grid0.coords t) (ins m c t) s)))

theorem started_eq (c : Dev nD) (t : Fin cfg0.N) (s : St F) (hX : Held m c t.val s.X) (hP : t.val % 5 ≠ 0 → s.P = out7 m c t) :
    started (grid0.coords t) (ins m c t) s = ⟨s.O, out7 m c t, xn m c t⟩ := by
  unfold started
  by_cases h : t.val % 5 = 0
  · rw [if_pos ((cond1_iff t).mpr h), gateP_all _ s.P noP, rowsX_all _ s.X noX]
    unfold out7 xn
    rw [base_of t h]
  · rw [if_neg (fun hc => h ((cond1_iff t).mp hc))]
    obtain ⟨t', ht, hX'⟩ := hX.resolve_left fun e => h (by rw [e])
    have e : xn m c t' = xn m c t := by unfold xn; rw [base_step t t' h ht]
    obtain ⟨O, P, X⟩ := s
    exact congr (congrArg (St.mk O) (hP h)) (hX'.trans e)

theorem rest_eq (t : Fin cfg0.N) (w : Ins F) (O O' : Vec F S1024x1024 .bf16) (P P' : Vec F S1024x128 .f32) (X : Vec F S1024x2048 .bf16) :
    plain (grid0.coords t) w (keys (grid0.coords t) w (queries (grid0.coords t) w ⟨O, P, X⟩)) = ⟨blockO (grid0.coords t) w ⟨O', P', X⟩, P, X⟩ := by
  have h2 := cond2_iff t
  have h3 := cond3_iff t
  have h4 := cond4_iff t
  unfold blockO plain keys queries
  by_cases c2 : t.val % 5 = 0
  · have n3 : ¬ k0_cond3 (grid0.coords t) = 1#1 := fun h => by have := h3.mp h; omega
    have n4 : ¬ k0_cond4 (grid0.coords t) = 1#1 := fun h => by have := h4.mp h; omega
    simp only [if_pos (h2.mpr c2), if_neg n3, if_neg n4]
    exact congrArg (fun O => St.mk O P X) (heads_all _ _ _ _)
  · have n2 : ¬ k0_cond2 (grid0.coords t) = 1#1 := fun h => c2 (h2.mp h)
    by_cases c3 : t.val % 5 = 1
    · have n4 : ¬ k0_cond4 (grid0.coords t) = 1#1 := fun h => by have := h4.mp h; omega
      simp only [if_neg n2, if_pos (h3.mpr c3), if_neg n4]
      exact congrArg (fun O => St.mk O P X) (heads_all _ _ _ _)
    · have n3 : ¬ k0_cond3 (grid0.coords t) = 1#1 := fun h => c3 (h3.mp h)
      simp only [if_neg n2, if_neg n3, if_pos (h4.mpr (by omega))]
      exact congrArg (fun O => St.mk O P X) (put_all (s := S1024x1024) _ _ ![0, 0] zero2 _)

theorem next_eq (c : Dev nD) (t : Fin cfg0.N) (s : St F) (hX : Held m c t.val s.X) (hP : t.val % 5 ≠ 0 → s.P = out7 m c t) :
    next m c t s = ⟨out6 m c t, out7 m c t, xn m c t⟩ := by
  unfold next
  rw [started_eq m c t s hX hP]
  exact rest_eq t (ins m c t) s.O noO (out7 m c t) noP (xn m c t)

/-- The pipeline's data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
  Φ n := iprop(∃ X, ⌜Held m c n.val X⌝ ∗ owns (c : Thread nD τ) sc0 fullShare X ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The forget gate's block is fresh at the first point of a block of rows only. -/
theorem fresh7 (n : ℕ) (h : n ≤ cfg0.N) : cfg0.fresh 7 n = (n % 5 == 0) :=
  Pipeline.Cfg.fresh_tab cfg0 7 (fun n => n % 5 == 0) rfl (by decide +kernel) n h

theorem carry7 (c : Dev nD) (t : Fin cfg0.N) (h : t.val % 5 ≠ 0) : out7 m c t = out7 m c ⟨t.val - 1, by have := t.isLt; omega⟩ := by
  unfold out7
  rw [base_step t ⟨t.val - 1, by have := t.isLt; omega⟩ h (by show t.val - 1 + 1 = t.val; omega)]

theorem before0_7 (c : Dev nD) (t : Fin cfg0.N) (d) : (dats m 0 c).before 7 t d = if t.val % 5 = 0 then d else out7 m c t := by
  have h := (dats m 0 c).before_out_traj 7 rfl (fun _ _ => rfl) (fun t ht hi hf => by
    rw [after0_7, after0_7]
    refine carry7 m c t ?_
    have e := (fresh7 t.val (le_of_lt t.isLt)).symm.trans hf
    simpa using e) t.val t rfl d
  rw [h, fresh7 t.val (le_of_lt t.isLt), after0_7]
  by_cases h5 : t.val % 5 = 0
  · rw [if_pos (by simpa using h5), if_pos h5]
  · rw [if_neg (by simpa using h5), if_neg h5, ← carry7 m c t h5]

/-- What the launch hands over: the scratch buffer at any contents and the generator register. -/
theorem PhiA_eq (c : Dev nD) : (Pipeline.ΦA spec0 c : sProp 𝕄) = iprop((∃ d, owns (c : Thread nD τ) sc0 fullShare d) ∗ (∃ r, prngReg c r)) := by
  unfold Pipeline.ΦA; rw [scopedRest0_eq]; simp only [owns_whole]; try rfl

/-- The body's triple at point `t`, from any state, memref by memref. -/
theorem body_wp (c : Dev nD) (t : Fin cfg0.N) (s : St F) :
    (iprop((owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t))
        ∗ owns (c : Thread nD τ) (st0_6 t) fullShare s.O ∗ owns (c : Thread nD τ) (st0_7 t) fullShare s.P ∗ owns (c : Thread nD τ) sc0 fullShare s.X) : sProp 𝕄)
      ⊢ wp frame (wpE (defs₀ (F := F)) Variants.none (c : Thread nD τ) none) Set.univ (bodyAt0 t)
      (fun _ => iprop((owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t))
        ∗ owns (c : Thread nD τ) (st0_6 t) fullShare (next m c t s).O ∗ owns (c : Thread nD τ) (st0_7 t) fullShare (next m c t s).P ∗ owns (c : Thread nD τ) sc0 fullShare (next m c t s).X)) :=
  body (c := c) (E := Set.univ) (M := mems t) (w := ins m c t) (grid0.coords t) s

theorem Phi_before (c : Dev nD) (t : Fin cfg0.N) : (dats m 0 c).Φ t.castSucc
    = iprop(∃ X, ⌜Held m c t.val X⌝ ∗ owns (c : Thread nD τ) sc0 fullShare X ∗ (∃ r, prngReg c r)) := by
  dsimp only [dats, Fin.val_castSucc]
theorem Phi_after (c : Dev nD) (t : Fin cfg0.N) : (dats m 0 c).Φ t.succ
    = iprop(∃ X, ⌜Held m c (t.val + 1) X⌝ ∗ owns (c : Thread nD τ) sc0 fullShare X ∗ (∃ r, prngReg c r)) := by
  dsimp only [dats, Fin.val_succ]

/-- What is held after the body at point `t`, with `P` of the two outputs' blocks. -/
def held (c : Dev nD) (t : Fin cfg0.N) (P : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t) ∗ P)

theorem held_mono (c : Dev nD) (t : Fin cfg0.N) {P Q : sProp 𝕄} (h : P ⊢ Q) : held m c t P ⊢ held m c t Q := by
  unfold held
  iintro ⟨HP, Ho, H0, H1, H2, H3, H4, H5, H6⟩
  iframe HP Ho H0 H1 H2 H3 H4 H5
  iapply h
  iexact H6

/-- The body at a point. -/
theorem body_step (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
      ⊢ wp frame (wpE (defs₀ (F := F)) Variants.none c none) Set.univ (bodyAt0 t) (fun _ =>
        held m c t iprop(owns (c : Thread nD τ) (st0_6 t) fullShare (out6 m c t) ∗ owns (c : Thread nD τ) (st0_7 t) fullShare (out7 m c t))) := by
  unfold held
  simp only [before0_0, before0_1, before0_2, before0_3, before0_4, before0_5, before0_7, after0_0, after0_1, after0_2, after0_3, after0_4, after0_5]
  rw [show (dats m 0 c).owesAt () t.succ = (dats m 0 c).owesAt () t.castSucc from rfl]
  rw [Phi_before, Phi_after]
  iintro ⟨⟨%X, %hX, S0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have e := next_eq m c t ⟨(dats m 0 c).before 6 t d6, if t.val % 5 = 0 then d7 else out7 m c t, X⟩ hX (fun h => if_neg h)
  iapply (wp_wand_r Idealize.ShloMosaic.frame (wpE (defs₀ (F := F)) Variants.none (c : Thread nD τ) none) Set.univ)
  isplitl [S0 H0 H1 H2 H3 H4 H5 H6 H7]
  · iapply (body_wp m c t ⟨(dats m 0 c).before 6 t d6, if t.val % 5 = 0 then d7 else out7 m c t, X⟩)
    iframe
  rw [e]
  iintro %r HB
  icases HB with ⟨⟨H0, H1, H2, H3, H4, H5⟩, H6, H7, S0⟩
  isplitl [S0 Hg]
  · iexists (xn m c t)
    isplitr; · ipureintro; exact Or.inr ⟨t, rfl, rfl⟩
    iframe
  iframe

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem leaves6 (c : Dev nD) (t : Fin cfg0.N) : owns (c : Thread nD τ) (st0_6 t) fullShare (out6 m c t) ⊢ ((dats m 0 c).leavesExact 6 t : sProp 𝕄) := by
  unfold Dat.leavesExact
  rw [show (cfgs 0).idle 6 ((cfgs 0).grid.coords t) = false from idle6 t, ← after0_6]

theorem leaves7 (c : Dev nD) (t : Fin cfg0.N) : owns (c : Thread nD τ) (st0_7 t) fullShare (out7 m c t) ⊢ ((dats m 0 c).leavesExact 7 t : sProp 𝕄) := by
  have key : owns (c : Thread nD τ) (st0_7 t) fullShare (out7 m c t) ⊢ (owns (c : Thread nD τ) (st0_7 t) fullShare ((dats m 0 c).after 7 t) : sProp 𝕄) := by rw [← after0_7]
  unfold Dat.leavesExact
  rw [show (cfgs 0).idle 7 ((cfgs 0).grid.coords t) = !(t.val % 5 == 0) from idle7 t]
  by_cases h5 : t.val % 5 = 0
  · rw [show (!(t.val % 5 == 0)) = false by simpa using h5]
    exact key
  · rw [show (!(t.val % 5 == 0)) = true by simpa using h5]
    cases ((cfgs 0).win 7).flush t
    · dsimp only
      iintro H
      iexists (out7 m c t)
      rw [before0_7, if_neg h5]
      iexact H
    · exact key

/-- The body's obligation. -/
theorem body_exact (c : Dev nD) : BodyObligation (dats m 0 c) (defs₀ (F := F)) Variants.none () Set.univ := fun t => by
  rw [bigSep_W0, bigSep_W0, defs₀_row]
  refine triple_restated (body_step m c t) rfl .rfl fun _ => held_mono m c t (Q := iprop((dats m 0 c).leavesExact 6 t ∗ (dats m 0 c).leavesExact 7 t)) ?_
  iintro ⟨H6, H7⟩
  isplitl [H6]
  · iapply (leaves6 m c t); iexact H6
  · iapply (leaves7 m c t); iexact H7

/-- Before the first point the scratch buffer holds anything. -/
theorem hin (c : Dev nD) : Pipeline.ΦA spec0 c ⊢ (dats m 0 c).Φ 0 := by
  rw [PhiA_eq]
  dsimp only [dats]
  iintro ⟨⟨%d0, S0⟩, Hg⟩
  iexists d0
  isplitr; · ipureintro; exact Or.inl rfl
  iframe

/-- After the last point what it holds is forgotten. -/
theorem hout' (c : Dev nD) : (dats m 0 c).Φ (Fin.last cfg0.N) ⊢ Pipeline.ΦA spec0 c := by
  rw [PhiA_eq]
  dsimp only [dats]
  iintro ⟨%X, %hX, S0, Hg⟩
  isplitr [Hg]
  · iexists _; iexact S0
  iexact Hg

set_option backward.isDefEq.respectTransparency.types false in
/-- The run, with the outputs' blocks as the body leaves them. -/
theorem run_exact :
    θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_exact m c).loose) (hshare := fun c w => by unfold Dat.share; split <;> rfl)
    (howed := fun _ _ => rfl) (V := V m) (hmain := hmain m Variants.none) (hA := A_eq m) (hin := hin m) (hout := hout' m)

/-- The run: what the two results hold, the arguments unchanged, every counter at zero. -/
theorem run_args : θ_run defs (onTc (τ := τ) (main (F := F))) ⟨m, fun _ => 0, ρ⟩ (fun r => (∀ c : Dev nD,
      r.2.mem ((c.tc : Thread nD τ).loc main_v17_0) = (dats m 0 c).arrAt 6 (cfgs 0).N
      ∧ r.2.mem ((c.tc : Thread nD τ).loc main_v17_1) = (dats m 0 c).arrAt 7 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨Pipeline.FramePost.out_eq h.1 c 6, Pipeline.FramePost.out_eq h.1 c 7,
      (Pipeline.FramePost.rest_eq h.1 c main_arg0 (Pipeline.mem_restRefs_of main_arg0 (by decide) (by decide))).trans (V_main_arg0 m c),
      (Pipeline.FramePost.rest_eq h.1 c main_arg1 (Pipeline.mem_restRefs_of main_arg1 (by decide) (by decide))).trans (V_main_arg1 m c),
      (Pipeline.FramePost.rest_eq h.1 c main_arg2 (Pipeline.mem_restRefs_of main_arg2 (by decide) (by decide))).trans (V_main_arg2 m c),
      (Pipeline.FramePost.rest_eq h.1 c main_arg3 (Pipeline.mem_restRefs_of main_arg3 (by decide) (by decide))).trans (V_main_arg3 m c),
      (Pipeline.FramePost.rest_eq h.1 c main_arg4 (Pipeline.mem_restRefs_of main_arg4 (by decide) (by decide))).trans (V_main_arg4 m c)⟩, h.2⟩)
    (run_exact m ρ)

/-- What the frame asks, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2, h.2⟩) (run_args m ρ)

end Cert.Kernel3Ideal.InProj

end
-- ==== Proof.InProj.Spec.lean ====
/- The mathematics of the input projection: the rows normalised, the projection, the heads of the queries and keys normalised. -/
module

public import Idealize.ShloMosaic.Lib.Pointwise

@[expose] public section

noncomputable section

namespace Cert.InSpec

open Idealize.ShloMosaic

/-- The word zero as a number. -/
theorem zero_word : (FloatOps.sitofp (F := Ideal) FTy.f32 (0#32 : BitVec 32) : EReal) = 0 := by
  show (((0#32 : BitVec 32).toInt : ℝ) : EReal) = 0
  simp

/-- The inputs: the rows, the layer's gain, the weights, the gains of the queries and the keys. -/
structure Nums where
  x : Fin 32768 → Fin 2048 → EReal
  g : Fin 2048 → EReal
  w : Fin 2048 → Fin 5128 → EReal
  qg : Fin 128 → EReal
  kg : Fin 128 → EReal

/-- The reciprocal of the root mean square of `v`, `c` the number of its entries. -/
def scale {n : ℕ} (v : Fin n → EReal) (c : EReal) : EReal := Ideal.rsqrt (Ideal.div (∑ k, v k * v k) c + Ideal.ofBits .f32 0x358637BD#32)

/-- The normalised rows. -/
def normed (N : Nums) (r : Fin 32768) (k : Fin 2048) : EReal := N.x r k * scale (N.x r) (Ideal.ofBits .f32 0x45000000#32) * N.g k

/-- The projection. -/
def proj (N : Nums) (r : Fin 32768) (n : Fin 5128) : EReal := ∑ k, normed N r k * N.w k n

/-- A head's column among the projection's, the heads from column `1024 * j` on. -/
def hcol (j : Fin 2) (h : Fin 8) (d : Fin 128) : Fin 5128 := ⟨1024 * j.val + 128 * h.val + d.val, by omega⟩

/-- A head normalised, before its gain. -/
def head (N : Nums) (j : Fin 2) (r : Fin 32768) (h : Fin 8) (d : Fin 128) : EReal :=
  proj N r (hcol j h d) * scale (fun d => proj N r (hcol j h d)) (Ideal.ofBits .f32 0x43000000#32)

/-- Where a column of the result stands among the projection's: the eight columns of the forget gate stand apart. -/
def col (j : Fin 5) (c : Fin 1024) : Fin 5128 := if h : j.val < 3 then ⟨1024 * j.val + c.val, by omega⟩ else ⟨1024 * j.val + c.val + 8, by omega⟩

/-- The result at a row and column `c` of the block of columns `j`: queries, keys, values, and the two branches of the RG-LRU block. -/
def out (N : Nums) (r : Fin 32768) (j : Fin 5) (c : Fin 1024) : EReal :=
  if j.val = 0 then head N 0 r ⟨c.val / 128, by omega⟩ ⟨c.val % 128, by omega⟩ * N.qg ⟨c.val % 128, by omega⟩ * Ideal.ofBits .f32 0x3DB504F3#32
  else if j.val = 1 then head N 1 r ⟨c.val / 128, by omega⟩ ⟨c.val % 128, by omega⟩ * N.kg ⟨c.val % 128, by omega⟩
  else proj N r (col j c)

/-- The forget gate's columns, with zeros to the width of a vector. -/
def gate (N : Nums) (r : Fin 32768) (l : Fin 128) : EReal := if h : l.val < 8 then proj N r ⟨3072 + l.val, by omega⟩ else 0

end Cert.InSpec

end
-- ==== Proof.InProj.Math.lean ====
/- The input projection's vectors read number by number. -/
module

public import proofs.«01_k».proof.Proof.InProj.Data
public import proofs.«01_k».proof.Proof.InProj.Spec
public import proofs.«01_k».proof.Proof.Rglru.Math

@[expose] public section

set_option maxRecDepth 16384

noncomputable section

namespace Cert.Kernel3Ideal.InProj

open Cert.Kernel3Ideal Cert.Kernel3Ideal.Gen
open Idealize.ShloMosaic Idealize.ShloMosaic.TcCoe Idealize.ShloMosaic.Tactic
open Idealize.ShloMosaic.VecWindow (window put)
open Cert.KernelIdeal.Rglru (window2)
open Cert.Kernel2Ideal.Experts (put2_in)

theorem pay1_at (x : Vec Ideal S1024x2048 .f32) (g : Vec Ideal S1x2048 .f32) (i : Fin 1024) (k : Fin 2048) :
    k0_pay1 x g (ix2 i k) = x (ix2 i k) * InSpec.scale (fun k => x (ix2 i k)) (Ideal.ofBits .f32 0x45000000#32) * g (ix2 0 k) := by
  unfold InSpec.scale
  pointwise [k0_pay1]

theorem pay2_at (x : Vec Ideal S1024x2048 .f32) (g : Vec Ideal S1x2048 .f32) (i : Fin 1024) (k : Fin 2048) :
    k0_pay2 x g (ix2 i k) = k0_pay1 x g (ix2 i k) := by
  generalize hp : k0_pay1 x g = p
  pointwise [k0_pay2, hp]

theorem pay3_at (x : Vec Ideal S1024x2048 .f32) (g : Vec Ideal S1x2048 .f32) (wf : Vec Ideal S2048x128 .bf16) (i : Fin 1024) (l : Fin 128) :
    k0_pay3 x g wf (ix2 i l) = ∑ k : Fin 2048, HMul.hMul (α := EReal) (k0_pay1 x g (ix2 i k)) (wf (ix2 k l)) := by
  generalize hp : k0_pay1 x g = p
  pointwise [k0_pay3, hp]

theorem pay4_at (x : Vec Ideal S1024x2048 .bf16) (w : Vec Ideal S2048x1024 .bf16) (i : Fin 1024) (l : Fin 1024) :
    k0_pay4 x w (ix2 i l) = ∑ k : Fin 2048, HMul.hMul (α := EReal) (x (ix2 i k)) (w (ix2 k l)) := by
  pointwise [k0_pay4]

theorem pay7_at (x : Vec Ideal S1024x2048 .bf16) (w : Vec Ideal S2048x1024 .bf16) (i : Fin 1024) (l : Fin 1024) :
    k0_pay7 x w (ix2 i l) = k0_pay4 x w (ix2 i l) := by
  generalize hp : k0_pay4 x w = p
  pointwise [k0_pay7, hp]

theorem headPay_at (h : Fin 8) (v : FVec Ideal S1024x1024 .f32) (gn : Vec Ideal S1x128 .f32) (i : Fin 1024) (d : Fin 128) :
    headPay ![0, 128 * h.val] (slices_head h) v gn (ix2 i d)
      = v (ix2 i (hcol h d)) * InSpec.scale (fun d => v (ix2 i (hcol h d))) (Ideal.ofBits .f32 0x43000000#32) * gn (ix2 0 d) := by
  have hs (i : Fin 1024) (d : Fin 128) : (extractStridedSlice S1024x128 ![0, 128 * h.val] v (slices_head h) : FVec Ideal S1024x128 .f32) (ix2 i d) = v (ix2 i (hcol h d)) := by
    pointwise []
    rfl
  unfold headPay InSpec.scale
  generalize extractStridedSlice S1024x128 ![0, 128 * h.val] v (slices_head h) = e at hs ⊢
  simp only [← hs]
  pointwise []

/-- The inputs of a point: the rows `ρ`, the layer's gain and the forget gate's columns; -/
structure ReadsRow (N : InSpec.Nums) (ρ : Fin 1024 → Fin 32768) (w : Ins Ideal) : Prop where
  x : ∀ (i : Fin 1024) (k : Fin 2048), w.x (ix2 i k) = N.x (ρ i) k
  g : ∀ k : Fin 2048, w.g (ix2 0 k) = N.g k
  wf : ∀ (k : Fin 2048) (l : Fin 128), w.wf (ix2 k l) = if h : l.val < 8 then N.w k ⟨3072 + l.val, by omega⟩ else 0

/-- the block `j` of columns and the heads' gains. -/
structure ReadsCol (N : InSpec.Nums) (j : Fin 5) (w : Ins Ideal) : Prop where
  qg : ∀ d : Fin 128, w.qg (ix2 0 d) = N.qg d * Ideal.ofBits .f32 0x3DB504F3#32
  kg : ∀ d : Fin 128, w.kg (ix2 0 d) = N.kg d
  w : ∀ (k : Fin 2048) (c : Fin 1024), w.w (ix2 k c) = N.w k (InSpec.col j c)

variable {N : InSpec.Nums} {ρ : Fin 1024 → Fin 32768} {j : Fin 5} {w : Ins Ideal}

theorem norm_at (hw : ReadsRow N ρ w) (i : Fin 1024) (k : Fin 2048) : k0_pay1 w.x' w.g' (ix2 i k) = InSpec.normed N (ρ i) k := by
  have hx (k : Fin 2048) : w.x' (ix2 i k) = N.x (ρ i) k :=
    (window2 w.x 0 0 1024 2048 _ i k i k (by simp) (by simp)).trans (hw.x i k)
  have hg : w.g' (ix2 0 k) = N.g k := (window2 w.g 0 0 1 2048 _ 0 k 0 k (by simp) (by simp)).trans (hw.g k)
  refine (pay1_at w.x' w.g' i k).trans ?_
  unfold InSpec.normed
  rw [hx k, hg, funext hx]

theorem rowsX_at (hw : ReadsRow N ρ w) (X : Vec Ideal S1024x2048 .bf16) (i : Fin 1024) (k : Fin 2048) : rowsX w X (ix2 i k) = InSpec.normed N (ρ i) k :=
  (put2_in X 0 0 1024 2048 _ i k i k (by simp) (by simp)).trans ((pay2_at w.x' w.g' i k).trans (norm_at hw i k))

theorem gateP_at (hw : ReadsRow N ρ w) (P : Vec Ideal S1024x128 .f32) (i : Fin 1024) (l : Fin 128) : gateP w P (ix2 i l) = InSpec.gate N (ρ i) l := by
  refine (put2_in P 0 0 1024 128 _ i l i l (by simp) (by simp)).trans ((pay3_at w.x' w.g' w.wf' i l).trans ?_)
  have hf (k : Fin 2048) : w.wf' (ix2 k l) = if h : l.val < 8 then N.w k ⟨3072 + l.val, by omega⟩ else 0 :=
    (window2 w.wf 0 0 2048 128 _ k l k l (by simp) (by simp)).trans (hw.wf k l)
  unfold InSpec.gate InSpec.proj
  by_cases h : l.val < 8
  · rw [dif_pos h]
    refine Finset.sum_congr rfl fun k _ => congrArg₂ (· * ·) (norm_at hw i k) ((hf k).trans ?_)
    rw [dif_pos h]
  · rw [dif_neg h]
    refine (Finset.sum_congr rfl fun k _ => ?_).trans Finset.sum_const_zero
    refine (congrArg₂ (· * ·) rfl ((hf k).trans (dif_neg h))).trans ?_
    exact mul_zero _

theorem prodV_at (hc : ReadsCol N j w) (X : Vec Ideal S1024x2048 .bf16) (hX : ∀ (i : Fin 1024) (k : Fin 2048), X (ix2 i k) = InSpec.normed N (ρ i) k)
    (i c : Fin 1024) : prodV w X (ix2 i c) = InSpec.proj N (ρ i) (InSpec.col j c) := by
  refine (pay4_at _ w.w' i c).trans (Finset.sum_congr rfl fun k _ => congrArg₂ (· * ·) ?_ ?_)
  · exact (window2 X 0 0 1024 2048 _ i k i k (by simp) (by simp)).trans (hX i k)
  · exact (window2 w.w 0 0 2048 1024 _ k c k c (by simp) (by simp)).trans (hc.w k c)

theorem col_head (j : Fin 2) (j' : Fin 5) (e : j'.val = j.val) (h : Fin 8) (d : Fin 128) : InSpec.col j' (hcol h d) = InSpec.hcol j h d := by
  unfold InSpec.col
  rw [dif_pos (by omega)]
  exact Fin.ext (by show 1024 * j'.val + (128 * h.val + d.val) = 1024 * j.val + 128 * h.val + d.val; omega)

theorem heads_val (j' : Fin 2) (e : j.val = j'.val) (hc : ReadsCol N j w) (X : Vec Ideal S1024x2048 .bf16)
    (hX : ∀ (i : Fin 1024) (k : Fin 2048), X (ix2 i k) = InSpec.normed N (ρ i) k) (gn : Vec Ideal S1x128 .f32) (O : Vec Ideal S1024x1024 .bf16) (i c : Fin 1024) :
    heads (prodV w X) gn O (ix2 i c) = InSpec.head N j' (ρ i) ⟨c.val / 128, by omega⟩ ⟨c.val % 128, by omega⟩ * gn (ix2 0 ⟨c.val % 128, by omega⟩) := by
  have hcc : hcol ⟨c.val / 128, by omega⟩ ⟨c.val % 128, by omega⟩ = c := Fin.ext (by show 128 * (c.val / 128) + c.val % 128 = c.val; omega)
  refine (congrArg (fun c => heads (prodV w X) gn O (ix2 i c)) hcc.symm).trans ?_
  refine (heads_at _ gn O i _ _).trans ((headPay_at _ (prodV w X) gn i _).trans ?_)
  have hp (d : Fin 128) : prodV w X (ix2 i (hcol ⟨c.val / 128, by omega⟩ d)) = InSpec.proj N (ρ i) (InSpec.hcol j' ⟨c.val / 128, by omega⟩ d) := by
    rw [prodV_at hc X hX, col_head j' j e]
  unfold InSpec.head
  rw [hp, funext hp]

/-- What a point leaves in its block of the result. -/
theorem blockO_at (t : Fin cfg0.N) (ht : t.val % 5 = j.val) (hc : ReadsCol N j w) (O : Vec Ideal S1024x1024 .bf16) (P : Vec Ideal S1024x128 .f32) (X : Vec Ideal S1024x2048 .bf16)
    (hX : ∀ (i : Fin 1024) (k : Fin 2048), X (ix2 i k) = InSpec.normed N (ρ i) k) (i c : Fin 1024) :
    blockO (grid0.coords t) w ⟨O, P, X⟩ (ix2 i c) = InSpec.out N (ρ i) j c := by
  have h2 := cond2_iff t
  have h3 := cond3_iff t
  have h4 := cond4_iff t
  unfold blockO plain keys queries
  by_cases c2 : t.val % 5 = 0
  · have n3 : ¬ k0_cond3 (grid0.coords t) = 1#1 := fun h => by have := h3.mp h; omega
    have n4 : ¬ k0_cond4 (grid0.coords t) = 1#1 := fun h => by have := h4.mp h; omega
    simp only [if_pos (h2.mpr c2), if_neg n3, if_neg n4]
    unfold InSpec.out
    rw [if_pos (by omega)]
    refine (heads_val 0 (by show j.val = 0; omega) hc X hX _ O i c).trans ?_
    exact (congrArg _ ((window2 w.qg 0 0 1 128 _ 0 ⟨c.val % 128, by omega⟩ 0 ⟨c.val % 128, by omega⟩ (by simp) (by simp)).trans (hc.qg _))).trans (mul_assoc _ _ _).symm
  · have n2 : ¬ k0_cond2 (grid0.coords t) = 1#1 := fun h => c2 (h2.mp h)
    by_cases c3 : t.val % 5 = 1
    · have n4 : ¬ k0_cond4 (grid0.coords t) = 1#1 := fun h => by have := h4.mp h; omega
      simp only [if_neg n2, if_pos (h3.mpr c3), if_neg n4]
      unfold InSpec.out
      rw [if_neg (by omega), if_pos (by omega)]
      refine (heads_val 1 (by show j.val = 1; omega) hc X hX _ O i c).trans ?_
      exact congrArg _ ((window2 w.kg 0 0 1 128 _ 0 ⟨c.val % 128, by omega⟩ 0 ⟨c.val % 128, by omega⟩ (by simp) (by simp)).trans (hc.kg _))
    · have n3 : ¬ k0_cond3 (grid0.coords t) = 1#1 := fun h => c3 (h3.mp h)
      simp only [if_neg n2, if_neg n3, if_pos (h4.mpr (by omega))]
      unfold InSpec.out
      rw [if_neg (by omega), if_neg (by omega)]
      refine (put2_in O 0 0 1024 1024 _ i c i c (by simp) (by simp)).trans ((pay7_at _ w.w' i c).trans ?_)
      exact prodV_at hc X hX i c

end Cert.Kernel3Ideal.InProj

end
-- ==== Proof.InProj.Value.lean ====
/- The input projection's results are its mathematics of the arguments. -/
module

public import proofs.«01_k».proof.Proof.InProj.Math
public import Idealize.ShloMosaic.Lib.StableHlo.ReadAt
public import Idealize.ShloMosaic.Lib.Claim

@[expose] public section

set_option maxRecDepth 16384

noncomputable section

namespace Cert.Kernel3Ideal.InProj

open Cert.Kernel3Ideal Cert.Kernel3Ideal.Gen
open Idealize.ShloMosaic Idealize.ShloMosaic.TcCoe Idealize.ShloMosaic.Tactic Idealize.ShloMosaic.StableHlo
open Idealize.SL Idealize.SL.Sem
open Idealize.ShloMosaic.Pipeline (Dat)

variable (m : (ℓ : Loc nD τ sig) → Buf (Elt Ideal) ℓ) (ρ : Dev nD → PrngReg)

theorem idx_lt (y : S32768x5120.Idx) : (y 1).val < 5120 := (y 1).isLt

/-- The call's inputs, out of the arguments. -/
def nums (c : Dev nD) : InSpec.Nums where
  x r k := m ((c.tc : Thread nD τ).loc main_arg0) (ix3 ⟨r.val / 16384, by omega⟩ ⟨r.val % 16384, by omega⟩ k)
  g k := m ((c.tc : Thread nD τ).loc main_arg1) (ix2 0 k)
  w k n := m ((c.tc : Thread nD τ).loc main_arg2) (ix3 0 k n)
  qg d := m ((c.tc : Thread nD τ).loc main_arg3) (ix2 0 d)
  kg d := m ((c.tc : Thread nD τ).loc main_arg4) (ix2 0 d)

theorem V_x (c : Dev nD) (r : Fin 32768) (k : Fin 2048) : V m c main_v0 (ix2 r k) = (nums m c).x r k := by
  unfold nums V
  dsimp only [List.flatten_cons, List.flatten_nil, List.cons_append, List.nil_append, List.append_nil]
  after_reads_at

theorem V_g (c : Dev nD) (k : Fin 2048) : V m c main_v16 (ix2 0 k) = (nums m c).g k := by
  unfold nums V
  dsimp only [List.flatten_cons, List.flatten_nil, List.cons_append, List.nil_append, List.append_nil]
  after_reads_at

theorem V_qg (c : Dev nD) (k : Fin 128) : V m c main_v12 (ix2 0 k) = (nums m c).qg k * Ideal.ofBits .f32 0x3DB504F3#32 := by
  unfold nums V
  dsimp only [List.flatten_cons, List.flatten_nil, List.cons_append, List.nil_append, List.append_nil]
  after_reads_at

theorem V_kg (c : Dev nD) (k : Fin 128) : V m c main_v14 (ix2 0 k) = (nums m c).kg k := by
  unfold nums V
  dsimp only [List.flatten_cons, List.flatten_nil, List.cons_append, List.nil_append, List.append_nil]
  after_reads_at

theorem V_wf (c : Dev nD) (k : Fin 2048) (l : Fin 128) : V m c main_v8 (ix2 k l) = if h : l.val < 8 then (nums m c).w k ⟨3072 + l.val, by omega⟩ else 0 := by
  unfold nums V
  dsimp only [List.flatten_cons, List.flatten_nil, List.cons_append, List.nil_append, List.append_nil]
  after_reads_at
  by_cases h : l.val < 8
  · rw [dif_pos h, dif_pos h]
  · rw [dif_neg h, dif_neg h]
    exact InSpec.zero_word

theorem V_w (c : Dev nD) (k : Fin 2048) (n : Fin 5120) : V m c main_v5 (ix2 k n) = if h : n.val < 3072 then (nums m c).w k ⟨n.val, by omega⟩ else (nums m c).w k ⟨n.val + 8, by omega⟩ := by
  unfold nums V
  dsimp only [List.flatten_cons, List.flatten_nil, List.cons_append, List.nil_append, List.append_nil]
  after_reads_at
  by_cases h : n.val < 3072
  · rw [dif_pos h, dif_pos h]
    after_reads_at
  · rw [dif_neg h, dif_neg h]
    after_reads_at
    refine congrArg (fun n => m (c.tc.loc main_arg2) (ix3 0 k n)) (Fin.ext ?_)
    show 3080 + (n.val - 3072) = n.val + 8
    omega

theorem idx_x : ∀ t : Fin cfg0.N, (cfg0.win 0).index t 0 = t.val / 5 ∧ (cfg0.win 0).index t 1 = 0 := by decide +kernel
theorem idx_g : ∀ t : Fin cfg0.N, (cfg0.win 1).index t 0 = 0 ∧ (cfg0.win 1).index t 1 = 0 := by decide +kernel
theorem idx_w : ∀ t : Fin cfg0.N, (cfg0.win 2).index t 0 = 0 ∧ (cfg0.win 2).index t 1 = t.val % 5 := by decide +kernel
theorem idx_wf : ∀ t : Fin cfg0.N, (cfg0.win 3).index t 0 = 0 ∧ (cfg0.win 3).index t 1 = 0 := by decide +kernel
theorem idx_qg : ∀ t : Fin cfg0.N, (cfg0.win 4).index t 0 = 0 ∧ (cfg0.win 4).index t 1 = 0 := by decide +kernel
theorem idx_kg : ∀ t : Fin cfg0.N, (cfg0.win 5).index t 0 = 0 ∧ (cfg0.win 5).index t 1 = 0 := by decide +kernel
theorem idx_o : ∀ t : Fin cfg0.N, (cfg0.win 6).index t 0 = t.val / 5 ∧ (cfg0.win 6).index t 1 = t.val % 5 := by decide +kernel
theorem idx_f : ∀ t : Fin cfg0.N, (cfg0.win 7).index t 0 = t.val / 5 ∧ (cfg0.win 7).index t 1 = 0 := by decide +kernel

/-- The rows and the block of columns of a point. -/
def rowOf (t : Fin cfg0.N) (i : Fin 1024) : Fin 32768 := ⟨1024 * (t.val / 5) + i.val, by have := lt_N t; omega⟩
def colOf (t : Fin cfg0.N) : Fin 5 := ⟨t.val % 5, by omega⟩

theorem iblk_x (c : Dev nD) (t : Fin cfg0.N) (i : Fin 1024) (k : Fin 2048) : iblk m c 0 t (ix2 i k) = (nums m c).x (rowOf t i) k := by
  refine Eq.trans ?_ (V_x m c (rowOf t i) k)
  generalize hv : V m c main_v0 = v
  have ht := lt_N t
  unfold rowOf
  blk_ext! [iblk, hv, idx_x t]

theorem iblk_g (c : Dev nD) (t : Fin cfg0.N) (k : Fin 2048) : iblk m c 1 t (ix2 0 k) = (nums m c).g k := by
  refine Eq.trans ?_ (V_g m c k)
  generalize hv : V m c main_v16 = v
  blk_ext! [iblk, hv, idx_g t]

theorem iblk_w (c : Dev nD) (t : Fin cfg0.N) (k : Fin 2048) (d : Fin 1024) : iblk m c 2 t (ix2 k d) = (nums m c).w k (InSpec.col (colOf t) d) := by
  have ht := lt_N t
  have e : iblk m c 2 t (ix2 k d) = V m c main_v5 (ix2 k ⟨1024 * (t.val % 5) + d.val, by omega⟩) := by
    generalize hv : V m c main_v5 = v
    blk_ext! [iblk, hv, idx_w t]
  refine e.trans ((V_w m c k _).trans ?_)
  unfold InSpec.col colOf
  dsimp only
  by_cases h : t.val % 5 < 3
  · rw [dif_pos (show 1024 * (t.val % 5) + d.val < 3072 by omega), dif_pos h]
  · rw [dif_neg (show ¬ 1024 * (t.val % 5) + d.val < 3072 by omega), dif_neg h]

theorem iblk_wf (c : Dev nD) (t : Fin cfg0.N) (k : Fin 2048) (l : Fin 128) :
    iblk m c 3 t (ix2 k l) = if h : l.val < 8 then (nums m c).w k ⟨3072 + l.val, by omega⟩ else 0 := by
  refine Eq.trans ?_ (V_wf m c k l)
  generalize hv : V m c main_v8 = v
  blk_ext! [iblk, hv, idx_wf t]

theorem iblk_qg (c : Dev nD) (t : Fin cfg0.N) (d : Fin 128) : iblk m c 4 t (ix2 0 d) = (nums m c).qg d * Ideal.ofBits .f32 0x3DB504F3#32 := by
  refine Eq.trans ?_ (V_qg m c d)
  generalize hv : V m c main_v12 = v
  blk_ext! [iblk, hv, idx_qg t]

theorem iblk_kg (c : Dev nD) (t : Fin cfg0.N) (d : Fin 128) : iblk m c 5 t (ix2 0 d) = (nums m c).kg d := by
  refine Eq.trans ?_ (V_kg m c d)
  generalize hv : V m c main_v14 = v
  blk_ext! [iblk, hv, idx_kg t]

theorem readsRow (c : Dev nD) (t : Fin cfg0.N) : ReadsRow (nums m c) (rowOf t) (ins m c t) := ⟨iblk_x m c t, iblk_g m c t, iblk_wf m c t⟩
theorem readsCol (c : Dev nD) (t : Fin cfg0.N) : ReadsCol (nums m c) (colOf t) (ins m c t) := ⟨iblk_qg m c t, iblk_kg m c t, iblk_w m c t⟩

theorem rowOf_base (t : Fin cfg0.N) : rowOf (base t) = rowOf t := by
  funext i
  refine Fin.ext ?_
  show 1024 * (5 * (t.val / 5) / 5) + i.val = 1024 * (t.val / 5) + i.val
  omega

theorem xn_at (c : Dev nD) (t : Fin cfg0.N) (i : Fin 1024) (k : Fin 2048) : xn m c t (ix2 i k) = InSpec.normed (nums m c) (rowOf t i) k := by
  unfold xn
  rw [← rowOf_base t]
  exact rowsX_at (readsRow m c (base t)) _ i k

theorem out7_at (c : Dev nD) (t : Fin cfg0.N) (i : Fin 1024) (l : Fin 128) : out7 m c t (ix2 i l) = InSpec.gate (nums m c) (rowOf t i) l := by
  unfold out7
  rw [← rowOf_base t]
  exact gateP_at (readsRow m c (base t)) _ i l

theorem out6_at (c : Dev nD) (t : Fin cfg0.N) (i d : Fin 1024) : out6 m c t (ix2 i d) = InSpec.out (nums m c) (rowOf t i) (colOf t) d :=
  blockO_at t rfl (readsCol m c t) noO noP (xn m c t) (xn_at m c t) i d

/-- The results. -/
def result (c : Dev nD) : Vec Ideal S32768x5120 .bf16 := fun y => InSpec.out (nums m c) (y 0) ⟨(y 1).val / 1024, by have := idx_lt y; omega⟩ ⟨(y 1).val % 1024, by omega⟩
def resultF (c : Dev nD) : Vec Ideal S32768x128 .f32 := fun y => InSpec.gate (nums m c) (y 0) (y 1)

theorem arr_out (c : Dev nD) : (dats m 0 c).arrAt 6 (cfgs 0).N = result m c := by
  refine (dats m 0 c).arrAt_eq_of_covers 6 _ (by decide +kernel) fun t hf y => ?_
  have hi := idx_o t
  have ht := lt_N t
  have hy : (y (1 : Fin 2)).val < 1024 := (y (1 : Fin 2)).isLt
  have ho (y : S1024x1024.Idx) : out6 m c t y = InSpec.out (nums m c) (rowOf t (y 0)) (colOf t) (y 1) :=
    (congrArg _ (ix2_eta y).symm).trans (out6_at m c t (y 0) (y 1))
  show out6 m c t y = result m c _
  refine (ho y).trans ?_
  unfold result
  refine congr (congr (congrArg (InSpec.out (nums m c)) (Fin.ext ?_)) (Fin.ext ?_)) (Fin.ext ?_) <;> simp only [rowOf, colOf] <;> blk_simp [hi] <;> omega

theorem arr_gate (c : Dev nD) : (dats m 0 c).arrAt 7 (cfgs 0).N = resultF m c := by
  refine (dats m 0 c).arrAt_eq_of_covers 7 _ (by decide +kernel) fun t hf y => ?_
  have hi := idx_f t
  have ht := lt_N t
  have ho (y : S1024x128.Idx) : out7 m c t y = InSpec.gate (nums m c) (rowOf t (y 0)) (y 1) :=
    (congrArg _ (ix2_eta y).symm).trans (out7_at m c t (y 0) (y 1))
  show out7 m c t y = resultF m c _
  refine (ho y).trans ?_
  unfold resultF
  refine congr (congrArg (InSpec.gate (nums m c)) (Fin.ext ?_)) (Fin.ext ?_) <;> simp only [rowOf] <;> blk_simp [hi] <;> omega

/-- What a run of the kernel leaves. -/
theorem run_value : θ_run defs (onTc (τ := τ) (main (F := Ideal))) ⟨m, fun _ => 0, ρ⟩ (fun r => (∀ c : Dev nD,
      r.2.mem ((c.tc : Thread nD τ).loc main_v17_0) = result m c
      ∧ r.2.mem ((c.tc : Thread nD τ).loc main_v17_1) = resultF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c).1.trans (arr_out m c), (h.1 c).2.1.trans (arr_gate m c), (h.1 c).2.2⟩, h.2⟩)
    (run_args m ρ)

end Cert.Kernel3Ideal.InProj

end
-- ==== Proof.InProj.Same.lean ====
/- The input projection as printed for bits is the kernel as printed for extended reals, text for text. -/
module

public import proofs.«01_k».proof.Defs
public import proofs.«01_k».proof.Proof.Gen.Kernel3
public import proofs.«01_k».proof.Proof.Gen.Kernel3Ideal

@[expose] public section

set_option maxRecDepth 100000

noncomputable section

namespace Cert.Same3

open Idealize.ShloMosaic Idealize.SL.Sem

variable [Cert.Kernel3.Facts] [Cert.Kernel3Ideal.Facts]
variable {F : FTy → Type} [FloatOps F]

theorem body_eq : @Cert.Kernel3.cc0_in_proj F _ _ = @Cert.Kernel3Ideal.cc0_in_proj F _ _ := rfl

theorem table_eq : Cert.Kernel3.defs₀ (F := F) = Cert.Kernel3Ideal.defs₀ := by
  unfold Cert.Kernel3.defs₀ Cert.Kernel3Ideal.defs₀
  refine congrArg (Defs.onTc (Λ := Cert.Kernel3Ideal.Λ₀)) ?_
  funext ℓ a
  match ℓ, a with
  | 0, (t, s) => dsimp only; rw [body_eq]; rfl

theorem defs_eq : Cert.Kernel3.defs (F := F) = Cert.Kernel3Ideal.defs :=
  congrArg (Pipeline.defs Cert.Kernel3Ideal.pcfgs) table_eq

theorem main_eq : @Cert.Kernel3.main F _ _ = @Cert.Kernel3Ideal.main F _ _ := rfl

end Cert.Same3

end
-- ==== Proof.Ref3.Value.lean ====
/- The input projection's reference's results are its mathematics of its arguments. -/
module

public import proofs.«01_k».proof.Proof.Gen.Reference3Ideal.Run
public import proofs.«01_k».proof.Proof.InProj.Spec
public import Idealize.ShloMosaic.Lib.Pointwise
public import Idealize.ShloMosaic.Lib.Quiescent

@[expose] public section

set_option maxRecDepth 16384

noncomputable section

open Idealize.ShloMosaic Idealize.ShloMosaic.StableHlo
open Idealize.ShloMosaic.TcCoe Idealize.ShloMosaic.Tactic
open Idealize.SL Idealize.SL.Sem

namespace Cert.Reference3Ideal.Ref

open Cert.Reference3Ideal Cert.Reference3Ideal.Gen Cert.Reference3Ideal.Value

variable {F : FTy → Type} [FloatOps F]

/-- The rows normalised. -/
def rows (x : FVec F S2x16384x2048 .f32) (g : FVec F S1x2048 .f32) : FVec F S2x16384x2048 .f32 :=
  mulf (mulf x (broadcastInDim S2x16384x2048 ![0, 1, 2] bcast_S2x16384x1_S2x16384x2048_0_1_2 (Host.rsqrt (addf (Host.divf (broadcastInDim S2x16384x1 ![0, 1] bcast_S2x16384_S2x16384x1_0_1
    (Host.reduceAdd (mulf x x) (constant S_ .f32 0x00000000#32) reducesTo_S2x16384x2048_S2x16384_d2 h_S_)) (broadcastInDim S2x16384x1 ![] bcast_S_S2x16384x1 (constant S_ .f32 0x45000000#32)))
    (broadcastInDim S2x16384x1 ![] bcast_S_S2x16384x1 (constant S_ .f32 0x358637BD#32))))))
    (broadcastInDim S2x16384x2048 ![0, 1, 2] bcast_S1x1x2048_S2x16384x2048_0_1_2 (broadcastInDim S1x1x2048 ![2] bcast_S2048_S1x1x2048_2 (shapeCast _ g shapeCasts_S1x2048_S2048)))

/-- The projection. -/
def projD (y : FVec F S2x16384x2048 .f32) (w : FVec F S1x2048x5128 .f32) : FVec F S32768x5128 .f32 :=
  shapeCast _ (Host.dotGeneral dot_S2x16384x2048_S2048x5128_S2x16384x5128_2_0_01_1_n_n none y (shapeCast _ w shapeCasts_S1x2048x5128_S2048x5128)) shapeCasts_S2x16384x5128_S32768x5128

/-- Heads normalised and scaled by their gain. -/
def headV (v : FVec F S32768x8x128 .f32) (gn : FVec F S1x128 .f32) : FVec F S32768x8x128 .f32 :=
  mulf (mulf v (broadcastInDim S32768x8x128 ![0, 1, 2] bcast_S32768x8x1_S32768x8x128_0_1_2 (Host.rsqrt (addf (Host.divf (broadcastInDim S32768x8x1 ![0, 1] bcast_S32768x8_S32768x8x1_0_1
    (Host.reduceAdd (mulf v v) (constant S_ .f32 0x00000000#32) reducesTo_S32768x8x128_S32768x8_d2 h_S_)) (broadcastInDim S32768x8x1 ![] bcast_S_S32768x8x1 (constant S_ .f32 0x43000000#32)))
    (broadcastInDim S32768x8x1 ![] bcast_S_S32768x8x1 (constant S_ .f32 0x358637BD#32))))))
    (broadcastInDim S32768x8x128 ![0, 1, 2] bcast_S1x1x128_S32768x8x128_0_1_2 (broadcastInDim S1x1x128 ![2] bcast_S128_S1x1x128_2 (shapeCast _ gn shapeCasts_S1x128_S128)))

/-- The queries' and the keys' heads. -/
def qV (D : FVec F S32768x5128 .f32) : FVec F S32768x8x128 .f32 :=
  shapeCast _ (extractStridedSlice S32768x1024 ![0, 0] D slices_S32768x5128_S32768x1024_0_0) shapeCasts_S32768x1024_S32768x8x128
def kV (D : FVec F S32768x5128 .f32) : FVec F S32768x8x128 .f32 :=
  shapeCast _ (extractStridedSlice S32768x1024 ![0, 1024] D slices_S32768x5128_S32768x1024_0_1024) shapeCasts_S32768x1024_S32768x8x128

/-- The four parts of the first result. -/
def qPart (D : FVec F S32768x5128 .f32) (gn : FVec F S1x128 .f32) : FVec F S32768x1024 .f32 :=
  shapeCast _ (mulf (headV (qV D) gn) (broadcastInDim S32768x8x128 ![] bcast_S_S32768x8x128 (constant S_ .f32 0x3DB504F3#32))) shapeCasts_S32768x8x128_S32768x1024
def kPart (D : FVec F S32768x5128 .f32) (gn : FVec F S1x128 .f32) : FVec F S32768x1024 .f32 :=
  shapeCast _ (headV (kV D) gn) shapeCasts_S32768x8x128_S32768x1024
def vPart (D : FVec F S32768x5128 .f32) : FVec F S32768x1024 .f32 := extractStridedSlice S32768x1024 ![0, 2048] D slices_S32768x5128_S32768x1024_0_2048
def xPart (D : FVec F S32768x5128 .f32) : FVec F S32768x2048 .f32 := extractStridedSlice S32768x2048 ![0, 3080] D slices_S32768x5128_S32768x2048_0_3080

def joined (q k v : FVec F S32768x1024 .f32) (x : FVec F S32768x2048 .f32) : FVec F S32768x5120 .bf16 :=
  truncf .bf16 (concatenate S32768x5120 1 [⟨S32768x1024, q⟩, ⟨S32768x1024, k⟩, ⟨S32768x1024, v⟩, ⟨S32768x2048, x⟩]
    concatenates_S32768x1024_S32768x1024_S32768x1024_S32768x2048_S32768x5120_d1 : FVec F S32768x5120 .f32) bitsLt_bf16_f32

def padded (D : FVec F S32768x5128 .f32) : FVec F S32768x128 .f32 :=
  pad S32768x128 ![0, 0] ![0, 120] ![0, 0] (extractStridedSlice S32768x8 ![0, 3072] D slices_S32768x5128_S32768x8_0_3072 : FVec F S32768x8 .f32) (sitofp .f32 (constantI S_ 32 0#32)) pads_S32768x8_S32768x128_000_01200 h_S_

section Main

variable (m : (ℓ : Loc nD τ sig) → Buf (Elt F) ℓ) (ρ : Dev nD → PrngReg)

/-- The projection of the arguments. -/
def D (c : Dev nD) : FVec F S32768x5128 .f32 :=
  projD (rows (m ((c.tc : Thread nD τ).loc main_arg0)) (m ((c.tc : Thread nD τ).loc main_arg1))) (m ((c.tc : Thread nD τ).loc main_arg2))

/-- The two results. -/
def res0 (c : Dev nD) : FVec F S32768x5120 .bf16 :=
  joined (qPart (D m c) (m ((c.tc : Thread nD τ).loc main_arg3))) (kPart (D m c) (m ((c.tc : Thread nD τ).loc main_arg4))) (vPart (D m c)) (xPart (D m c))
def res1 (c : Dev nD) : FVec F S32768x128 .f32 := padded (D m c)

theorem res0_eq (c : Dev nD) : res_main_v56 m c = res0 m c := rfl

/-- The run: the two results, the arguments unchanged, every counter at zero. -/
theorem run_main : θ_run (defs (F := F)) (onTc (τ := τ) (main (F := F))) ⟨m, fun _ => 0, ρ⟩ (fun r => (∀ c : Dev nD,
      r.2.mem ((c.tc : Thread nD τ).loc main_v56) = res0 m c
      ∧ r.2.mem ((c.tc : Thread nD τ).loc main_v58) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun r h => ⟨fun c =>
    ⟨(h c).1.trans (res0_eq m c), (h c).2.1.trans rfl, (h c).2.2⟩, sem_eq_zero_of_no_sems (by decide) r.2⟩)
    (run m ρ)

end Main

/-- The arguments' buffers hold `N`. -/
structure Holds (N : InSpec.Nums) (x : FVec Ideal S2x16384x2048 .f32) (g : FVec Ideal S1x2048 .f32) (w : FVec Ideal S1x2048x5128 .f32) (qg kg : FVec Ideal S1x128 .f32) : Prop where
  x : ∀ (r : Fin 32768) (k : Fin 2048), x (ix3 ⟨r.val / 16384, by omega⟩ ⟨r.val % 16384, by omega⟩ k) = N.x r k
  g : ∀ k : Fin 2048, g (ix2 0 k) = N.g k
  w : ∀ (k : Fin 2048) (n : Fin 5128), w (ix3 0 k n) = N.w k n
  qg : ∀ d : Fin 128, qg (ix2 0 d) = N.qg d
  kg : ∀ d : Fin 128, kg (ix2 0 d) = N.kg d

theorem rows_at (x : FVec Ideal S2x16384x2048 .f32) (g : FVec Ideal S1x2048 .f32) (a : Fin 2) (b : Fin 16384) (k : Fin 2048) :
    rows x g (ix3 a b k) = x (ix3 a b k) * InSpec.scale (fun k => x (ix3 a b k)) (Ideal.ofBits .f32 0x45000000#32) * g (ix2 0 k) := by
  unfold InSpec.scale
  pointwise [rows]

theorem projD_at (y : FVec Ideal S2x16384x2048 .f32) (w : FVec Ideal S1x2048x5128 .f32) (r : Fin 32768) (n : Fin 5128) :
    projD y w (ix2 r n) = ∑ k : Fin 2048, HMul.hMul (α := EReal) (y (ix3 ⟨r.val / 16384, by omega⟩ ⟨r.val % 16384, by omega⟩ k)) (w (ix3 0 k n)) := by
  pointwise [projD]

theorem headV_at (v : FVec Ideal S32768x8x128 .f32) (gn : FVec Ideal S1x128 .f32) (r : Fin 32768) (h : Fin 8) (d : Fin 128) :
    headV v gn (ix3 r h d) = v (ix3 r h d) * InSpec.scale (fun d => v (ix3 r h d)) (Ideal.ofBits .f32 0x43000000#32) * gn (ix2 0 d) := by
  unfold InSpec.scale
  pointwise [headV]

theorem qV_at (D : FVec Ideal S32768x5128 .f32) (r : Fin 32768) (h : Fin 8) (d : Fin 128) : qV D (ix3 r h d) = D (ix2 r (InSpec.hcol 0 h d)) := by
  unfold InSpec.hcol
  pointwise [qV]
  exact congrArg (fun n => D (ix2 r n)) (Fin.ext (by show h.val * 128 + d.val = 128 * h.val + d.val; omega))

theorem kV_at (D : FVec Ideal S32768x5128 .f32) (r : Fin 32768) (h : Fin 8) (d : Fin 128) : kV D (ix3 r h d) = D (ix2 r (InSpec.hcol 1 h d)) := by
  unfold InSpec.hcol
  pointwise [kV]
  exact congrArg (fun n => D (ix2 r n)) (Fin.ext (by show 1024 + (h.val * 128 + d.val) = 1024 + 128 * h.val + d.val; omega))

theorem qPart_at (D : FVec Ideal S32768x5128 .f32) (gn : FVec Ideal S1x128 .f32) (r : Fin 32768) (c : Fin 1024) :
    qPart D gn (ix2 r c) = headV (qV D) gn (ix3 r ⟨c.val / 128, by omega⟩ ⟨c.val % 128, by omega⟩) * Ideal.ofBits .f32 0x3DB504F3#32 := by
  unfold qPart
  generalize headV (qV D) gn = v
  pointwise []

theorem kPart_at (D : FVec Ideal S32768x5128 .f32) (gn : FVec Ideal S1x128 .f32) (r : Fin 32768) (c : Fin 1024) :
    kPart D gn (ix2 r c) = headV (kV D) gn (ix3 r ⟨c.val / 128, by omega⟩ ⟨c.val % 128, by omega⟩) := by
  unfold kPart
  generalize headV (kV D) gn = v
  pointwise []

theorem joined_at (q k v : FVec Ideal S32768x1024 .f32) (x : FVec Ideal S32768x2048 .f32) (r : Fin 32768) (n : Fin 5120) :
    joined q k v x (ix2 r n) = if h : n.val < 1024 then q (ix2 r ⟨n.val, h⟩) else if h : n.val < 2048 then k (ix2 r ⟨n.val - 1024, by omega⟩)
      else if h : n.val < 3072 then v (ix2 r ⟨n.val - 2048, by omega⟩) else x (ix2 r ⟨n.val - 3072, by omega⟩) := by
  pointwise [joined]
  by_cases h0 : n.val < 1024
  · rw [dif_pos h0, dif_pos h0]
  rw [dif_neg h0, dif_neg h0]
  by_cases h1 : n.val < 2048
  · rw [dif_pos (by omega), dif_pos h1]
  rw [dif_neg (by omega), dif_neg h1]
  by_cases h2 : n.val < 3072
  · rw [dif_pos (by omega), dif_pos h2]
    exact congrArg (fun n => v (ix2 r n)) (Fin.ext (by show n.val - 1024 - 1024 = n.val - 2048; omega))
  rw [dif_neg (by omega), dif_neg h2]
  exact congrArg (fun n => x (ix2 r n)) (Fin.ext (by show n.val - 1024 - 1024 - 1024 = n.val - 3072; omega))

theorem padded_at (D : FVec Ideal S32768x5128 .f32) (r : Fin 32768) (l : Fin 128) : padded D (ix2 r l) = if h : l.val < 8 then D (ix2 r ⟨3072 + l.val, by omega⟩) else 0 := by
  pointwise [padded]
  by_cases h : l.val < 8
  · rw [dif_pos h, dif_pos h]
  · rw [dif_neg h, dif_neg h]
    exact InSpec.zero_word

theorem vPart_at (D : FVec Ideal S32768x5128 .f32) (r : Fin 32768) (c : Fin 1024) : vPart D (ix2 r c) = D (ix2 r ⟨2048 + c.val, by omega⟩) := by
  pointwise [vPart]

theorem xPart_at (D : FVec Ideal S32768x5128 .f32) (r : Fin 32768) (c : Fin 2048) : xPart D (ix2 r c) = D (ix2 r ⟨3080 + c.val, by omega⟩) := by
  pointwise [xPart]

section Ideal

variable {N : InSpec.Nums} {x : FVec Ideal S2x16384x2048 .f32} {g : FVec Ideal S1x2048 .f32} {w : FVec Ideal S1x2048x5128 .f32} {qg kg : FVec Ideal S1x128 .f32}

theorem proj_at (hN : Holds N x g w qg kg) (r : Fin 32768) (n : Fin 5128) : projD (rows x g) w (ix2 r n) = InSpec.proj N r n := by
  refine (projD_at (rows x g) w r n).trans (Finset.sum_congr rfl fun k _ => congrArg₂ (· * ·) ?_ (hN.w k n))
  refine (rows_at x g _ _ k).trans ?_
  unfold InSpec.normed
  rw [hN.x r k, hN.g k, funext (hN.x r)]

theorem head_at (D : FVec Ideal S32768x5128 .f32) (hD : ∀ r n, D (ix2 r n) = InSpec.proj N r n) (j : Fin 2) (v : FVec Ideal S32768x8x128 .f32)
    (hv : ∀ (r : Fin 32768) (h : Fin 8) (d : Fin 128), v (ix3 r h d) = D (ix2 r (InSpec.hcol j h d))) (gn : FVec Ideal S1x128 .f32)
    (r : Fin 32768) (h : Fin 8) (d : Fin 128) : headV v gn (ix3 r h d) = InSpec.head N j r h d * gn (ix2 0 d) := by
  have e (d : Fin 128) : v (ix3 r h d) = InSpec.proj N r (InSpec.hcol j h d) := (hv r h d).trans (hD r _)
  refine (headV_at v gn r h d).trans ?_
  unfold InSpec.head
  rw [e d, funext e]

theorem joined_val (hN : Holds N x g w qg kg) (D : FVec Ideal S32768x5128 .f32) (hD : ∀ r n, D (ix2 r n) = InSpec.proj N r n) (r : Fin 32768) (n : Fin 5120) :
    joined (qPart D qg) (kPart D kg) (vPart D) (xPart D) (ix2 r n) = InSpec.out N r ⟨n.val / 1024, by omega⟩ ⟨n.val % 1024, by omega⟩ := by
  refine (joined_at _ _ _ _ r n).trans ?_
  unfold InSpec.out
  dsimp only
  by_cases h0 : n.val < 1024
  · rw [dif_pos h0, if_pos (show n.val / 1024 = 0 by omega)]
    refine (qPart_at D qg r ⟨n.val, h0⟩).trans ?_
    rw [head_at D hD 0 (qV D) (qV_at D) qg r _ _, hN.qg]
    have e : (⟨n.val, h0⟩ : Fin 1024) = ⟨n.val % 1024, by omega⟩ := Fin.ext (by show n.val = n.val % 1024; omega)
    simp only [Fin.mk.injEq] at e
    simp only [← e]
  rw [dif_neg h0, if_neg (show ¬ n.val / 1024 = 0 by omega)]
  by_cases h1 : n.val < 2048
  · rw [dif_pos h1, if_pos (show n.val / 1024 = 1 by omega)]
    refine (kPart_at D kg r ⟨n.val - 1024, by omega⟩).trans ?_
    rw [head_at D hD 1 (kV D) (kV_at D) kg r _ _, hN.kg]
    have e : n.val - 1024 = n.val % 1024 := by omega
    simp only [← e]
  rw [dif_neg h1, if_neg (show ¬ n.val / 1024 = 1 by omega)]
  unfold InSpec.col
  dsimp only
  by_cases h2 : n.val < 3072
  · rw [dif_pos h2, dif_pos (show n.val / 1024 < 3 by omega)]
    refine (vPart_at D r _).trans ((hD r _).trans (congrArg (InSpec.proj N r) (Fin.ext ?_)))
    show 2048 + (n.val - 2048) = 1024 * (n.val / 1024) + n.val % 1024
    omega
  rw [dif_neg h2, dif_neg (show ¬ n.val / 1024 < 3 by omega)]
  refine (xPart_at D r _).trans ((hD r _).trans (congrArg (InSpec.proj N r) (Fin.ext ?_)))
  show 3080 + (n.val - 3072) = 1024 * (n.val / 1024) + n.val % 1024 + 8
  omega

theorem padded_val (D : FVec Ideal S32768x5128 .f32) (hD : ∀ r n, D (ix2 r n) = InSpec.proj N r n) (r : Fin 32768) (l : Fin 128) :
    padded D (ix2 r l) = InSpec.gate N r l := by
  refine (padded_at D r l).trans ?_
  unfold InSpec.gate
  exact dite_congr rfl (fun _ => hD r _) (fun _ => rfl)

end Ideal

end Cert.Reference3Ideal.Ref

end
-- ==== Proof.OutProj.Step.lean ====
/- What a point of the output projection's grid leaves in its first two results, as a function of its blocks. -/
module

public import proofs.«01_k».proof.Proof.Gen.Kernel4Ideal.Frame
public import Idealize.ShloMosaic.Lib.VecWindow

@[expose] public section

set_option maxRecDepth 16384

noncomputable section

namespace Cert.Kernel4Ideal.OutProj

open Cert.Kernel4Ideal Cert.Kernel4Ideal.Gen
open Idealize.ShloMosaic Idealize.ShloMosaic.TcCoe Idealize.ShloMosaic.Tactic
open Idealize.ShloMosaic.VecWindow (window)
open Idealize.SL Idealize.SL.Sem

variable {F : FTy → Type} [FloatOps F]

theorem congr5 {α₁ α₂ α₃ α₄ α₅ β : Type} (f : α₁ → α₂ → α₃ → α₄ → α₅ → β) {a₁ b₁ : α₁} {a₂ b₂ : α₂} {a₃ b₃ : α₃} {a₄ b₄ : α₄} {a₅ b₅ : α₅}
    (h₁ : a₁ = b₁) (h₂ : a₂ = b₂) (h₃ : a₃ = b₃) (h₄ : a₄ = b₄) (h₅ : a₅ = b₅) : f a₁ a₂ a₃ a₄ a₅ = f b₁ b₂ b₃ b₄ b₅ := by
  subst h₁ h₂ h₃ h₄ h₅; rfl

/-- The two halves of the weights. -/
def wLo (w : Vec F S2048x2048 .bf16) : Vec F S1024x2048 .bf16 := window w ![0, 0] ![1024, 2048] inb_S2048x2048_S1024x2048_0_0
def wHi (w : Vec F S2048x2048 .bf16) : Vec F S1024x2048 .bf16 := window w ![1024, 0] ![1024, 2048] inb_S2048x2048_S1024x2048_1024_0

/-- The rows with the projection added, and these normalised. -/
def hB (x : Vec F S512x2048 .f32) (a b : Vec F S512x1024 .bf16) (w : Vec F S2048x2048 .bf16) : Vec F S512x2048 .f32 := k0_pay30 x a (wLo w) b (wHi w)
def hnB (x : Vec F S512x2048 .f32) (a b : Vec F S512x1024 .bf16) (w : Vec F S2048x2048 .bf16) (g : Vec F S1x2048 .f32) : Vec F S512x2048 .f32 :=
  k0_pay1 (k0_pay30 x a (wLo w) b (wHi w)) (k0_pay31 g) (k0_pay32 x a (wLo w) b (wHi w))

theorem out_A_6 (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S512x128 .f32) (harg12 : arg12.IsWhole) (hc0 : cond0_0 i)
    (x0 : Vec F S512x2048 .f32) (x1 : Vec F S512x1024 .bf16) (x2 : Vec F S512x1024 .bf16) (x3 : Vec F S2048x2048 .bf16) (x4 : Vec F S1x2048 .f32) (x5 : Vec F S2048x128 .bf16) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5 = hB x0 x1 x2 x3 := by
  delta out0_A_6 kernelRun0_A
  dsimp only
  refine (View.read_writes_full _ _ _ _ _).trans ?_
  exact congr5 k0_pay30 ((View.readAt_full _ _ _).trans (harg1.read_unread x0)) ((View.readAt_full _ _ _).trans (harg2.read_unread x1))
    ((View.readAt_unit _ _ _ rfl inb_S2048x2048_S1024x2048_0_0).trans (congrArg wLo (harg4.read_unread x3))) ((View.readAt_full _ _ _).trans (harg3.read_unread x2))
    ((View.readAt_unit _ _ _ rfl inb_S2048x2048_S1024x2048_1024_0).trans (congrArg wHi (harg4.read_unread x3)))

theorem out_A_7 (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S512x128 .f32) (harg12 : arg12.IsWhole) (hc0 : cond0_0 i)
    (x0 : Vec F S512x2048 .f32) (x1 : Vec F S512x1024 .bf16) (x2 : Vec F S512x1024 .bf16) (x3 : Vec F S2048x2048 .bf16) (x4 : Vec F S1x2048 .f32) (x5 : Vec F S2048x128 .bf16) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 = hnB x0 x1 x2 x3 x4 := by
  delta out0_A_7 kernelRun0_A
  dsimp only
  refine (View.read_writes_full _ _ _ _ _).trans ?_
  refine congr (congr (congrArg k0_pay1 (congr5 k0_pay30 ((View.readAt_full _ _ _).trans (harg1.read_unread x0)) ((View.readAt_full _ _ _).trans (harg2.read_unread x1))
    ((View.readAt_unit _ _ _ rfl inb_S2048x2048_S1024x2048_0_0).trans (congrArg wLo (harg4.read_unread x3))) ((View.readAt_full _ _ _).trans (harg3.read_unread x2))
    ((View.readAt_unit _ _ _ rfl inb_S2048x2048_S1024x2048_1024_0).trans (congrArg wHi (harg4.read_unread x3))))) (congrArg k0_pay31 ((View.readAt_full _ _ _).trans (harg5.read_unread x4)))) (congr5 k0_pay32 ((View.readAt_full _ _ _).trans (harg1.read_unread x0)) ((View.readAt_full _ _ _).trans (harg2.read_unread x1))
    ((View.readAt_unit _ _ _ rfl inb_S2048x2048_S1024x2048_0_0).trans (congrArg wLo (harg4.read_unread x3))) ((View.readAt_full _ _ _).trans (harg3.read_unread x2))
    ((View.readAt_unit _ _ _ rfl inb_S2048x2048_S1024x2048_1024_0).trans (congrArg wHi (harg4.read_unread x3))))

theorem out_B_6 (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S512x128 .f32) (harg12 : arg12.IsWhole) (hc0 : ¬cond0_0 i)
    (x0 : Vec F S512x2048 .f32) (x1 : Vec F S512x1024 .bf16) (x2 : Vec F S512x1024 .bf16) (x3 : Vec F S2048x2048 .bf16) (x4 : Vec F S1x2048 .f32) (x5 : Vec F S2048x128 .bf16) (xs0 : Vec F S1x128 .f32) (xs1 : Vec F S512x128 .f32) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xs0 xs1 = hB x0 x1 x2 x3 := by
  delta out0_B_6 kernelRun0_B
  dsimp only
  refine (View.read_writes_full _ _ _ _ _).trans ?_
  exact congr5 k0_pay30 ((View.readAt_full _ _ _).trans (harg1.read_unread x0)) ((View.readAt_full _ _ _).trans (harg2.read_unread x1))
    ((View.readAt_unit _ _ _ rfl inb_S2048x2048_S1024x2048_0_0).trans (congrArg wLo (harg4.read_unread x3))) ((View.readAt_full _ _ _).trans (harg3.read_unread x2))
    ((View.readAt_unit _ _ _ rfl inb_S2048x2048_S1024x2048_1024_0).trans (congrArg wHi (harg4.read_unread x3)))

theorem out_B_7 (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S512x128 .f32) (harg12 : arg12.IsWhole) (hc0 : ¬cond0_0 i)
    (x0 : Vec F S512x2048 .f32) (x1 : Vec F S512x1024 .bf16) (x2 : Vec F S512x1024 .bf16) (x3 : Vec F S2048x2048 .bf16) (x4 : Vec F S1x2048 .f32) (x5 : Vec F S2048x128 .bf16) (xs0 : Vec F S1x128 .f32) (xs1 : Vec F S512x128 .f32) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 xs0 xs1 = hnB x0 x1 x2 x3 x4 := by
  delta out0_B_7 kernelRun0_B
  dsimp only
  refine (View.read_writes_full _ _ _ _ _).trans ?_
  refine congr (congr (congrArg k0_pay1 (congr5 k0_pay30 ((View.readAt_full _ _ _).trans (harg1.read_unread x0)) ((View.readAt_full _ _ _).trans (harg2.read_unread x1))
    ((View.readAt_unit _ _ _ rfl inb_S2048x2048_S1024x2048_0_0).trans (congrArg wLo (harg4.read_unread x3))) ((View.readAt_full _ _ _).trans (harg3.read_unread x2))
    ((View.readAt_unit _ _ _ rfl inb_S2048x2048_S1024x2048_1024_0).trans (congrArg wHi (harg4.read_unread x3))))) (congrArg k0_pay31 ((View.readAt_full _ _ _).trans (harg5.read_unread x4)))) (congr5 k0_pay32 ((View.readAt_full _ _ _).trans (harg1.read_unread x0)) ((View.readAt_full _ _ _).trans (harg2.read_unread x1))
    ((View.readAt_unit _ _ _ rfl inb_S2048x2048_S1024x2048_0_0).trans (congrArg wLo (harg4.read_unread x3))) ((View.readAt_full _ _ _).trans (harg3.read_unread x2))
    ((View.readAt_unit _ _ _ rfl inb_S2048x2048_S1024x2048_1024_0).trans (congrArg wHi (harg4.read_unread x3))))

variable (m : (ℓ : Loc nD τ sig) → Buf (Elt F) ℓ)

theorem at_A_6 (c : Dev nD) (t : Fin cfg0.N) (h0 : t.val % 65 = 0) : (outsAt0 m c t.val t.isLt).1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) := by
  rw [outsAt0_A m c t h0]

theorem blk_A_6 (c : Dev nD) (t : Fin cfg0.N) (h0 : t.val % 65 = 0) : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) = hB (iblk m c 0 t) (iblk m c 1 t) (iblk m c 2 t) (iblk m c 3 t) :=
  out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)

theorem at_B_6 (c : Dev nD) (t : Fin cfg0.N) (h0 : ¬t.val % 65 = 0) : (outsAt0 m c t.val t.isLt).1 = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by
  rw [outsAt0_B m c t h0]

theorem blk_B_6 (c : Dev nD) (t : Fin cfg0.N) (h0 : ¬t.val % 65 = 0) : out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 = hB (iblk m c 0 t) (iblk m c 1 t) (iblk m c 2 t) (iblk m c 3 t) :=
  out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem outs_6 (c : Dev nD) (t : Fin cfg0.N) : (outsAt0 m c t.val t.isLt).1 = hB (iblk m c 0 t) (iblk m c 1 t) (iblk m c 2 t) (iblk m c 3 t) := by
  by_cases h0 : t.val % 65 = 0
  · exact (at_A_6 m c t h0).trans (blk_A_6 m c t h0)
  · exact (at_B_6 m c t h0).trans (blk_B_6 m c t h0)

theorem at_A_7 (c : Dev nD) (t : Fin cfg0.N) (h0 : t.val % 65 = 0) : (outsAt0 m c t.val t.isLt).2.1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) := by
  rw [outsAt0_A m c t h0]

theorem blk_A_7 (c : Dev nD) (t : Fin cfg0.N) (h0 : t.val % 65 = 0) : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) = hnB (iblk m c 0 t) (iblk m c 1 t) (iblk m c 2 t) (iblk m c 3 t) (iblk m c 4 t) :=
  out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)

theorem at_B_7 (c : Dev nD) (t : Fin cfg0.N) (h0 : ¬t.val % 65 = 0) : (outsAt0 m c t.val t.isLt).2.1 = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by
  rw [outsAt0_B m c t h0]

theorem blk_B_7 (c : Dev nD) (t : Fin cfg0.N) (h0 : ¬t.val % 65 = 0) : out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 = hnB (iblk m c 0 t) (iblk m c 1 t) (iblk m c 2 t) (iblk m c 3 t) (iblk m c 4 t) :=
  out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem outs_7 (c : Dev nD) (t : Fin cfg0.N) : (outsAt0 m c t.val t.isLt).2.1 = hnB (iblk m c 0 t) (iblk m c 1 t) (iblk m c 2 t) (iblk m c 3 t) (iblk m c 4 t) := by
  by_cases h0 : t.val % 65 = 0
  · exact (at_A_7 m c t h0).trans (blk_A_7 m c t h0)
  · exact (at_B_7 m c t h0).trans (blk_B_7 m c t h0)

end Cert.Kernel4Ideal.OutProj

end
-- ==== Proof.OutProj.Spec.lean ====
/- The mathematics of the output projection: the rows with the two branches projected and added, and these normalised. -/
module

public import proofs.«01_k».proof.Proof.InProj.Spec

@[expose] public section

noncomputable section

namespace Cert.OutSpec

open Idealize.ShloMosaic

/-- The inputs: the rows, the attention's and the RG-LRU block's outputs, the weights, the gain of the next norm. -/
structure Nums where
  x : Fin 32768 → Fin 2048 → EReal
  a : Fin 32768 → Fin 1024 → EReal
  b : Fin 32768 → Fin 1024 → EReal
  w : Fin 2048 → Fin 2048 → EReal
  g : Fin 2048 → EReal

/-- The weights' rows that the attention's outputs meet, and those that the RG-LRU block's meet. -/
def lo (k : Fin 1024) : Fin 2048 := ⟨k.val, by omega⟩
def hi (k : Fin 1024) : Fin 2048 := ⟨1024 + k.val, by omega⟩

/-- The rows with the projection added. -/
def h (N : Nums) (r : Fin 32768) (n : Fin 2048) : EReal := N.x r n + ∑ k, N.a r k * N.w (lo k) n + ∑ k, N.b r k * N.w (hi k) n

/-- These rows normalised. -/
def hn (N : Nums) (r : Fin 32768) (n : Fin 2048) : EReal := h N r n * InSpec.scale (h N r) (Ideal.ofBits .f32 0x45000000#32) * N.g n

/-- A sum over both branches' columns is the sum of the branches' sums. -/
theorem sum_halves (f : Fin 2048 → EReal) : ∑ k, f k = ∑ k, f (lo k) + ∑ k, f (hi k) :=
  Fin.sum_univ_add (a := 1024) (b := 1024) f

end Cert.OutSpec

end
-- ==== Proof.OutProj.Value.lean ====
/- The output projection's first two results are its mathematics of the arguments. -/
module

public import proofs.«01_k».proof.Proof.OutProj.Step
public import proofs.«01_k».proof.Proof.OutProj.Spec
public import proofs.«01_k».proof.Proof.Rglru.Math
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel4Ideal.OutProj

open Cert.Kernel4Ideal Cert.Kernel4Ideal.Gen
open Idealize.ShloMosaic Idealize.ShloMosaic.TcCoe Idealize.ShloMosaic.Tactic Idealize.ShloMosaic.StableHlo
open Idealize.SL Idealize.SL.Sem
open Idealize.ShloMosaic.Pipeline (Dat)
open Idealize.ShloMosaic.VecWindow (window)
open Cert.KernelIdeal.Rglru (window2)

theorem pay30_at (x : Vec Ideal S512x2048 .f32) (a b : Vec Ideal S512x1024 .bf16) (u v : Vec Ideal S1024x2048 .bf16) (i : Fin 512) (n : Fin 2048) :
    k0_pay30 x a u b v (ix2 i n) = x (ix2 i n) + ∑ k : Fin 1024, HMul.hMul (α := EReal) (a (ix2 i k)) (u (ix2 k n)) + ∑ k : Fin 1024, HMul.hMul (α := EReal) (b (ix2 i k)) (v (ix2 k n)) := by
  pointwise [k0_pay30]

theorem norm_at (x : Vec Ideal S512x2048 .f32) (a b : Vec Ideal S512x1024 .bf16) (u v : Vec Ideal S1024x2048 .bf16) (g : Vec Ideal S1x2048 .f32) (i : Fin 512) (n : Fin 2048) :
    k0_pay1 (k0_pay30 x a u b v) (k0_pay31 g) (k0_pay32 x a u b v) (ix2 i n)
      = k0_pay30 x a u b v (ix2 i n) * InSpec.scale (fun k => k0_pay30 x a u b v (ix2 i k)) (Ideal.ofBits .f32 0x45000000#32) * g (ix2 0 n) := by
  unfold InSpec.scale k0_pay32
  generalize k0_pay30 x a u b v = p
  pointwise [k0_pay1, k0_pay31]

variable (m : (ℓ : Loc nD τ sig) → Buf (Elt Ideal) ℓ) (ρ : Dev nD → PrngReg)

theorem lt_N (t : Fin cfg0.N) : t.val < 65 := t.isLt

/-- The call's inputs, out of the arguments. -/
def nums (c : Dev nD) : OutSpec.Nums where
  x r k := m ((c.tc : Thread nD τ).loc main_arg0) (ix3 ⟨r.val / 16384, by omega⟩ ⟨r.val % 16384, by omega⟩ k)
  a r k := m ((c.tc : Thread nD τ).loc main_arg1) (ix3 ⟨r.val / 16384, by omega⟩ ⟨r.val % 16384, by omega⟩ k)
  b r k := m ((c.tc : Thread nD τ).loc main_arg2) (ix3 ⟨r.val / 16384, by omega⟩ ⟨r.val % 16384, by omega⟩ k)
  w k n := m ((c.tc : Thread nD τ).loc main_arg3) (ix3 0 k n)
  g k := m ((c.tc : Thread nD τ).loc main_arg4) (ix2 0 k)

theorem V_x (c : Dev nD) (r : Fin 32768) (k : Fin 2048) : V m c main_v0 (ix2 r k) = (nums m c).x r k := by
  unfold nums V
  dsimp only [List.flatten_cons, List.flatten_nil, List.cons_append, List.nil_append, List.append_nil]
  after_reads_at

theorem V_a (c : Dev nD) (r : Fin 32768) (k : Fin 1024) : V m c main_v5 (ix2 r k) = (nums m c).a r k := by
  unfold nums V
  dsimp only [List.flatten_cons, List.flatten_nil, List.cons_append, List.nil_append, List.append_nil]
  after_reads_at

theorem V_b (c : Dev nD) (r : Fin 32768) (k : Fin 1024) : V m c main_v6 (ix2 r k) = (nums m c).b r k := by
  unfold nums V
  dsimp only [List.flatten_cons, List.flatten_nil, List.cons_append, List.nil_append, List.append_nil]
  after_reads_at

theorem V_w (c : Dev nD) (k n : Fin 2048) : V m c main_v8 (ix2 k n) = (nums m c).w k n := by
  unfold nums V
  dsimp only [List.flatten_cons, List.flatten_nil, List.cons_append, List.nil_append, List.append_nil]
  after_reads_at

theorem V_g (c : Dev nD) (k : Fin 2048) : V m c main_v10 (ix2 0 k) = (nums m c).g k := by
  unfold nums V
  dsimp only [List.flatten_cons, List.flatten_nil, List.cons_append, List.nil_append, List.append_nil]
  after_reads_at

theorem idx_x : ∀ t : Fin cfg0.N, (cfg0.win 0).index t 0 = min t.val 63 ∧ (cfg0.win 0).index t 1 = 0 := by decide +kernel
theorem idx_a : ∀ t : Fin cfg0.N, (cfg0.win 1).index t 0 = min t.val 63 ∧ (cfg0.win 1).index t 1 = 0 := by decide +kernel
theorem idx_b : ∀ t : Fin cfg0.N, (cfg0.win 2).index t 0 = min t.val 63 ∧ (cfg0.win 2).index t 1 = 0 := by decide +kernel
theorem idx_w : ∀ t : Fin cfg0.N, (cfg0.win 3).index t 0 = 0 ∧ (cfg0.win 3).index t 1 = 0 := by decide +kernel
theorem idx_g : ∀ t : Fin cfg0.N, (cfg0.win 4).index t 0 = 0 ∧ (cfg0.win 4).index t 1 = 0 := by decide +kernel
theorem idx_h : ∀ t : Fin cfg0.N, (cfg0.win 6).index t 0 = min t.val 63 ∧ (cfg0.win 6).index t 1 = 0 := by decide +kernel
theorem idx_n : ∀ t : Fin cfg0.N, (cfg0.win 7).index t 0 = min t.val 63 ∧ (cfg0.win 7).index t 1 = 0 := by decide +kernel

/-- The rows of a point. -/
def rowOf (t : Fin cfg0.N) (i : Fin 512) : Fin 32768 := ⟨512 * min t.val 63 + i.val, by omega⟩

theorem iblk_x (c : Dev nD) (t : Fin cfg0.N) (i : Fin 512) (k : Fin 2048) : iblk m c 0 t (ix2 i k) = (nums m c).x (rowOf t i) k := by
  refine Eq.trans ?_ (V_x m c (rowOf t i) k)
  generalize hv : V m c main_v0 = v
  unfold rowOf
  blk_ext! [iblk, hv, idx_x t]

theorem iblk_a (c : Dev nD) (t : Fin cfg0.N) (i : Fin 512) (k : Fin 1024) : iblk m c 1 t (ix2 i k) = (nums m c).a (rowOf t i) k := by
  refine Eq.trans ?_ (V_a m c (rowOf t i) k)
  generalize hv : V m c main_v5 = v
  unfold rowOf
  blk_ext! [iblk, hv, idx_a t]

theorem iblk_b (c : Dev nD) (t : Fin cfg0.N) (i : Fin 512) (k : Fin 1024) : iblk m c 2 t (ix2 i k) = (nums m c).b (rowOf t i) k := by
  refine Eq.trans ?_ (V_b m c (rowOf t i) k)
  generalize hv : V m c main_v6 = v
  unfold rowOf
  blk_ext! [iblk, hv, idx_b t]

theorem iblk_w (c : Dev nD) (t : Fin cfg0.N) (k n : Fin 2048) : iblk m c 3 t (ix2 k n) = (nums m c).w k n := by
  refine Eq.trans ?_ (V_w m c k n)
  generalize hv : V m c main_v8 = v
  blk_ext! [iblk, hv, idx_w t]

theorem iblk_g (c : Dev nD) (t : Fin cfg0.N) (k : Fin 2048) : iblk m c 4 t (ix2 0 k) = (nums m c).g k := by
  refine Eq.trans ?_ (V_g m c k)
  generalize hv : V m c main_v10 = v
  blk_ext! [iblk, hv, idx_g t]

theorem wLo_at (c : Dev nD) (t : Fin cfg0.N) (k : Fin 1024) (n : Fin 2048) : wLo (F := Ideal) (iblk m c 3 t) (ix2 k n) = (nums m c).w (OutSpec.lo k) n :=
  (window2 (iblk m c 3 t) 0 0 1024 2048 _ k n (OutSpec.lo k) n (by simp [OutSpec.lo]) (by simp)).trans (iblk_w m c t _ n)

theorem wHi_at (c : Dev nD) (t : Fin cfg0.N) (k : Fin 1024) (n : Fin 2048) : wHi (F := Ideal) (iblk m c 3 t) (ix2 k n) = (nums m c).w (OutSpec.hi k) n :=
  (window2 (iblk m c 3 t) 1024 0 1024 2048 _ k n (OutSpec.hi k) n rfl (by simp)).trans (iblk_w m c t _ n)

theorem row_at (c : Dev nD) (t : Fin cfg0.N) (i : Fin 512) (n : Fin 2048) :
    k0_pay30 (F := Ideal) (iblk m c 0 t) (iblk m c 1 t) (wLo (iblk m c 3 t)) (iblk m c 2 t) (wHi (iblk m c 3 t)) (ix2 i n) = OutSpec.h (nums m c) (rowOf t i) n :=
  (pay30_at _ _ _ _ _ i n).trans (congrArg₂ (· + ·) (congrArg₂ (· + ·) (iblk_x m c t i n)
    (Finset.sum_congr rfl fun k _ => congrArg₂ (· * ·) (iblk_a m c t i k) (wLo_at m c t k n)))
    (Finset.sum_congr rfl fun k _ => congrArg₂ (· * ·) (iblk_b m c t i k) (wHi_at m c t k n)))

theorem out6_at (c : Dev nD) (t : Fin cfg0.N) (i : Fin 512) (n : Fin 2048) : (outsAt0 m c t.val t.isLt).1 (ix2 i n) = OutSpec.h (nums m c) (rowOf t i) n :=
  (congrFun (outs_6 m c t) (ix2 i n)).trans (row_at m c t i n)

theorem out7_at (c : Dev nD) (t : Fin cfg0.N) (i : Fin 512) (n : Fin 2048) : (outsAt0 m c t.val t.isLt).2.1 (ix2 i n) = OutSpec.hn (nums m c) (rowOf t i) n := by
  refine (congrFun (outs_7 m c t) (ix2 i n)).trans ((norm_at _ _ _ _ _ _ i n).trans ?_)
  unfold OutSpec.hn
  rw [row_at m c t i n, funext (row_at m c t i), iblk_g m c t n]

/-- The results. -/
def result (c : Dev nD) : Vec Ideal S32768x2048 .f32 := fun y => OutSpec.h (nums m c) (y 0) (y 1)
def resultN (c : Dev nD) : Vec Ideal S32768x2048 .f32 := fun y => OutSpec.hn (nums m c) (y 0) (y 1)

theorem arr_h (c : Dev nD) : (dats m 0 c).arrAt 6 (cfgs 0).N = result m c := by
  refine (dats m 0 c).arrAt_eq_of_covers 6 _ (by decide +kernel) fun t hf y => ?_
  have hi := idx_h t
  have ho (y : S512x2048.Idx) : (outsAt0 m c t.val t.isLt).1 y = OutSpec.h (nums m c) (rowOf t (y 0)) (y 1) :=
    (congrArg _ (ix2_eta y).symm).trans (out6_at m c t (y 0) (y 1))
  show (outsAt0 m c t.val t.isLt).1 y = result m c _
  refine (ho y).trans ?_
  unfold result
  refine congr (congrArg (OutSpec.h (nums m c)) (Fin.ext ?_)) (Fin.ext ?_) <;> simp only [rowOf] <;> blk_simp [hi] <;> omega

theorem arr_n (c : Dev nD) : (dats m 0 c).arrAt 7 (cfgs 0).N = resultN m c := by
  refine (dats m 0 c).arrAt_eq_of_covers 7 _ (by decide +kernel) fun t hf y => ?_
  have hi := idx_n t
  have ho (y : S512x2048.Idx) : (outsAt0 m c t.val t.isLt).2.1 y = OutSpec.hn (nums m c) (rowOf t (y 0)) (y 1) :=
    (congrArg _ (ix2_eta y).symm).trans (out7_at m c t (y 0) (y 1))
  show (outsAt0 m c t.val t.isLt).2.1 y = resultN m c _
  refine (ho y).trans ?_
  unfold resultN
  refine congr (congrArg (OutSpec.hn (nums m c)) (Fin.ext ?_)) (Fin.ext ?_) <;> simp only [rowOf] <;> blk_simp [hi] <;> omega

/-- What a run of the kernel leaves. -/
theorem run_value : θ_run defs (onTc (τ := τ) (main (F := Ideal))) ⟨m, fun _ => 0, ρ⟩ (fun r => (∀ c : Dev nD,
      r.2.mem ((c.tc : Thread nD τ).loc main_v12_0) = result m c
      ∧ r.2.mem ((c.tc : Thread nD τ).loc main_v12_1) = resultN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(Pipeline.FramePost.out_eq h.1 c 6).trans (arr_h m c), (Pipeline.FramePost.out_eq h.1 c 7).trans (arr_n m c),
      (Pipeline.FramePost.rest_eq h.1 c main_arg0 (Pipeline.mem_restRefs_of main_arg0 (by decide) (by decide))).trans (V_main_arg0 m c),
      (Pipeline.FramePost.rest_eq h.1 c main_arg1 (Pipeline.mem_restRefs_of main_arg1 (by decide) (by decide))).trans (V_main_arg1 m c),
      (Pipeline.FramePost.rest_eq h.1 c main_arg2 (Pipeline.mem_restRefs_of main_arg2 (by decide) (by decide))).trans (V_main_arg2 m c),
      (Pipeline.FramePost.rest_eq h.1 c main_arg3 (Pipeline.mem_restRefs_of main_arg3 (by decide) (by decide))).trans (V_main_arg3 m c),
      (Pipeline.FramePost.rest_eq h.1 c main_arg4 (Pipeline.mem_restRefs_of main_arg4 (by decide) (by decide))).trans (V_main_arg4 m c),
      (Pipeline.FramePost.rest_eq h.1 c main_arg5 (Pipeline.mem_restRefs_of main_arg5 (by decide) (by decide))).trans (V_main_arg5 m c),
      (Pipeline.FramePost.rest_eq h.1 c main_arg6 (Pipeline.mem_restRefs_of main_arg6 (by decide) (by decide))).trans (V_main_arg6 m c)⟩, h.2⟩)
    (run_main_quiescent m ρ)

end Cert.Kernel4Ideal.OutProj

end
-- ==== Proof.OutProj.Same.lean ====
/- The output projection as printed for bits is the kernel as printed for extended reals, text for text. -/
module

public import proofs.«01_k».proof.Defs
public import proofs.«01_k».proof.Proof.Gen.Kernel4
public import proofs.«01_k».proof.Proof.Gen.Kernel4Ideal

@[expose] public section

set_option maxRecDepth 100000

noncomputable section

namespace Cert.Same4

open Idealize.ShloMosaic Idealize.SL.Sem

variable [Cert.Kernel4.Facts] [Cert.Kernel4Ideal.Facts]
variable {F : FTy → Type} [FloatOps F]

theorem body_eq : @Cert.Kernel4.cc0_out_proj F _ _ = @Cert.Kernel4Ideal.cc0_out_proj F _ _ := rfl

theorem table_eq : Cert.Kernel4.defs₀ (F := F) = Cert.Kernel4Ideal.defs₀ := by
  unfold Cert.Kernel4.defs₀ Cert.Kernel4Ideal.defs₀
  refine congrArg (Defs.onTc (Λ := Cert.Kernel4Ideal.Λ₀)) ?_
  funext ℓ a
  match ℓ, a with
  | 0, (t, s) => dsimp only; rw [body_eq]; rfl

theorem defs_eq : Cert.Kernel4.defs (F := F) = Cert.Kernel4Ideal.defs :=
  congrArg (Pipeline.defs Cert.Kernel4Ideal.pcfgs) table_eq

theorem main_eq : @Cert.Kernel4.main F _ _ = @Cert.Kernel4Ideal.main F _ _ := rfl

end Cert.Same4

end
-- ==== Proof.Ref4.Value.lean ====
/- The output projection's reference's results are its mathematics of its arguments. -/
module

public import proofs.«01_k».proof.Proof.Gen.Reference4Ideal.Run
public import proofs.«01_k».proof.Proof.OutProj.Spec
public import Idealize.ShloMosaic.Lib.Pointwise
public import Idealize.ShloMosaic.Lib.Quiescent

@[expose] public section

set_option maxRecDepth 16384

noncomputable section

open Idealize.ShloMosaic Idealize.ShloMosaic.StableHlo
open Idealize.ShloMosaic.TcCoe Idealize.ShloMosaic.Tactic
open Idealize.SL Idealize.SL.Sem

namespace Cert.Reference4Ideal.Ref

open Cert.Reference4Ideal Cert.Reference4Ideal.Gen Cert.Reference4Ideal.Value

variable {F : FTy → Type} [FloatOps F]

/-- The two branches side by side. -/
def both (a b : FVec F S2x16384x1024 .bf16) : FVec F S2x16384x2048 .f32 :=
  concatenate S2x16384x2048 2 [⟨S2x16384x1024, (extf .f32 a bitsLt_bf16_f32 : FVec F S2x16384x1024 .f32)⟩, ⟨S2x16384x1024, (extf .f32 b bitsLt_bf16_f32 : FVec F S2x16384x1024 .f32)⟩]
    concatenates_S2x16384x1024_S2x16384x1024_S2x16384x2048_d2

/-- The rows with the branches' projection added. -/
def added (x y : FVec F S2x16384x2048 .f32) (w : FVec F S1x2048x2048 .f32) : FVec F S2x16384x2048 .f32 :=
  addf x (Host.dotGeneral dot_S2x16384x2048_S2048x2048_S2x16384x2048_2_0_01_1_n_n none y (shapeCast _ w shapeCasts_S1x2048x2048_S2048x2048))

/-- The rows normalised. -/
def rows (x : FVec F S2x16384x2048 .f32) (g : FVec F S1x2048 .f32) : FVec F S2x16384x2048 .f32 :=
  mulf (mulf x (broadcastInDim S2x16384x2048 ![0, 1, 2] bcast_S2x16384x1_S2x16384x2048_0_1_2 (Host.rsqrt (addf (Host.divf (broadcastInDim S2x16384x1 ![0, 1] bcast_S2x16384_S2x16384x1_0_1
    (Host.reduceAdd (mulf x x) (constant S_ .f32 0x00000000#32) reducesTo_S2x16384x2048_S2x16384_d2 h_S_)) (broadcastInDim S2x16384x1 ![] bcast_S_S2x16384x1 (constant S_ .f32 0x45000000#32)))
    (broadcastInDim S2x16384x1 ![] bcast_S_S2x16384x1 (constant S_ .f32 0x358637BD#32))))))
    (broadcastInDim S2x16384x2048 ![0, 1, 2] bcast_S1x1x2048_S2x16384x2048_0_1_2 (broadcastInDim S1x1x2048 ![2] bcast_S2048_S1x1x2048_2 (shapeCast _ g shapeCasts_S1x2048_S2048)))

/-- The batches' rows in one axis. -/
def flat (y : FVec F S2x16384x2048 .f32) : FVec F S32768x2048 .f32 := shapeCast _ y shapeCasts_S2x16384x2048_S32768x2048

section Main

variable (m : (ℓ : Loc nD τ sig) → Buf (Elt F) ℓ) (ρ : Dev nD → PrngReg)

/-- The two results. -/
def H (c : Dev nD) : FVec F S2x16384x2048 .f32 :=
  added (m ((c.tc : Thread nD τ).loc main_arg0)) (both (m ((c.tc : Thread nD τ).loc main_arg1)) (m ((c.tc : Thread nD τ).loc main_arg2))) (m ((c.tc : Thread nD τ).loc main_arg3))
def res0 (c : Dev nD) : FVec F S32768x2048 .f32 := flat (H m c)
def res1 (c : Dev nD) : FVec F S32768x2048 .f32 := flat (rows (H m c) (m ((c.tc : Thread nD τ).loc main_arg4)))

/-- The run: the two results, the arguments unchanged, every counter at zero. -/
theorem run_main : θ_run (defs (F := F)) (onTc (τ := τ) (main (F := F))) ⟨m, fun _ => 0, ρ⟩ (fun r => (∀ c : Dev nD,
      r.2.mem ((c.tc : Thread nD τ).loc main_v20) = res0 m c
      ∧ r.2.mem ((c.tc : Thread nD τ).loc main_v21) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run (defs (F := F)) _ _).mono (fun r h => ⟨fun c =>
    ⟨(h c).1.trans rfl, (h c).2.1.trans rfl, (h c).2.2⟩, sem_eq_zero_of_no_sems (by decide) r.2⟩)
    (run m ρ)

end Main

/-- The arguments' buffers hold `N`. -/
structure Holds (N : OutSpec.Nums) (x : FVec Ideal S2x16384x2048 .f32) (a b : FVec Ideal S2x16384x1024 .bf16) (w : FVec Ideal S1x2048x2048 .f32) (g : FVec Ideal S1x2048 .f32) : Prop where
  x : ∀ (r : Fin 32768) (k : Fin 2048), x (ix3 ⟨r.val / 16384, by omega⟩ ⟨r.val % 16384, by omega⟩ k) = N.x r k
  a : ∀ (r : Fin 32768) (k : Fin 1024), a (ix3 ⟨r.val / 16384, by omega⟩ ⟨r.val % 16384, by omega⟩ k) = N.a r k
  b : ∀ (r : Fin 32768) (k : Fin 1024), b (ix3 ⟨r.val / 16384, by omega⟩ ⟨r.val % 16384, by omega⟩ k) = N.b r k
  w : ∀ k n : Fin 2048, w (ix3 0 k n) = N.w k n
  g : ∀ k : Fin 2048, g (ix2 0 k) = N.g k

theorem both_at (a b : FVec Ideal S2x16384x1024 .bf16) (p : Fin 2) (q : Fin 16384) (k : Fin 2048) :
    both a b (ix3 p q k) = if h : k.val < 1024 then a (ix3 p q ⟨k.val, h⟩) else b (ix3 p q ⟨k.val - 1024, by omega⟩) := by
  pointwise [both]

theorem added_at (x y : FVec Ideal S2x16384x2048 .f32) (w : FVec Ideal S1x2048x2048 .f32) (p : Fin 2) (q : Fin 16384) (n : Fin 2048) :
    added x y w (ix3 p q n) = x (ix3 p q n) + ∑ k : Fin 2048, HMul.hMul (α := EReal) (y (ix3 p q k)) (w (ix3 0 k n)) := by
  pointwise [added]

theorem rows_at (x : FVec Ideal S2x16384x2048 .f32) (g : FVec Ideal S1x2048 .f32) (a : Fin 2) (b : Fin 16384) (k : Fin 2048) :
    rows x g (ix3 a b k) = x (ix3 a b k) * InSpec.scale (fun k => x (ix3 a b k)) (Ideal.ofBits .f32 0x45000000#32) * g (ix2 0 k) := by
  unfold InSpec.scale
  pointwise [rows]

theorem flat_at (y : FVec Ideal S2x16384x2048 .f32) (r : Fin 32768) (n : Fin 2048) :
    flat y (ix2 r n) = y (ix3 ⟨r.val / 16384, by omega⟩ ⟨r.val % 16384, by omega⟩ n) := by
  pointwise [flat]

section Ideal

variable {N : OutSpec.Nums} {x : FVec Ideal S2x16384x2048 .f32} {a b : FVec Ideal S2x16384x1024 .bf16} {w : FVec Ideal S1x2048x2048 .f32} {g : FVec Ideal S1x2048 .f32}

theorem both_lo (a b : FVec Ideal S2x16384x1024 .bf16) (p : Fin 2) (q : Fin 16384) (k : Fin 1024) : both a b (ix3 p q (OutSpec.lo k)) = a (ix3 p q k) :=
  (both_at a b p q _).trans (dif_pos k.isLt)

theorem both_hi (a b : FVec Ideal S2x16384x1024 .bf16) (p : Fin 2) (q : Fin 16384) (k : Fin 1024) : both a b (ix3 p q (OutSpec.hi k)) = b (ix3 p q k) :=
  (both_at a b p q _).trans ((dif_neg (show ¬ 1024 + k.val < 1024 by omega)).trans
    (congrArg (fun k => b (ix3 p q k)) (Fin.ext (show 1024 + k.val - 1024 = k.val by omega))))

theorem h_at (hN : Holds N x a b w g) (r : Fin 32768) (n : Fin 2048) :
    added x (both a b) w (ix3 ⟨r.val / 16384, by omega⟩ ⟨r.val % 16384, by omega⟩ n) = OutSpec.h N r n := by
  refine (added_at x (both a b) w _ _ n).trans ?_
  unfold OutSpec.h
  refine Eq.trans (congrArg₂ (· + ·) (hN.x r n) (OutSpec.sum_halves _)) ?_
  rw [← add_assoc]
  refine congrArg₂ (· + ·) (congrArg₂ (· + ·) rfl (Finset.sum_congr rfl fun k _ => congrArg₂ (· * ·) ?_ (hN.w _ n))) (Finset.sum_congr rfl fun k _ => congrArg₂ (· * ·) ?_ (hN.w _ n))
  · exact (both_lo a b _ _ k).trans (hN.a r k)
  · exact (both_hi a b _ _ k).trans (hN.b r k)

theorem res0_val (hN : Holds N x a b w g) (r : Fin 32768) (n : Fin 2048) : flat (added x (both a b) w) (ix2 r n) = OutSpec.h N r n :=
  (flat_at _ r n).trans (h_at hN r n)

theorem res1_val (hN : Holds N x a b w g) (r : Fin 32768) (n : Fin 2048) : flat (rows (added x (both a b) w) g) (ix2 r n) = OutSpec.hn N r n := by
  refine (flat_at _ r n).trans ((rows_at _ g _ _ n).trans ?_)
  unfold OutSpec.hn
  rw [h_at hN r n, hN.g n, funext (h_at hN r)]

end Ideal

end Cert.Reference4Ideal.Ref

end
-- ==== Proof.Forget.Step.lean ====
/- What a point of the forget gate's grid leaves in its result and in the sum it carries, as a function of its blocks and of the sum carried to it. -/
module

public import proofs.«01_k».proof.Proof.Gen.Kernel5Ideal.Frame
public import Idealize.ShloMosaic.Lib.VecWindow

@[expose] public section

set_option maxRecDepth 16384

noncomputable section

namespace Cert.Kernel5Ideal.Forget

open Cert.Kernel5Ideal Cert.Kernel5Ideal.Gen
open Idealize.ShloMosaic Idealize.ShloMosaic.TcCoe Idealize.ShloMosaic.Tactic
open Idealize.SL Idealize.SL.Sem

variable {F : FTy → Type} [FloatOps F]

theorem congr3 {α₁ α₂ α₃ β : Type} (f : α₁ → α₂ → α₃ → β) {a₁ b₁ : α₁} {a₂ b₂ : α₂} {a₃ b₃ : α₃} (h₁ : a₁ = b₁) (h₂ : a₂ = b₂) (h₃ : a₃ = b₃) : f a₁ a₂ a₃ = f b₁ b₂ b₃ := by
  subst h₁ h₂ h₃; rfl

/-- The block of the result, and the sum carried on, from the block of logits, the biases and the sum carried in. -/
def outB (x : Vec F S1x512x128 .f32) (b : Vec F S1x128 .f32) (s : Vec F S1x128 .f32) : Vec F S1x1x8x512 .f32 := k0_pay1 (k0_pay5 x b s)
def nextB (x : Vec F S1x512x128 .f32) (b : Vec F S1x128 .f32) (s : Vec F S1x128 .f32) : Vec F S1x128 .f32 := k0_pay2 (k0_pay4 x b s)

theorem out_A (c : Dev nD) (i : grid0.Coords) (arg2 : Memref sig .tc .vmem S1x512x128 .f32) (harg2 : arg2.IsWhole) (arg3 : Memref sig .tc .vmem S1x128 .f32) (harg3 : arg3.IsWhole) (arg4 : Memref sig .tc .vmem S1x1x8x512 .f32) (harg4 : arg4.IsWhole) (arg5 : Memref sig .tc .vmem S1x128 .f32) (harg5 : arg5.IsWhole) (hc0 : cond0_0 i)
    (x0 : Vec F S1x512x128 .f32) (x1 : Vec F S1x128 .f32) :
    out0_A_2 c i arg2 harg2 arg3 harg3 arg4 harg4 arg5 harg5 hc0 x0 x1 = outB x0 x1 k0_pay3 := by
  delta out0_A_2 kernelRun0_A
  dsimp only
  refine (View.read_writes_full _ _ _ _ _).trans ?_
  exact congrArg k0_pay1 (congr3 k0_pay5 ((View.readAt_full _ _ _).trans (harg2.read_unread x0)) ((View.readAt_full _ _ _).trans (harg3.read_unread x1))
    ((View.readAt_full _ _ _).trans (View.read_writes_full _ _ _ _ _)))

theorem sout_A (c : Dev nD) (i : grid0.Coords) (arg2 : Memref sig .tc .vmem S1x512x128 .f32) (harg2 : arg2.IsWhole) (arg3 : Memref sig .tc .vmem S1x128 .f32) (harg3 : arg3.IsWhole) (arg4 : Memref sig .tc .vmem S1x1x8x512 .f32) (harg4 : arg4.IsWhole) (arg5 : Memref sig .tc .vmem S1x128 .f32) (harg5 : arg5.IsWhole) (hc0 : cond0_0 i)
    (x0 : Vec F S1x512x128 .f32) (x1 : Vec F S1x128 .f32) :
    sout0_A_0 c i arg2 harg2 arg3 harg3 arg4 harg4 arg5 harg5 hc0 x0 x1 = nextB x0 x1 k0_pay3 := by
  delta sout0_A_0 kernelRun0_A
  dsimp only
  refine (View.read_writes_full _ _ _ _ _).trans ?_
  exact congrArg k0_pay2 (congr3 k0_pay4 ((View.readAt_full _ _ _).trans (harg2.read_unread x0)) ((View.readAt_full _ _ _).trans (harg3.read_unread x1))
    ((View.readAt_full _ _ _).trans (View.read_writes_full _ _ _ _ _)))

theorem out_B (c : Dev nD) (i : grid0.Coords) (arg2 : Memref sig .tc .vmem S1x512x128 .f32) (harg2 : arg2.IsWhole) (arg3 : Memref sig .tc .vmem S1x128 .f32) (harg3 : arg3.IsWhole) (arg4 : Memref sig .tc .vmem S1x1x8x512 .f32) (harg4 : arg4.IsWhole) (arg5 : Memref sig .tc .vmem S1x128 .f32) (harg5 : arg5.IsWhole) (hc0 : ¬cond0_0 i)
    (x0 : Vec F S1x512x128 .f32) (x1 : Vec F S1x128 .f32) (xs0 : Vec F S1x128 .f32) :
    out0_B_2 c i arg2 harg2 arg3 harg3 arg4 harg4 arg5 harg5 hc0 x0 x1 xs0 = outB x0 x1 xs0 := by
  delta out0_B_2 kernelRun0_B
  dsimp only
  refine (View.read_writes_full _ _ _ _ _).trans ?_
  exact congrArg k0_pay1 (congr3 k0_pay5 ((View.readAt_full _ _ _).trans (harg2.read_unread x0)) ((View.readAt_full _ _ _).trans (harg3.read_unread x1))
    ((View.readAt_full _ _ _).trans (harg5.read_unread xs0)))

theorem sout_B (c : Dev nD) (i : grid0.Coords) (arg2 : Memref sig .tc .vmem S1x512x128 .f32) (harg2 : arg2.IsWhole) (arg3 : Memref sig .tc .vmem S1x128 .f32) (harg3 : arg3.IsWhole) (arg4 : Memref sig .tc .vmem S1x1x8x512 .f32) (harg4 : arg4.IsWhole) (arg5 : Memref sig .tc .vmem S1x128 .f32) (harg5 : arg5.IsWhole) (hc0 : ¬cond0_0 i)
    (x0 : Vec F S1x512x128 .f32) (x1 : Vec F S1x128 .f32) (xs0 : Vec F S1x128 .f32) :
    sout0_B_0 c i arg2 harg2 arg3 harg3 arg4 harg4 arg5 harg5 hc0 x0 x1 xs0 = nextB x0 x1 xs0 := by
  delta sout0_B_0 kernelRun0_B
  dsimp only
  refine (View.read_writes_full _ _ _ _ _).trans ?_
  exact congrArg k0_pay2 (congr3 k0_pay4 ((View.readAt_full _ _ _).trans (harg2.read_unread x0)) ((View.readAt_full _ _ _).trans (harg3.read_unread x1))
    ((View.readAt_full _ _ _).trans (harg5.read_unread xs0)))

variable (m : (ℓ : Loc nD τ sig) → Buf (Elt F) ℓ)

theorem at_out_A (c : Dev nD) (t : Fin cfg0.N) (h0 : t.val % 32 = 0) : (outsAt0 m c t.val t.isLt).1 = out0_A_2 c (grid0.coords t) (ms0_0 t) (hs0_0 t) (ms0_1 t) (hs0_1 t) (ms0_2 t) (hs0_2 t) scM0_0 (Memref.isWhole_whole _) ((hcond0_0 t).mpr h0) (iblk m c 0 t) (iblk m c 1 t) := by
  rw [outsAt0_A m c t h0]

/-- At the first point of a batch. -/
theorem out_at_A (c : Dev nD) (t : Fin cfg0.N) (h0 : t.val % 32 = 0) : (outsAt0 m c t.val t.isLt).1 = outB (iblk m c 0 t) (iblk m c 1 t) k0_pay3 :=
  (at_out_A m c t h0).trans (out_A c (grid0.coords t) (ms0_0 t) (hs0_0 t) (ms0_1 t) (hs0_1 t) (ms0_2 t) (hs0_2 t) scM0_0 (Memref.isWhole_whole _) ((hcond0_0 t).mpr h0) (iblk m c 0 t) (iblk m c 1 t))

theorem at_sout_A (c : Dev nD) (t : Fin cfg0.N) (h0 : t.val % 32 = 0) : (outsAt0 m c t.val t.isLt).2 = sout0_A_0 c (grid0.coords t) (ms0_0 t) (hs0_0 t) (ms0_1 t) (hs0_1 t) (ms0_2 t) (hs0_2 t) scM0_0 (Memref.isWhole_whole _) ((hcond0_0 t).mpr h0) (iblk m c 0 t) (iblk m c 1 t) := by
  rw [outsAt0_A m c t h0]

/-- At the first point of a batch. -/
theorem sout_at_A (c : Dev nD) (t : Fin cfg0.N) (h0 : t.val % 32 = 0) : (outsAt0 m c t.val t.isLt).2 = nextB (iblk m c 0 t) (iblk m c 1 t) k0_pay3 :=
  (at_sout_A m c t h0).trans (sout_A c (grid0.coords t) (ms0_0 t) (hs0_0 t) (ms0_1 t) (hs0_1 t) (ms0_2 t) (hs0_2 t) scM0_0 (Memref.isWhole_whole _) ((hcond0_0 t).mpr h0) (iblk m c 0 t) (iblk m c 1 t))

theorem at_out_B (c : Dev nD) (t : Fin cfg0.N) (h0 : ¬t.val % 32 = 0) : (outsAt0 m c t.val t.isLt).1 = out0_B_2 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) (outsAt0 m c (t.val - 1) (Nat.lt_of_le_of_lt (Nat.sub_le _ _) t.isLt)).2 := by
  rw [outsAt0_B m c t h0]

/-- At a later point of a batch. -/
theorem out_at_B (c : Dev nD) (t : Fin cfg0.N) (h0 : ¬t.val % 32 = 0) : (outsAt0 m c t.val t.isLt).1 = outB (iblk m c 0 t) (iblk m c 1 t) (outsAt0 m c (t.val - 1) (Nat.lt_of_le_of_lt (Nat.sub_le _ _) t.isLt)).2 :=
  (at_out_B m c t h0).trans (out_B c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) (outsAt0 m c (t.val - 1) (Nat.lt_of_le_of_lt (Nat.sub_le _ _) t.isLt)).2)

theorem at_sout_B (c : Dev nD) (t : Fin cfg0.N) (h0 : ¬t.val % 32 = 0) : (outsAt0 m c t.val t.isLt).2 = sout0_B_0 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) (outsAt0 m c (t.val - 1) (Nat.lt_of_le_of_lt (Nat.sub_le _ _) t.isLt)).2 := by
  rw [outsAt0_B m c t h0]

/-- At a later point of a batch. -/
theorem sout_at_B (c : Dev nD) (t : Fin cfg0.N) (h0 : ¬t.val % 32 = 0) : (outsAt0 m c t.val t.isLt).2 = nextB (iblk m c 0 t) (iblk m c 1 t) (outsAt0 m c (t.val - 1) (Nat.lt_of_le_of_lt (Nat.sub_le _ _) t.isLt)).2 :=
  (at_sout_B m c t h0).trans (sout_B c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) (outsAt0 m c (t.val - 1) (Nat.lt_of_le_of_lt (Nat.sub_le _ _) t.isLt)).2)

end Cert.Kernel5Ideal.Forget

end
-- ==== Proof.Forget.Spec.lean ====
/- The mathematics of the forget gate: the logarithm of the gate, and its running sum along each row of the batch. -/
module

public import Idealize.ShloMosaic.Lib.Pointwise

@[expose] public section

noncomputable section

namespace Cert.ForgetSpec

open Idealize.ShloMosaic

/-- The inputs: the gate's logits by batch, row and head, and the heads' biases. -/
structure Nums where
  f : Fin 2 → ℕ → Fin 8 → EReal
  b : Fin 8 → EReal

/-- The logarithm of the sigmoid of a number. -/
def logSig (v : EReal) : EReal := 0 - (max (0 - v) 0 + Ideal.log1p (Ideal.exp (0 - FloatOps.absf (F := Ideal) (φ := .f32) (0 - v))))

/-- The logarithm of the gate. -/
def gate (N : Nums) (p : Fin 2) (h : Fin 8) (r : ℕ) : EReal := logSig (N.f p r h + N.b h)

/-- The sum of its first `n` rows. -/
def cum (N : Nums) (p : Fin 2) (h : Fin 8) (n : ℕ) : EReal := ∑ r ∈ Finset.range n, gate N p h r

/-- A block's rows up to one of them, picked by a triangle of ones and added to the sum of the rows before the block, give the sum up to that row. -/
theorem tri_step (g : ℕ → EReal) (a : ℕ) (r : Fin 512) :
    (∑ k : Fin 512, (if k.val ≤ r.val then 1 else 0) * g (a + k.val)) + ∑ i ∈ Finset.range a, g i = ∑ i ∈ Finset.range (a + (r.val + 1)), g i := by
  rw [Finset.sum_range_add, add_comm]
  congr 1
  rw [Finset.sum_congr rfl (fun (k : Fin 512) _ => (show (if k.val ≤ r.val then (1 : EReal) else 0) * g (a + k.val) = (fun n : ℕ => if n ≤ r.val then g (a + n) else 0) k.val by
    dsimp only; split <;> simp)), Fin.sum_univ_eq_sum_range (fun n : ℕ => if n ≤ r.val then g (a + n) else 0) 512, ← Finset.sum_filter]
  refine Finset.sum_congr (Finset.ext fun n => ?_) fun _ _ => rfl
  rw [Finset.mem_filter, Finset.mem_range, Finset.mem_range]
  have := r.isLt
  omega

end Cert.ForgetSpec

end
-- ==== Proof.Forget.Value.lean ====
/- The forget gate's running sum is its mathematics of the arguments. -/
module

public import proofs.«01_k».proof.Proof.Forget.Step
public import proofs.«01_k».proof.Proof.Forget.Spec
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel5Ideal.Forget

open Cert.Kernel5Ideal Cert.Kernel5Ideal.Gen
open Idealize.ShloMosaic Idealize.ShloMosaic.TcCoe Idealize.ShloMosaic.Tactic Idealize.ShloMosaic.StableHlo
open Idealize.SL Idealize.SL.Sem
open Idealize.ShloMosaic.Pipeline (Dat)

/-- The triangle's entries. -/
theorem tri_at (r k : Fin 512) :
    (FloatOps.sitofp (F := Ideal) FTy.f32 ((IntOp.cmpi .sge (BitVec.ofNat 32 r.val) (BitVec.ofNat 32 k.val)).setWidth 32) : EReal) = if k.val ≤ r.val then 1 else 0 := by
  have h : IntOp.cmpi .sge (BitVec.ofNat 32 r.val) (BitVec.ofNat 32 k.val) = BitVec.ofBool (decide (k.val ≤ r.val)) := by
    show BitVec.ofBool ((BitVec.ofNat 32 k.val).sle (BitVec.ofNat 32 r.val)) = _
    congr 1
    have h1 : (BitVec.ofNat 32 r.val).toNat = r.val := by rw [BitVec.toNat_ofNat]; omega
    have h2 : (BitVec.ofNat 32 k.val).toNat = k.val := by rw [BitVec.toNat_ofNat]; omega
    rw [Bool.eq_iff_iff]
    simp only [BitVec.sle, decide_eq_true_eq, BitVec.toInt, h1, h2]
    omega
  rw [h]
  by_cases hk : k.val ≤ r.val
  · rw [if_pos hk, decide_eq_true hk]
    show ((((BitVec.ofBool true).setWidth 32).toInt : ℝ) : EReal) = 1
    simp
  · rw [if_neg hk, decide_eq_false hk]
    show ((((BitVec.ofBool false).setWidth 32).toInt : ℝ) : EReal) = 0
    simp

theorem pay4_at (x : Vec Ideal S1x512x128 .f32) (b s : Vec Ideal S1x128 .f32) (r : Fin 512) (l : Fin 128) :
    k0_pay4 x b s (ix2 r l) = (∑ k : Fin 512, HMul.hMul (α := EReal) (if k.val ≤ r.val then 1 else 0) (ForgetSpec.logSig (x (ix3 0 k l) + b (ix2 0 l)))) + s (ix2 0 l) := by
  simp only [← tri_at]
  unfold ForgetSpec.logSig
  pointwise [k0_pay4]
  simp only [ne_eq, not_true_eq_false, if_false]

theorem pay2_at (v : FVec Ideal S512x128 .f32) (l : Fin 128) : k0_pay2 v (ix2 0 l) = v (ix2 511 l) := by
  pointwise [k0_pay2]

theorem pay3_at (l : Fin 128) : k0_pay3 (F := Ideal) (ix2 0 l) = 0 := by
  pointwise [k0_pay3]

/-- The lane of a head. -/
def lane (h : Fin 8) : Fin 128 := ⟨h.val, by omega⟩

theorem outB_at (x : Vec Ideal S1x512x128 .f32) (b s : Vec Ideal S1x128 .f32) (h : Fin 8) (r : Fin 512) :
    outB x b s (ix4 0 0 h r) = k0_pay4 x b s (ix2 r (lane h)) := by
  unfold outB k0_pay5 lane
  generalize k0_pay4 x b s = v
  pointwise [k0_pay1]

variable (m : (ℓ : Loc nD τ sig) → Buf (Elt Ideal) ℓ) (ρ : Dev nD → PrngReg)

theorem lt_N (t : Fin cfg0.N) : t.val < 64 := t.isLt

/-- The call's inputs, out of the arguments. -/
def nums (c : Dev nD) : ForgetSpec.Nums where
  f p r h := if hr : r < 16384 then m ((c.tc : Thread nD τ).loc main_arg0) (ix2 ⟨p.val * 16384 + r, by omega⟩ (lane h)) else 0
  b h := m ((c.tc : Thread nD τ).loc main_arg1) (ix2 0 h)

/-- A logit of a row there is. -/
theorem nums_f (c : Dev nD) (p : Fin 2) (r : Fin 16384) (h : Fin 8) :
    (nums m c).f p r.val h = m ((c.tc : Thread nD τ).loc main_arg0) (ix2 ⟨p.val * 16384 + r.val, by omega⟩ (lane h)) :=
  dif_pos r.isLt

theorem V_f (c : Dev nD) (p : Fin 2) (r : Fin 16384) (l : Fin 128) :
    V m c main_v3 (ix3 p r l) = m ((c.tc : Thread nD τ).loc main_arg0) (ix2 ⟨p.val * 16384 + r.val, by omega⟩ l) := by
  unfold V
  dsimp only [List.flatten_cons, List.flatten_nil, List.cons_append, List.nil_append, List.append_nil]
  after_reads_at

theorem V_b (c : Dev nD) (h : Fin 8) : V m c main_v2 (ix2 0 (lane h)) = (nums m c).b h := by
  unfold nums V lane
  dsimp only [List.flatten_cons, List.flatten_nil, List.cons_append, List.nil_append, List.append_nil]
  after_reads_at

theorem idx_f : ∀ t : Fin cfg0.N, (cfg0.win 0).index t 0 = t.val / 32 ∧ (cfg0.win 0).index t 1 = t.val % 32 ∧ (cfg0.win 0).index t 2 = 0 := by decide +kernel
theorem idx_b : ∀ t : Fin cfg0.N, (cfg0.win 1).index t 0 = 0 ∧ (cfg0.win 1).index t 1 = 0 := by decide +kernel
theorem idx_o : ∀ t : Fin cfg0.N, (cfg0.win 2).index t 0 = t.val / 32 ∧ (cfg0.win 2).index t 1 = t.val % 32 ∧ (cfg0.win 2).index t 2 = 0 ∧ (cfg0.win 2).index t 3 = 0 := by decide +kernel

/-- The batch of a point, and the row of one of its block's rows. -/
def batch (n : ℕ) (hn : n < 64) : Fin 2 := ⟨n / 32, by omega⟩
def rowOf (n : ℕ) (k : Fin 512) : Fin 16384 := ⟨512 * (n % 32) + k.val, by omega⟩

theorem iblk_f (c : Dev nD) (t : Fin cfg0.N) (k : Fin 512) (h : Fin 8) : iblk m c 0 t (ix3 0 k (lane h)) = (nums m c).f (batch t.val (lt_N t)) (512 * (t.val % 32) + k.val) h := by
  have e : (nums m c).f (batch t.val (lt_N t)) (512 * (t.val % 32) + k.val) h = V m c main_v3 (ix3 (batch t.val (lt_N t)) (rowOf t.val k) (lane h)) :=
    (dif_pos (show 512 * (t.val % 32) + k.val < 16384 by omega)).trans (V_f m c _ (rowOf t.val k) (lane h)).symm
  rw [e]
  generalize hv : V m c main_v3 = v
  unfold rowOf batch
  blk_ext! [iblk, hv, idx_f t]

theorem iblk_b (c : Dev nD) (t : Fin cfg0.N) (h : Fin 8) : iblk m c 1 t (ix2 0 (lane h)) = (nums m c).b h := by
  refine Eq.trans ?_ (V_b m c h)
  generalize hv : V m c main_v2 = v
  blk_ext! [iblk, hv, idx_b t]

/-- One block's sums, from the sum of the rows before it. -/
theorem block_at (c : Dev nD) (t : Fin cfg0.N) (s : Vec Ideal S1x128 .f32) (h : Fin 8)
    (hs : s (ix2 0 (lane h)) = ForgetSpec.cum (nums m c) (batch t.val (lt_N t)) h (512 * (t.val % 32))) (r : Fin 512) :
    k0_pay4 (F := Ideal) (iblk m c 0 t) (iblk m c 1 t) s (ix2 r (lane h)) = ForgetSpec.cum (nums m c) (batch t.val (lt_N t)) h (512 * (t.val % 32) + (r.val + 1)) := by
  refine (pay4_at _ _ s r (lane h)).trans (Eq.trans ?_ (ForgetSpec.tri_step (ForgetSpec.gate (nums m c) (batch t.val (lt_N t)) h) (512 * (t.val % 32)) r))
  refine congrArg₂ (· + ·) (Finset.sum_congr rfl fun k _ => congrArg₂ (· * ·) rfl ?_) hs
  exact congrArg ForgetSpec.logSig (congrArg₂ (· + ·) (iblk_f m c t k h) (iblk_b m c t h))

theorem next_at (c : Dev nD) (t : Fin cfg0.N) (s : Vec Ideal S1x128 .f32) (h : Fin 8)
    (hs : s (ix2 0 (lane h)) = ForgetSpec.cum (nums m c) (batch t.val (lt_N t)) h (512 * (t.val % 32))) :
    nextB (F := Ideal) (iblk m c 0 t) (iblk m c 1 t) s (ix2 0 (lane h)) = ForgetSpec.cum (nums m c) (batch t.val (lt_N t)) h (512 * (t.val % 32 + 1)) :=
  (pay2_at _ _).trans ((block_at m c t s h hs 511).trans (congrArg _ (show 512 * (t.val % 32) + (511 + 1) = 512 * (t.val % 32 + 1) by omega)))

/-- At a batch's first point nothing is summed. -/
theorem start_at (c : Dev nD) (n : ℕ) (hn : n < 64) (h0 : n % 32 = 0) (h : Fin 8) :
    k0_pay3 (F := Ideal) (ix2 0 (lane h)) = ForgetSpec.cum (nums m c) (batch n hn) h (512 * (n % 32)) := by
  rw [pay3_at, h0]
  rfl

/-- What a point carries on is the sum of the batch's rows up to its block's end. -/
theorem carry_at (c : Dev nD) (h : Fin 8) : ∀ (n : ℕ) (hn : n < cfg0.N), (outsAt0 m c n hn).2 (ix2 0 (lane h)) = ForgetSpec.cum (nums m c) (batch n hn) h (512 * (n % 32 + 1))
  | 0, hn => (congrFun (sout_at_A m c ⟨0, hn⟩ rfl) _).trans (next_at m c ⟨0, hn⟩ _ h (start_at m c 0 hn rfl h))
  | n + 1, hn => by
    by_cases h0 : (n + 1) % 32 = 0
    · exact (congrFun (sout_at_A m c ⟨n + 1, hn⟩ h0) _).trans (next_at m c ⟨n + 1, hn⟩ _ h (start_at m c (n + 1) hn h0 h))
    · have hn' : n + 1 < 64 := hn
      refine (congrFun (sout_at_B m c ⟨n + 1, hn⟩ h0) _).trans (next_at m c ⟨n + 1, hn⟩ _ h ((carry_at c h n (by omega)).trans ?_))
      refine congr (congr (congrArg _ (Fin.ext ?_)) rfl) ?_
      · show n / 32 = (n + 1) / 32
        omega
      · show 512 * (n % 32 + 1) = 512 * ((n + 1) % 32)
        omega

theorem out_at (c : Dev nD) (t : Fin cfg0.N) (h : Fin 8) (r : Fin 512) :
    (outsAt0 m c t.val t.isLt).1 (ix4 0 0 h r) = ForgetSpec.cum (nums m c) (batch t.val (lt_N t)) h (512 * (t.val % 32) + (r.val + 1)) := by
  by_cases h0 : t.val % 32 = 0
  · exact (congrFun (out_at_A m c t h0) _).trans ((outB_at _ _ _ h r).trans (block_at m c t _ h (start_at m c t.val (lt_N t) h0 h) r))
  · refine (congrFun (out_at_B m c t h0) _).trans ((outB_at _ _ _ h r).trans (block_at m c t _ h ((carry_at m c h (t.val - 1) _).trans ?_) r))
    have := lt_N t
    refine congr (congr (congrArg _ (Fin.ext ?_)) rfl) ?_
    · show (t.val - 1) / 32 = t.val / 32
      omega
    · show 512 * ((t.val - 1) % 32 + 1) = 512 * (t.val % 32)
      omega

/-- The result. -/
def result (c : Dev nD) : Vec Ideal S2x32x8x512 .f32 := fun y => ForgetSpec.cum (nums m c) (y 0) (y 2) (512 * (y 1).val + ((y 3).val + 1))

theorem arr_o (c : Dev nD) : (dats m 0 c).arrAt 2 (cfgs 0).N = result m c := by
  refine (dats m 0 c).arrAt_eq_of_covers 2 _ (by decide +kernel) fun t hf y => ?_
  have hi := idx_o t
  have h0 : (y 0).val = 0 := by have : (y 0).val < 1 := (y 0).isLt; omega
  have h1 : (y 1).val = 0 := by have : (y 1).val < 1 := (y 1).isLt; omega
  have ho (y : S1x1x8x512.Idx) : (outsAt0 m c t.val t.isLt).1 y = ForgetSpec.cum (nums m c) (batch t.val (lt_N t)) (y 2) (512 * (t.val % 32) + ((y 3).val + 1)) := by
    refine (congrArg _ ?_).trans (out_at m c t (y 2) (y 3))
    refine (ix4_eta y).symm.trans ?_
    congr 1 <;> exact Subsingleton.elim (α := Fin 1) _ _
  show (outsAt0 m c t.val t.isLt).1 y = result m c _
  refine (ho y).trans ?_
  unfold result
  refine congr (congr (congrArg (ForgetSpec.cum (nums m c)) (Fin.ext ?_)) (Fin.ext ?_)) ?_ <;> simp only [batch] <;> blk_simp [hi, h0, h1] <;> omega

/-- What a run of the kernel leaves. -/
theorem run_value : θ_run defs (onTc (τ := τ) (main (F := Ideal))) ⟨m, fun _ => 0, ρ⟩ (fun r => (∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(Pipeline.FramePost.out_eq h.1 c 2).trans (arr_o m c),
      (Pipeline.FramePost.rest_eq h.1 c main_arg0 (Pipeline.mem_restRefs_of main_arg0 (by decide) (by decide))).trans (V_main_arg0 m c),
      (Pipeline.FramePost.rest_eq h.1 c main_arg1 (Pipeline.mem_restRefs_of main_arg1 (by decide) (by decide))).trans (V_main_arg1 m c)⟩, h.2⟩)
    (run_main_quiescent m ρ)

end Cert.Kernel5Ideal.Forget

end
-- ==== Proof.Forget.Same.lean ====
/- The running sum of the forget gate as printed for bits is the kernel as printed for extended reals, text for text. -/
module

public import proofs.«01_k».proof.Defs
public import proofs.«01_k».proof.Proof.Gen.Kernel5
public import proofs.«01_k».proof.Proof.Gen.Kernel5Ideal

@[expose] public section

set_option maxRecDepth 100000

noncomputable section

namespace Cert.Same5

open Idealize.ShloMosaic Idealize.SL.Sem

variable [Cert.Kernel5.Facts] [Cert.Kernel5Ideal.Facts]
variable {F : FTy → Type} [FloatOps F]

theorem body_eq : @Cert.Kernel5.cc0_forget_cum F _ _ = @Cert.Kernel5Ideal.cc0_forget_cum F _ _ := rfl

theorem table_eq : Cert.Kernel5.defs₀ (F := F) = Cert.Kernel5Ideal.defs₀ := by
  unfold Cert.Kernel5.defs₀ Cert.Kernel5Ideal.defs₀
  refine congrArg (Defs.onTc (Λ := Cert.Kernel5Ideal.Λ₀)) ?_
  funext ℓ a
  match ℓ, a with
  | 0, (t, s) => dsimp only; rw [body_eq]; rfl

theorem defs_eq : Cert.Kernel5.defs (F := F) = Cert.Kernel5Ideal.defs :=
  congrArg (Pipeline.defs Cert.Kernel5Ideal.pcfgs) table_eq

theorem main_eq : @Cert.Kernel5.main F _ _ = @Cert.Kernel5Ideal.main F _ _ := rfl

end Cert.Same5

end
-- ==== Proof.Ref5.Value.lean ====
/- The forget gate's reference's result is its mathematics of its arguments. -/
module

public import proofs.«01_k».proof.Proof.Gen.Reference5Ideal.Run
public import proofs.«01_k».proof.Proof.Forget.Spec
public import Idealize.ShloMosaic.Lib.Pointwise
public import Idealize.ShloMosaic.Lib.Quiescent

@[expose] public section

set_option maxRecDepth 16384

noncomputable section

open Idealize.ShloMosaic Idealize.ShloMosaic.StableHlo
open Idealize.ShloMosaic.TcCoe Idealize.ShloMosaic.Tactic
open Idealize.SL Idealize.SL.Sem

namespace Cert.Reference5Ideal.Ref

open Cert.Reference5Ideal Cert.Reference5Ideal.Gen Cert.Reference5Ideal.Value

variable {F : FTy → Type} [FloatOps F]

/-- The logits with the biases. -/
def logits (x : FVec F S32768x128 .f32) (b : FVec F S1x8 .f32) : FVec F S2x16384x8 .f32 :=
  addf (extractStridedSlice S2x16384x8 ![0, 0, 0] (shapeCast S2x16384x128 x shapeCasts_S32768x128_S2x16384x128) slices_S2x16384x128_S2x16384x8_0_0_0)
    (broadcastInDim S2x16384x8 ![0, 1, 2] bcast_S1x1x8_S2x16384x8_0_1_2 (broadcastInDim S1x1x8 ![2] bcast_S8_S1x1x8_2 (shapeCast S8 b shapeCasts_S1x8_S8)))

/-- The logarithms of the gates. -/
def gates (v : FVec F S2x16384x8 .f32) : FVec F S2x16384x8 .f32 :=
  Host.negf (select (cmpf .une (subf (Host.negf v) (broadcastInDim S2x16384x8 ![] bcast_S_S2x16384x8 (constant S_ .f32 0x00000000#32))) (subf (Host.negf v) (broadcastInDim S2x16384x8 ![] bcast_S_S2x16384x8 (constant S_ .f32 0x00000000#32))))
    (addf (Host.negf v) (broadcastInDim S2x16384x8 ![] bcast_S_S2x16384x8 (constant S_ .f32 0x00000000#32)))
    (addf (maximumf (Host.negf v) (broadcastInDim S2x16384x8 ![] bcast_S_S2x16384x8 (constant S_ .f32 0x00000000#32)))
      (Host.log1p (Host.exp (Host.negf (Host.absf (subf (Host.negf v) (broadcastInDim S2x16384x8 ![] bcast_S_S2x16384x8 (constant S_ .f32 0x00000000#32)))))))))

/-- Their running sums. -/
def sums (v : FVec F S2x16384x8 .f32) : FVec F S2x16384x8 .f32 :=
  Host.reduceWindowAdd ![1, 16384, 1] ![1, 1, 1] ![0, 16383, 0] ![0, 0, 0] v (broadcastInDim S_ ![] bcast_S_S_ (constant S_ .f32 0x00000000#32))
    reduceWindows_S2x16384x8_S2x16384x8_w1s1p0_0_w16384s1p16383_0_w1s1p0_0 h_S_

/-- The running sums by blocks of 512 rows, each head's in a row. -/
def blocks (v : FVec F S2x16384x8 .f32) : FVec F S2x32x8x512 .f32 :=
  transpose S2x32x8x512 [0, 2, 1, 3] (shapeCast S2x8x32x512 (transpose S2x8x16384 [0, 2, 1] v transposes_S2x16384x8_S2x8x16384_0_2_1) shapeCasts_S2x8x16384_S2x8x32x512)
    transposes_S2x8x32x512_S2x32x8x512_0_2_1_3

section Main

variable (m : (ℓ : Loc nD τ sig) → Buf (Elt F) ℓ) (ρ : Dev nD → PrngReg)

/-- The result. -/
def res (c : Dev nD) : FVec F S2x32x8x512 .f32 :=
  blocks (sums (gates (logits (m ((c.tc : Thread nD τ).loc main_arg0)) (m ((c.tc : Thread nD τ).loc main_arg1)))))

/-- The run: the result, the arguments unchanged, every counter at zero. -/
theorem run_main : θ_run (defs (F := F)) (onTc (τ := τ) (main (F := F))) ⟨m, fun _ => 0, ρ⟩ (fun r => (∀ c : Dev nD,
      r.2.mem ((c.tc : Thread nD τ).loc main_v10) = res m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := F)) _ _).mono (fun r h => ⟨fun c => ⟨(h c).1.trans rfl, (h c).2⟩, sem_eq_zero_of_no_sems (by decide) r.2⟩) (run m ρ)

end Main

/-- The arguments' buffers hold `N`. -/
structure Holds (N : ForgetSpec.Nums) (x : FVec Ideal S32768x128 .f32) (b : FVec Ideal S1x8 .f32) : Prop where
  x : ∀ (p : Fin 2) (r : Fin 16384) (h : Fin 8), x (ix2 ⟨p.val * 16384 + r.val, by omega⟩ ⟨h.val, by omega⟩) = N.f p r.val h
  b : ∀ h : Fin 8, b (ix2 0 h) = N.b h

theorem logits_at (x : FVec Ideal S32768x128 .f32) (b : FVec Ideal S1x8 .f32) (p : Fin 2) (r : Fin 16384) (h : Fin 8) :
    logits x b (ix3 p r h) = x (ix2 ⟨p.val * 16384 + r.val, by omega⟩ ⟨h.val, by omega⟩) + b (ix2 0 h) := by
  pointwise [logits]

theorem gates_at (v : FVec Ideal S2x16384x8 .f32) (p : Fin 2) (r : Fin 16384) (h : Fin 8) : gates v (ix3 p r h) = ForgetSpec.logSig (v (ix3 p r h)) := by
  unfold ForgetSpec.logSig
  pointwise [gates]
  simp only [ne_eq, not_true_eq_false, if_false, zero_sub]

theorem blocks_at (v : FVec Ideal S2x16384x8 .f32) (p : Fin 2) (i : Fin 32) (h : Fin 8) (r : Fin 512) :
    blocks v (ix4 p i h r) = v (ix3 p ⟨i.val * 512 + r.val, by omega⟩ h) := by
  pointwise [blocks]

/-- A window that ends at row `j` and holds nothing before the first row. -/
theorem window_sum (g : ℕ → EReal) (N j : ℕ) (hj : j < N + 1) :
    (∑ n : Fin (N + 1), if N ≤ j + n.val then g (j + n.val - N) else 0) = ∑ i ∈ Finset.range (j + 1), g i := by
  rw [Fin.sum_univ_eq_sum_range (fun n : ℕ => if N ≤ j + n then g (j + n - N) else 0) (N + 1), ← Finset.sum_filter]
  refine Finset.sum_nbij' (fun n => j + n - N) (fun i => N + i - j) ?_ ?_ ?_ ?_ ?_
  · intro n hn; rw [Finset.mem_filter, Finset.mem_range] at hn; rw [Finset.mem_range]; omega
  · intro i hi; rw [Finset.mem_range] at hi; rw [Finset.mem_filter, Finset.mem_range]; omega
  · intro n hn; rw [Finset.mem_filter, Finset.mem_range] at hn; omega
  · intro i hi; rw [Finset.mem_range] at hi; omega
  · intro n hn; rfl

/-- A running sum along the middle axis, as it prints. -/
theorem cumsum3 {A N Nm1 C : ℕ} (hN : Nm1 + 1 = N) (x : (⟨3, ![A, N, C]⟩ : Shape).Idx → EReal) (g : ℕ → EReal) (p : Fin A) (j : Fin N) (h : Fin C)
    (hx : ∀ r : Fin N, x (ix3 p r h) = g r.val)
    (hw : (⟨3, ![A, N, C]⟩ : Shape).ReduceWindows (![1, N, 1] : Fin 3 → ℕ) ![1, 1, 1] ![0, Nm1, 0] ![0, 0, 0] ⟨3, ![A, N, C]⟩) :
    Ideal.hostReduceWindowAdd (s := ⟨3, ![A, N, C]⟩) ![1, N, 1] ![1, 1, 1] ![0, Nm1, 0] ![0, 0, 0] hw x 0 (ix3 p j h) = ∑ i ∈ Finset.range (j.val + 1), g i := by
  subst hN
  unfold Ideal.hostReduceWindowAdd Host.reduceWindow
  have e := sum_idx_eq_foldl ⟨3, ![1, Nm1 + 1, 1]⟩ fun w : (⟨3, ![1, Nm1 + 1, 1]⟩ : Shape).Idx => if Nm1 ≤ j.val + (w 1).val then g (j.val + (w 1).val - Nm1) else 0
  rw [sum_idx3] at e
  simp only [Fin.sum_univ_one, ix3_1] at e
  refine Eq.trans ?_ (e.symm.trans (window_sum g Nm1 j.val j.isLt))
  dsimp only
  refine congrArg (fun f => List.foldl f 0 _) (funext fun a => funext fun n => congrArg (a + ·) ?_)
  have w0 : ((⟨3, ![1, Nm1 + 1, 1]⟩ : Shape).rowMajor.symm n 0).val = 0 := by have : ((⟨3, ![1, Nm1 + 1, 1]⟩ : Shape).rowMajor.symm n 0).val < 1 := ((⟨3, ![1, Nm1 + 1, 1]⟩ : Shape).rowMajor.symm n 0).isLt; omega
  have w1 : ((⟨3, ![1, Nm1 + 1, 1]⟩ : Shape).rowMajor.symm n 1).val < Nm1 + 1 := ((⟨3, ![1, Nm1 + 1, 1]⟩ : Shape).rowMajor.symm n 1).isLt
  have w2 : ((⟨3, ![1, Nm1 + 1, 1]⟩ : Shape).rowMajor.symm n 2).val = 0 := by have : ((⟨3, ![1, Nm1 + 1, 1]⟩ : Shape).rowMajor.symm n 2).val < 1 := ((⟨3, ![1, Nm1 + 1, 1]⟩ : Shape).rowMajor.symm n 2).isLt; omega
  have hj := j.isLt
  have hp := p.isLt
  have hh := h.isLt
  split
  · next hin =>
    have h1 := hin 1
    change Nm1 ≤ j.val * 1 + ((⟨3, ![1, Nm1 + 1, 1]⟩ : Shape).rowMajor.symm n 1).val ∧ j.val * 1 + ((⟨3, ![1, Nm1 + 1, 1]⟩ : Shape).rowMajor.symm n 1).val - Nm1 < Nm1 + 1 at h1
    rw [if_pos (by omega)]
    refine (congrArg x (funext fun a => Fin.ext ?_)).trans (hx ⟨j.val + ((⟨3, ![1, Nm1 + 1, 1]⟩ : Shape).rowMajor.symm n 1).val - Nm1, by omega⟩)
    match a with
    | ⟨0, _⟩ => show p.val * 1 + ((⟨3, ![1, Nm1 + 1, 1]⟩ : Shape).rowMajor.symm n 0).val - 0 = p.val; omega
    | ⟨1, _⟩ => show j.val * 1 + ((⟨3, ![1, Nm1 + 1, 1]⟩ : Shape).rowMajor.symm n 1).val - Nm1 = j.val + ((⟨3, ![1, Nm1 + 1, 1]⟩ : Shape).rowMajor.symm n 1).val - Nm1; omega
    | ⟨2, _⟩ => show h.val * 1 + ((⟨3, ![1, Nm1 + 1, 1]⟩ : Shape).rowMajor.symm n 2).val - 0 = h.val; omega
  · next hin =>
    rw [if_neg fun hle => hin fun a => by
      match a with
      | ⟨0, _⟩ => show 0 ≤ p.val * 1 + ((⟨3, ![1, Nm1 + 1, 1]⟩ : Shape).rowMajor.symm n 0).val ∧ p.val * 1 + ((⟨3, ![1, Nm1 + 1, 1]⟩ : Shape).rowMajor.symm n 0).val - 0 < A; omega
      | ⟨1, _⟩ => show Nm1 ≤ j.val * 1 + ((⟨3, ![1, Nm1 + 1, 1]⟩ : Shape).rowMajor.symm n 1).val ∧ j.val * 1 + ((⟨3, ![1, Nm1 + 1, 1]⟩ : Shape).rowMajor.symm n 1).val - Nm1 < Nm1 + 1; omega
      | ⟨2, _⟩ => show 0 ≤ h.val * 1 + ((⟨3, ![1, Nm1 + 1, 1]⟩ : Shape).rowMajor.symm n 2).val ∧ h.val * 1 + ((⟨3, ![1, Nm1 + 1, 1]⟩ : Shape).rowMajor.symm n 2).val - 0 < C; omega]

section Ideal

variable {N : ForgetSpec.Nums} {x : FVec Ideal S32768x128 .f32} {b : FVec Ideal S1x8 .f32}

theorem gate_at (hN : Holds N x b) (p : Fin 2) (r : Fin 16384) (h : Fin 8) : gates (logits x b) (ix3 p r h) = ForgetSpec.gate N p h r.val :=
  (gates_at _ p r h).trans (congrArg ForgetSpec.logSig ((logits_at x b p r h).trans (congrArg₂ (· + ·) (hN.x p r h) (hN.b h))))

theorem zero_at (j : S_.Idx) : broadcastInDim S_ ![] bcast_S_S_ (constant (F := Ideal) S_ .f32 0x00000000#32) j = (0 : EReal) := by
  obtain rfl : j = ix0 := funext fun i => i.elim0
  pointwise

theorem sums_at (v : FVec Ideal S2x16384x8 .f32) (g : ℕ → EReal) (p : Fin 2) (j : Fin 16384) (h : Fin 8) (hv : ∀ r : Fin 16384, v (ix3 p r h) = g r.val) :
    sums v (ix3 p j h) = ∑ i ∈ Finset.range (j.val + 1), g i := by
  unfold sums Host.reduceWindowAdd
  rw [zero_at]
  exact cumsum3 (by omega) v g p j h hv _

theorem res_val (hN : Holds N x b) (p : Fin 2) (i : Fin 32) (h : Fin 8) (r : Fin 512) :
    blocks (sums (gates (logits x b))) (ix4 p i h r) = ForgetSpec.cum N p h (512 * i.val + (r.val + 1)) := by
  refine (blocks_at _ p i h r).trans ((sums_at _ (ForgetSpec.gate N p h) p _ h fun r => gate_at hN p r h).trans ?_)
  exact congrArg (fun n => ∑ i ∈ Finset.range n, ForgetSpec.gate N p h i) (show i.val * 512 + r.val + 1 = 512 * i.val + (r.val + 1) by omega)

end Ideal

end Cert.Reference5Ideal.Ref

end
-- ==== Proof.lean ====
module

public import proofs.«01_k».proof.Proof.Gen.Kernel3
public import proofs.«01_k».proof.Proof.Gen.Kernel5
public import proofs.«01_k».proof.Proof.Gen.Kernel4
public import proofs.«01_k».proof.Proof.Gen.Kernel3Ideal
public import proofs.«01_k».proof.Proof.Gen.Kernel5Ideal
public import proofs.«01_k».proof.Proof.Gen.Kernel4Ideal
public import proofs.«01_k».proof.Proof.Gen.Kernel3Ideal.Skeleton
public import proofs.«01_k».proof.Proof.Gen.Kernel5Ideal.Skeleton
public import proofs.«01_k».proof.Proof.Gen.Kernel4Ideal.Skeleton
public import proofs.«01_k».proof.Proof.Gen.Kernel3Ideal.Launch
public import proofs.«01_k».proof.Proof.Gen.Kernel5Ideal.Launch
public import proofs.«01_k».proof.Proof.Gen.Kernel4Ideal.Launch
public import proofs.«01_k».proof.Proof.Gen.Kernel3Ideal.Points
public import proofs.«01_k».proof.Proof.Gen.Kernel5Ideal.Points
public import proofs.«01_k».proof.Proof.Gen.Kernel4Ideal.Points
public import proofs.«01_k».proof.Proof.Gen.Kernel3Ideal.Frame
public import proofs.«01_k».proof.Proof.Gen.Kernel5Ideal.Frame
public import proofs.«01_k».proof.Proof.Gen.Kernel4Ideal.Frame
public import proofs.«01_k».proof.Proof.Gen.Reference3Ideal
public import proofs.«01_k».proof.Proof.Gen.Reference5Ideal
public import proofs.«01_k».proof.Proof.Gen.Reference4Ideal
public import proofs.«01_k».proof.Proof.Gen.Reference3Ideal.Run
public import proofs.«01_k».proof.Proof.Gen.Reference5Ideal.Run
public import proofs.«01_k».proof.Proof.Gen.Reference4Ideal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Pre_tables_in_range
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Rglru.Data
public import proofs.«01_k».proof.Proof.Same
public import proofs.«01_k».proof.Proof.Ref.Value
public import proofs.«01_k».proof.Proof.Rglru.Value
public import proofs.«01_k».proof.Proof.Experts.Pre
public import proofs.«01_k».proof.Proof.Experts.Value
public import proofs.«01_k».proof.Proof.Ref2.Value
public import proofs.«01_k».proof.Proof.InProj.Value
public import proofs.«01_k».proof.Proof.InProj.Same
public import proofs.«01_k».proof.Proof.Ref3.Value
public import proofs.«01_k».proof.Proof.OutProj.Value
public import proofs.«01_k».proof.Proof.OutProj.Same
public import proofs.«01_k».proof.Proof.Ref4.Value
public import proofs.«01_k».proof.Proof.Forget.Value
public import proofs.«01_k».proof.Proof.Forget.Same
public import proofs.«01_k».proof.Proof.Ref5.Value
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) := fun m ρ _ =>
  letI := Cert.Kernel.Gen.facts
  letI := Cert.KernelIdeal.Gen.facts
  have h := Cert.KernelIdeal.Rglru.frame (F := Bits) m ρ
  by rw [← Cert.Same.defs_eq, ← Cert.Same.main_eq] at h; exact h

theorem frame_kernelIdeal : Cert.quiescent_KernelIdeal (hKernelIdeal := Cert.KernelIdeal.Gen.facts) := fun m ρ _ =>
  Cert.KernelIdeal.Rglru.frame (F := Ideal) m ρ

theorem frame_reference : Cert.quiescent_ReferenceIdeal (hReferenceIdeal := Cert.ReferenceIdeal.Gen.facts) := fun m ρ _ =>
  letI := Cert.ReferenceIdeal.Gen.facts
  haveI : ∀ e, Nonempty (Elt Ideal e) := fun e => by cases e <;> exact ⟨default⟩
  (θ_run (Cert.ReferenceIdeal.defs (F := Ideal)) _ _).mono (fun _ h => ⟨fun c => (h.1 c).2, h.2⟩) (Cert.ReferenceIdeal.Ref.run_main m ρ)

theorem algebraic : Cert.algebraic_KernelIdeal_ReferenceIdeal (hKernelIdeal := Cert.KernelIdeal.Gen.facts) (hReferenceIdeal := Cert.ReferenceIdeal.Gen.facts) := by
  intro m g m' g' _ he
  letI := Cert.ReferenceIdeal.Gen.facts
  haveI : ∀ e, Nonempty (Elt Ideal e) := fun e => by cases e <;> exact ⟨default⟩
  have hN (c : Dev Cert.KernelIdeal.nD) : Cert.ReferenceIdeal.Ref.nums m' c = Cert.KernelIdeal.Rglru.nums m c := by
    obtain ⟨e0, e1, e2, e3, e4, e5, e6, e7⟩ := he c
    unfold Cert.ReferenceIdeal.Ref.nums Cert.ReferenceIdeal.Ref.numsOf Cert.KernelIdeal.Rglru.nums
    congr 1
    · funext b r d
      exact dite_congr rfl (fun _ => congrFun e0 _) (fun _ => rfl)
    · funext b r d
      exact dite_congr rfl (fun _ => congrFun e0 _) (fun _ => rfl)
    · funext k d; exact congrFun e1 _
    · funext d; exact congrFun e2 _
    · funext j k l; exact congrFun e3 _
    · funext d; exact congrFun e4 _
    · funext j k l; exact congrFun e5 _
    · funext d; exact congrFun e6 _
    · funext d; exact congrFun e7 _
  refine ⟨fun c => Cert.KernelIdeal.Rglru.result m c,
    (θ_run (Cert.KernelIdeal.defs (F := Ideal)) _ _).mono (fun _ h => h.1) (Cert.KernelIdeal.Rglru.run_value m g),
    (θ_run (Cert.ReferenceIdeal.defs (F := Ideal)) _ _).mono (fun _ h c => ⟨(h.1 c).1.trans ?_, (h.1 c).2⟩) (Cert.ReferenceIdeal.Ref.run_main m' g')⟩
  refine (Cert.ReferenceIdeal.Ref.final_eq m' c).trans ?_
  rw [hN c]
  rfl

theorem frame_kernel2 : Cert.quiescent_Kernel2 (hKernel2 := Cert.Kernel2.Gen.facts) (hPre_tables_in_range := Cert.Pre_tables_in_range.Gen.facts) := fun m ρ hpre => by
  letI := Cert.Kernel2.Gen.facts
  letI := Cert.Kernel2Ideal.Gen.facts
  obtain ⟨T, hp⟩ := Cert.Kernel2Ideal.Experts.pinned_of (F := Bits) m hpre
  have h := Cert.Kernel2Ideal.Experts.frame (F := Bits) m ρ T hp
  rw [← Cert.Same2.defs_eq, ← Cert.Same2.main_eq] at h
  exact h

theorem frame_kernel2Ideal : Cert.quiescent_Kernel2Ideal (hKernel2Ideal := Cert.Kernel2Ideal.Gen.facts) (hPre_tables_in_range := Cert.Pre_tables_in_range.Gen.facts) := fun m ρ hpre => by
  obtain ⟨T, hp⟩ := Cert.Kernel2Ideal.Experts.pinned_of (F := Ideal) m hpre
  exact Cert.Kernel2Ideal.Experts.frame (F := Ideal) m ρ T hp

theorem frame_reference2 : Cert.quiescent_Reference2Ideal (hReference2Ideal := Cert.Reference2Ideal.Gen.facts) (hPre_tables_in_range := Cert.Pre_tables_in_range.Gen.facts) := fun m ρ _ =>
  (θ_run (Cert.Reference2Ideal.defs (F := Ideal)) _ _).mono (fun _ h => ⟨fun c => (h.1 c).2, h.2⟩) (Cert.Reference2Ideal.Ref.run_main m ρ)

/-- A word is the word of its number. -/
theorem word (w : BitVec 32) : w = BitVec.ofNat 32 w.toNat := by simp

theorem algebraic2 : Cert.algebraic_Kernel2Ideal_Reference2Ideal (hKernel2Ideal := Cert.Kernel2Ideal.Gen.facts) (hReference2Ideal := Cert.Reference2Ideal.Gen.facts) (hPre_tables_in_range := Cert.Pre_tables_in_range.Gen.facts) := by
  intro m g m' g' hpre he
  obtain ⟨T, hp⟩ := Cert.Kernel2Ideal.Experts.pinned_of (F := Ideal) m hpre
  have hV (c : Dev Cert.Kernel2Ideal.nD) : Cert.Reference2Ideal.Ref.Holds (Cert.Kernel2Ideal.Experts.nums T m c) (StableHlo.launchContents m' c) := by
    obtain ⟨e0, e1, e2, e3, e4, e5⟩ := he c
    refine ⟨fun r k => congrFun e2 _, fun e k f => congrFun e3 _, fun e k f => congrFun e4 _, fun e f d => congrFun e5 _, fun n => ?_, ?_, Cert.Kernel2Ideal.Experts.used_le T⟩
    · exact (congrFun (e0.trans (hp.1 c)) (ix1 n)).trans ((word _).trans
        (congrArg (BitVec.ofNat 32) (congrArg (fun y => (T.te y).toNat) (Cert.Kernel2Ideal.Experts.idx160_ext rfl))))
    · exact (congrFun (e1.trans (hp.2 c)) (ix1 0)).trans ((word _).trans
        (congrArg (BitVec.ofNat 32) (congrArg (fun y => (T.nu y).toNat) (Cert.Kernel2Ideal.Experts.idx1_eq _))))
  refine ⟨fun c => Cert.Kernel2Ideal.Experts.result T m c,
    (θ_run (Cert.Kernel2Ideal.defs (F := Ideal)) _ _).mono (fun _ h c => ⟨(h.1 c).1.trans (Cert.Kernel2Ideal.Experts.arr_out T m g c), (h.1 c).2⟩) (Cert.Kernel2Ideal.Experts.run_args T m g hp),
    (θ_run (Cert.Reference2Ideal.defs (F := Ideal)) _ _).mono (fun _ h c => ⟨(h.1 c).1.trans ?_, (h.1 c).2⟩) (Cert.Reference2Ideal.Ref.run_main m' g')⟩
  funext j
  exact (congrArg _ (ix2_eta j).symm).trans (Cert.Reference2Ideal.Ref.final_at _ _ (hV c) (j 0) (j 1))

theorem frame_kernel3 : Cert.quiescent_Kernel3 (hKernel3 := Cert.Kernel3.Gen.facts) := fun m ρ _ =>
  letI := Cert.Kernel3.Gen.facts
  letI := Cert.Kernel3Ideal.Gen.facts
  have h := Cert.Kernel3Ideal.InProj.frame (F := Bits) m ρ
  by rw [← Cert.Same3.defs_eq, ← Cert.Same3.main_eq] at h; exact h

theorem frame_kernel3Ideal : Cert.quiescent_Kernel3Ideal (hKernel3Ideal := Cert.Kernel3Ideal.Gen.facts) := fun m ρ _ =>
  Cert.Kernel3Ideal.InProj.frame (F := Ideal) m ρ

theorem frame_reference3 : Cert.quiescent_Reference3Ideal (hReference3Ideal := Cert.Reference3Ideal.Gen.facts) := fun m ρ _ =>
  (θ_run (Cert.Reference3Ideal.defs (F := Ideal)) _ _).mono (fun _ h => ⟨fun c => (h.1 c).2.2, h.2⟩) (Cert.Reference3Ideal.Ref.run_main m ρ)

theorem algebraic3 : Cert.algebraic_Kernel3Ideal_Reference3Ideal (hKernel3Ideal := Cert.Kernel3Ideal.Gen.facts) (hReference3Ideal := Cert.Reference3Ideal.Gen.facts) := by
  intro m g m' g' _ he
  have hN (c : Dev Cert.Kernel3Ideal.nD) : Cert.Reference3Ideal.Ref.Holds (Cert.Kernel3Ideal.InProj.nums m c)
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4)) := by
    obtain ⟨e0, e1, e2, e3, e4⟩ := he c
    exact ⟨fun r k => congrFun e0 _, fun k => congrFun e1 _, fun k n => congrFun e2 _, fun d => congrFun e3 _, fun d => congrFun e4 _⟩
  refine ⟨fun c => Cert.Kernel3Ideal.InProj.result m c, fun c => Cert.Kernel3Ideal.InProj.resultF m c,
    (θ_run (Cert.Kernel3Ideal.defs (F := Ideal)) _ _).mono (fun _ h => h.1) (Cert.Kernel3Ideal.InProj.run_value m g),
    (θ_run (Cert.Reference3Ideal.defs (F := Ideal)) _ _).mono (fun _ h c => ⟨(h.1 c).1.trans ?_, (h.1 c).2.1.trans ?_, (h.1 c).2.2⟩) (Cert.Reference3Ideal.Ref.run_main m' g')⟩
  · funext j
    exact (congrArg _ (ix2_eta j).symm).trans (Cert.Reference3Ideal.Ref.joined_val (hN c) _ (Cert.Reference3Ideal.Ref.proj_at (hN c)) (j 0) (j 1))
  · funext j
    exact (congrArg _ (ix2_eta j).symm).trans (Cert.Reference3Ideal.Ref.padded_val _ (Cert.Reference3Ideal.Ref.proj_at (hN c)) (j 0) (j 1))

theorem frame_kernel4 : Cert.quiescent_Kernel4 (hKernel4 := Cert.Kernel4.Gen.facts) := fun m ρ _ =>
  letI := Cert.Kernel4.Gen.facts
  letI := Cert.Kernel4Ideal.Gen.facts
  have h := Cert.Kernel4Ideal.Gen.frame (F := Bits) m ρ
  by rw [← Cert.Same4.defs_eq, ← Cert.Same4.main_eq] at h; exact h

theorem frame_kernel4Ideal : Cert.quiescent_Kernel4Ideal (hKernel4Ideal := Cert.Kernel4Ideal.Gen.facts) := fun m ρ _ =>
  Cert.Kernel4Ideal.Gen.frame (F := Ideal) m ρ

theorem frame_reference4 : Cert.quiescent_Reference4Ideal (hReference4Ideal := Cert.Reference4Ideal.Gen.facts) := fun m ρ _ =>
  (θ_run (Cert.Reference4Ideal.defs (F := Ideal)) _ _).mono (fun _ h => ⟨fun c => (h.1 c).2.2, h.2⟩) (Cert.Reference4Ideal.Ref.run_main m ρ)

theorem algebraic4 : Cert.algebraic_Kernel4Ideal_Reference4Ideal (hKernel4Ideal := Cert.Kernel4Ideal.Gen.facts) (hReference4Ideal := Cert.Reference4Ideal.Gen.facts) := by
  intro m g m' g' _ he
  have hN (c : Dev Cert.Kernel4Ideal.nD) : Cert.Reference4Ideal.Ref.Holds (Cert.Kernel4Ideal.OutProj.nums m c)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4)) := by
    obtain ⟨e0, e1, e2, e3, e4, e5, e6⟩ := he c
    exact ⟨fun r k => congrFun e0 _, fun r k => congrFun e1 _, fun r k => congrFun e2 _, fun k n => congrFun e3 _, fun k => congrFun e4 _⟩
  refine ⟨fun c => Cert.Kernel4Ideal.OutProj.result m c, fun c => Cert.Kernel4Ideal.OutProj.resultN m c,
    (θ_run (Cert.Kernel4Ideal.defs (F := Ideal)) _ _).mono (fun _ h => h.1) (Cert.Kernel4Ideal.OutProj.run_value m g),
    (θ_run (Cert.Reference4Ideal.defs (F := Ideal)) _ _).mono (fun _ h c => ⟨(h.1 c).1.trans ?_, (h.1 c).2.1.trans ?_, (h.1 c).2.2⟩) (Cert.Reference4Ideal.Ref.run_main m' g')⟩
  · funext j
    exact (congrArg _ (ix2_eta j).symm).trans (Cert.Reference4Ideal.Ref.res0_val (hN c) (j 0) (j 1))
  · funext j
    exact (congrArg _ (ix2_eta j).symm).trans (Cert.Reference4Ideal.Ref.res1_val (hN c) (j 0) (j 1))

theorem frame_kernel5 : Cert.quiescent_Kernel5 (hKernel5 := Cert.Kernel5.Gen.facts) := fun m ρ _ =>
  letI := Cert.Kernel5.Gen.facts
  letI := Cert.Kernel5Ideal.Gen.facts
  have h := Cert.Kernel5Ideal.Gen.frame (F := Bits) m ρ
  by rw [← Cert.Same5.defs_eq, ← Cert.Same5.main_eq] at h; exact h

theorem frame_kernel5Ideal : Cert.quiescent_Kernel5Ideal (hKernel5Ideal := Cert.Kernel5Ideal.Gen.facts) := fun m ρ _ =>
  Cert.Kernel5Ideal.Gen.frame (F := Ideal) m ρ

theorem frame_reference5 : Cert.quiescent_Reference5Ideal (hReference5Ideal := Cert.Reference5Ideal.Gen.facts) := fun m ρ _ =>
  (θ_run (Cert.Reference5Ideal.defs (F := Ideal)) _ _).mono (fun _ h => ⟨fun c => (h.1 c).2, h.2⟩) (Cert.Reference5Ideal.Ref.run_main m ρ)

theorem algebraic5 : Cert.algebraic_Kernel5Ideal_Reference5Ideal (hKernel5Ideal := Cert.Kernel5Ideal.Gen.facts) (hReference5Ideal := Cert.Reference5Ideal.Gen.facts) := by
  intro m g m' g' _ he
  have hN (c : Dev Cert.Kernel5Ideal.nD) : Cert.Reference5Ideal.Ref.Holds (Cert.Kernel5Ideal.Forget.nums m c)
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1)) := by
    obtain ⟨e0, e1⟩ := he c
    exact ⟨fun p r h => (congrFun e0 _).trans (Cert.Kernel5Ideal.Forget.nums_f m c p r h).symm, fun h => congrFun e1 _⟩
  refine ⟨fun c => Cert.Kernel5Ideal.Forget.result m c,
    (θ_run (Cert.Kernel5Ideal.defs (F := Ideal)) _ _).mono (fun _ h => h.1) (Cert.Kernel5Ideal.Forget.run_value m g),
    (θ_run (Cert.Reference5Ideal.defs (F := Ideal)) _ _).mono (fun _ h c => ⟨(h.1 c).1.trans ?_, (h.1 c).2⟩) (Cert.Reference5Ideal.Ref.run_main m' g')⟩
  funext j
  exact (congrArg _ (ix4_eta j).symm).trans (Cert.Reference5Ideal.Ref.res_val (hN c) (j 0) (j 1) (j 2) (j 3))

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_tables_in_range.Gen.facts,
  frame_kernel, frame_kernelIdeal, frame_reference, frame_kernel2, frame_kernel2Ideal, frame_reference2, frame_kernel3, frame_kernel3Ideal, frame_reference3,
  frame_kernel4, frame_kernel4Ideal, frame_reference4, frame_kernel5, frame_kernel5Ideal, frame_reference5,
  trivial, algebraic, trivial, algebraic2, trivial, algebraic3, trivial, algebraic4, trivial, algebraic5⟩

end Cert.Proof

end
